-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v105) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v100) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S8192x12288 : Shape := ⟨2, ![8192, 12288]⟩
abbrev S2x2048 : Shape := ⟨2, ![2, 2048]⟩
abbrev S8192x2048 : Shape := ⟨2, ![8192, 2048]⟩
abbrev S256x2048 : Shape := ⟨2, ![256, 2048]⟩
abbrev S16x128x128 : Shape := ⟨3, ![16, 128, 128]⟩
abbrev S256x256 : Shape := ⟨2, ![256, 256]⟩
abbrev S2x128 : Shape := ⟨2, ![2, 128]⟩
abbrev S128 : Shape := ⟨1, ![128]⟩
abbrev S1x128 : Shape := ⟨2, ![1, 128]⟩
abbrev S256x128 : Shape := ⟨2, ![256, 128]⟩
abbrev S4x64x128 : Shape := ⟨3, ![4, 64, 128]⟩
abbrev S4x1x128 : Shape := ⟨3, ![4, 1, 128]⟩
abbrev S1x128x128 : Shape := ⟨3, ![1, 128, 128]⟩
abbrev S128x128 : Shape := ⟨2, ![128, 128]⟩
abbrev S64x128 : Shape := ⟨2, ![64, 128]⟩
abbrev S1x64x128 : Shape := ⟨3, ![1, 64, 128]⟩
abbrev S1x1x128 : Shape := ⟨3, ![1, 1, 128]⟩

abbrev nBuf : Space → Nat
  | .hbm => 3
  | .vmem => 10
  | .smem => 0
  | _ => 0

abbrev bufTy : (tb : Table) → Fin (tcTables nBuf tb) → BufTy
  | .hbm, ⟨0, _⟩ => ⟨S8192x12288, .f32⟩
  | .hbm, ⟨1, _⟩ => ⟨S2x2048, .f32⟩
  | .hbm, ⟨2, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2x2048, .f32⟩
  | .local _ .vmem, ⟨7, _⟩ => ⟨S256x2048, .f32⟩
  | .local _ .vmem, ⟨8, _⟩ => ⟨S256x2048, .f32⟩
  | .local _ .vmem, ⟨9, _⟩ => ⟨S16x128x128, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x12288 : Shape := ⟨2, ![8192, 12288]⟩
abbrev S2x2048 : Shape := ⟨2, ![2, 2048]⟩
abbrev S1x8192x12288 : Shape := ⟨3, ![1, 8192, 12288]⟩
abbrev S1x8192x2048 : Shape := ⟨3, ![1, 8192, 2048]⟩
abbrev S1x8192x16x128 : Shape := ⟨4, ![1, 8192, 16, 128]⟩
abbrev S_ : Shape := ⟨0, ![]⟩
abbrev S2048 : Shape := ⟨1, ![2048]⟩
abbrev S1x2048 : Shape := ⟨2, ![1, 2048]⟩
abbrev S16x128 : Shape := ⟨2, ![16, 128]⟩
abbrev S1x1x16x128 : Shape := ⟨4, ![1, 1, 16, 128]⟩
abbrev S1x128x64x16x128 : Shape := ⟨5, ![1, 128, 64, 16, 128]⟩
abbrev S1x128x1x16x128 : Shape := ⟨5, ![1, 128, 1, 16, 128]⟩
abbrev S1x128x16x128 : Shape := ⟨4, ![1, 128, 16, 128]⟩
abbrev S64x64 : Shape := ⟨2, ![64, 64]⟩
abbrev S1x128x16x64x64 : Shape := ⟨5, ![1, 128, 16, 64, 64]⟩
abbrev S1x128x16x128x64 : Shape := ⟨5, ![1, 128, 16, 128, 64]⟩
abbrev S1x128x16x128x128 : Shape := ⟨5, ![1, 128, 16, 128, 128]⟩
abbrev S128x1x64x16x128 : Shape := ⟨5, ![128, 1, 64, 16, 128]⟩
abbrev S1x16x128x128 : Shape := ⟨4, ![1, 16, 128, 128]⟩
abbrev S128x1x16x128 : Shape := ⟨4, ![128, 1, 16, 128]⟩
abbrev S128x1x16x128x128 : Shape := ⟨5, ![128, 1, 16, 128, 128]⟩
abbrev S1x16x128 : Shape := ⟨3, ![1, 16, 128]⟩
abbrev S1x1x16x128x128 : Shape := ⟨5, ![1, 1, 16, 128, 128]⟩
abbrev S1x1x64x16x128 : Shape := ⟨5, ![1, 1, 64, 16, 128]⟩
abbrev S1x64x16x128 : Shape := ⟨4, ![1, 64, 16, 128]⟩
abbrev S1x16x128x1 : Shape := ⟨4, ![1, 16, 128, 1]⟩
abbrev S1x16x128x64 : Shape := ⟨4, ![1, 16, 128, 64]⟩
abbrev S8192x2048 : Shape := ⟨2, ![8192, 2048]⟩

abbrev nBuf : Space → Nat
  | .hbm => 161
  | .vmem => 0
  | .smem => 0
  | _ => 0

abbrev hbmTy0_0 (i : Nat) : BufTy := match i % 128 with
  | 0 => ⟨S8192x12288, .f32⟩
  | 1 => ⟨S2x2048, .f32⟩
  | 2 => ⟨S1x8192x12288, .f32⟩
  | 3 => ⟨S1x8192x2048, .f32⟩
  | 4 => ⟨S1x8192x2048, .f32⟩
  | 5 => ⟨S1x8192x2048, .f32⟩
  | 6 => ⟨S1x8192x2048, .f32⟩
  | 7 => ⟨S1x8192x2048, .f32⟩
  | 8 => ⟨S1x8192x2048, .f32⟩
  | 9 => ⟨S1x8192x16x128, .f32⟩
  | 10 => ⟨S1x8192x16x128, .f32⟩
  | 11 => ⟨S1x8192x16x128, .f32⟩
  | 12 => ⟨S_, .f32⟩
  | 13 => ⟨S1x8192x16x128, .f32⟩
  | 14 => ⟨S1x8192x16x128, .f32⟩
  | 15 => ⟨S_, .f32⟩
  | 16 => ⟨S1x8192x16x128, .f32⟩
  | 17 => ⟨S1x8192x16x128, .f32⟩
  | 18 => ⟨S1x8192x16x128, .f32⟩
  | 19 => ⟨S1x8192x16x128, .f32⟩
  | 20 => ⟨S1x8192x16x128, .f32⟩
  | 21 => ⟨S_, .f32⟩
  | 22 => ⟨S2048, .f32⟩
  | 23 => ⟨S_, .f32⟩
  | 24 => ⟨S2048, .f32⟩
  | 25 => ⟨S2048, .f32⟩
  | 26 => ⟨S1x2048, .f32⟩
  | 27 => ⟨S2x2048, .f32⟩
  | 28 => ⟨S2x2048, .f32⟩
  | 29 => ⟨S2x2048, .f32⟩
  | 30 => ⟨S_, .f32⟩
  | 31 => ⟨S2048, .f32⟩
  | 32 => ⟨S1x2048, .f32⟩
  | 33 => ⟨S2x2048, .f32⟩
  | 34 => ⟨S2x2048, .f32⟩
  | 35 => ⟨S_, .f32⟩
  | 36 => ⟨S_, .f32⟩
  | 37 => ⟨S2x2048, .f32⟩
  | 38 => ⟨S1x2048, .f32⟩
  | 39 => ⟨S2048, .f32⟩
  | 40 => ⟨S16x128, .f32⟩
  | 41 => ⟨S_, .f32⟩
  | 42 => ⟨S16x128, .f32⟩
  | 43 => ⟨S16x128, .f32⟩
  | 44 => ⟨S1x8192x16x128, .f32⟩
  | 45 => ⟨S1x8192x16x128, .f32⟩
  | 46 => ⟨S_, .f32⟩
  | 47 => ⟨S1x8192x16x128, .f32⟩
  | 48 => ⟨S1x8192x16x128, .f32⟩
  | 49 => ⟨S_, .f32⟩
  | 50 => ⟨S1x8192x16x128, .f32⟩
  | 51 => ⟨S1x8192x16x128, .f32⟩
  | 52 => ⟨S1x1x16x128, .f32⟩
  | 53 => ⟨S1x8192x16x128, .f32⟩
  | 54 => ⟨S1x8192x16x128, .f32⟩
  | 55 => ⟨S1x1x16x128, .f32⟩
  | 56 => ⟨S1x8192x16x128, .f32⟩
  | 57 => ⟨S1x8192x16x128, .f32⟩
  | 58 => ⟨S1x8192x16x128, .f32⟩
  | 59 => ⟨S_, .f32⟩
  | 60 => ⟨S1x8192x16x128, .f32⟩
  | 61 => ⟨S1x8192x16x128, .f32⟩
  | 62 => ⟨S1x128x64x16x128, .f32⟩
  | 63 => ⟨S1x128x64x16x128, .f32⟩
  | 64 => ⟨S1x128x64x16x128, .f32⟩
  | 65 => ⟨S1x128x64x16x128, .f32⟩
  | 66 => ⟨S_, .f32⟩
  | 67 => ⟨S_, .f32⟩
  | 68 => ⟨S1x128x64x16x128, .f32⟩
  | 69 => ⟨S1x128x1x16x128, .f32⟩
  | 70 => ⟨S1x128x16x128, .f32⟩
  | 71 => ⟨S1x128x64x16x128, .f32⟩
  | 72 => ⟨S1x128x64x16x128, .f32⟩
  | 73 => ⟨S1x128x64x16x128, .f32⟩
  | 74 => ⟨S1x128x64x16x128, .f32⟩
  | 75 => ⟨S1x128x64x16x128, .f32⟩
  | 76 => ⟨S_, .i1⟩
  | 77 => ⟨S64x64, .i1⟩
  | 78 => ⟨S64x64, .i32⟩
  | 79 => ⟨S_, .i32⟩
  | 80 => ⟨S64x64, .i32⟩
  | 81 => ⟨S64x64, .i32⟩
  | 82 => ⟨S64x64, .i32⟩
  | 83 => ⟨S64x64, .i1⟩
  | 84 => ⟨S_, .i1⟩
  | 85 => ⟨S64x64, .i1⟩
  | 86 => ⟨S64x64, .i1⟩
  | 87 => ⟨S1x128x16x64x64, .f32⟩
  | 88 => ⟨S_, .f32⟩
  | 89 => ⟨S_, .f32⟩
  | 90 => ⟨S1x128x16x64x64, .i1⟩
  | 91 => ⟨S1x128x16x64x64, .f32⟩
  | 92 => ⟨S1x128x16x64x64, .f32⟩
  | 93 => ⟨S1x128x16x128x64, .f32⟩
  | 94 => ⟨S1x128x64x16x128, .f32⟩
  | 95 => ⟨S1x128x1x16x128, .f32⟩
  | 96 => ⟨S1x128x64x16x128, .f32⟩
  | 97 => ⟨S1x128x64x16x128, .f32⟩
  | 98 => ⟨S1x128x64x16x128, .f32⟩
  | 99 => ⟨S1x128x64x16x128, .f32⟩
  | 100 => ⟨S1x128x16x128x128, .f32⟩
  | 101 => ⟨S1x128x16x128, .f32⟩
  | 102 => ⟨S128x1x64x16x128, .f32⟩
  | 103 => ⟨S128x1x64x16x128, .f32⟩
  | 104 => ⟨S_, .f32⟩
  | 105 => ⟨S1x16x128x128, .f32⟩
  | 106 => ⟨S128x1x16x128, .f32⟩
  | 107 => ⟨S128x1x16x128x128, .f32⟩
  | 108 => ⟨S_, .f32⟩
  | 109 => ⟨S128x1x64x16x128, .f32⟩
  | 110 => ⟨S_, .i32⟩
  | 111 => ⟨S128x1x16x128, .f32⟩
  | 112 => ⟨S128x1x16x128x128, .f32⟩
  | 113 => ⟨S128x1x64x16x128, .f32⟩
  | 114 => ⟨S128x1x64x16x128, .f32⟩
  | 115 => ⟨S_, .i32⟩
  | 116 => ⟨S1x16x128x128, .f32⟩
  | 117 => ⟨S128x1x64x16x128, .f32⟩
  | 118 => ⟨S_, .i32⟩
  | 119 => ⟨S_, .i1⟩
  | 120 => ⟨S_, .i32⟩
  | 121 => ⟨S_, .i32⟩
  | 122 => ⟨S_, .i32⟩
  | 123 => ⟨S1x1x16x128, .f32⟩
  | 124 => ⟨S1x16x128, .f32⟩
  | 125 => ⟨S_, .i32⟩
  | 126 => ⟨S_, .i32⟩
  | 127 => ⟨S_, .i32⟩
  | _ => ⟨S8192x12288, .f32⟩

abbrev hbmTy0_1 (i : Nat) : BufTy := match i % 128 with
  | 0 => ⟨S_, .i32⟩
  | 1 => ⟨S1x1x16x128x128, .f32⟩
  | 2 => ⟨S1x16x128x128, .f32⟩
  | 3 => ⟨S_, .i32⟩
  | 4 => ⟨S_, .i32⟩
  | 5 => ⟨S_, .i32⟩
  | 6 => ⟨S_, .i32⟩
  | 7 => ⟨S1x1x64x16x128, .f32⟩
  | 8 => ⟨S1x64x16x128, .f32⟩
  | 9 => ⟨S_, .i32⟩
  | 10 => ⟨S_, .i32⟩
  | 11 => ⟨S_, .i32⟩
  | 12 => ⟨S_, .i32⟩
  | 13 => ⟨S1x1x64x16x128, .f32⟩
  | 14 => ⟨S1x64x16x128, .f32⟩
  | 15 => ⟨S1x16x128x1, .f32⟩
  | 16 => ⟨S1x16x128x128, .f32⟩
  | 17 => ⟨S1x16x128x128, .f32⟩
  | 18 => ⟨S1x16x128x128, .f32⟩
  | 19 => ⟨S1x16x128x64, .f32⟩
  | 20 => ⟨S1x64x16x128, .f32⟩
  | 21 => ⟨S1x64x16x128, .f32⟩
  | 22 => ⟨S1x1x64x16x128, .f32⟩
  | 23 => ⟨S_, .i32⟩
  | 24 => ⟨S_, .i32⟩
  | 25 => ⟨S_, .i32⟩
  | 26 => ⟨S_, .i32⟩
  | 27 => ⟨S128x1x64x16x128, .f32⟩
  | 28 => ⟨S_, .i32⟩
  | 29 => ⟨S_, .i32⟩
  | 30 => ⟨S1x128x64x16x128, .f32⟩
  | 31 => ⟨S1x8192x16x128, .f32⟩
  | 32 => ⟨S8192x2048, .f32⟩
  | _ => ⟨S8192x12288, .f32⟩

abbrev hbmTy (i : Nat) : BufTy := match i / 128 with
  | 0 => hbmTy0_0 i
  | 1 => hbmTy0_1 i
  | _ => ⟨S8192x12288, .f32⟩

abbrev bufTy : (tb : Table) → Fin (tcTables nBuf tb) → BufTy
  | .hbm, ⟨i, _⟩ => hbmTy i
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_call0_cst : Ref sig .tc := ⟨.hbm, 35, rfl⟩
abbrev main_call1_call0_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call2_call0_cst : Ref sig .tc := ⟨.hbm, 66, rfl⟩
abbrev main_call2_call0_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_v55 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_0 : Ref sig .tc := ⟨.hbm, 84, rfl⟩
abbrev main_call3_v5 : Ref sig .tc := ⟨.hbm, 85, rfl⟩
abbrev main_v56 : Ref sig .tc := ⟨.hbm, 86, rfl⟩
abbrev main_v57 : Ref sig .tc := ⟨.hbm, 87, rfl⟩
abbrev main_cst_6 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_7 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_8 : Ref sig .tc := ⟨.hbm, 108, rfl⟩
abbrev main_v73 : Ref sig .tc := ⟨.hbm, 109, rfl⟩
abbrev main_c_9 : Ref sig .tc := ⟨.hbm, 110, rfl⟩
abbrev main_v74_0 : Ref sig .tc := ⟨.hbm, 111, rfl⟩
abbrev main_v74_1 : Ref sig .tc := ⟨.hbm, 112, rfl⟩
abbrev main_v74_2 : Ref sig .tc := ⟨.hbm, 113, rfl⟩
abbrev main_v74_3 : Ref sig .tc := ⟨.hbm, 114, rfl⟩
abbrev main_v74_4 : Ref sig .tc := ⟨.hbm, 115, rfl⟩
abbrev main_v74_5 : Ref sig .tc := ⟨.hbm, 116, rfl⟩
abbrev main_v74_6 : Ref sig .tc := ⟨.hbm, 117, rfl⟩
abbrev main_while0c_c_16 : Ref sig .tc := ⟨.hbm, 118, rfl⟩
abbrev main_while0c_v78 : Ref sig .tc := ⟨.hbm, 119, rfl⟩
abbrev main_while0b_call5_c : Ref sig .tc := ⟨.hbm, 120, rfl⟩
abbrev main_while0b_call5_c_0 : Ref sig .tc := ⟨.hbm, 121, rfl⟩
abbrev main_while0b_call5_c_1 : Ref sig .tc := ⟨.hbm, 122, rfl⟩
abbrev main_while0b_call5_v0 : Ref sig .tc := ⟨.hbm, 123, rfl⟩
abbrev main_while0b_v78 : Ref sig .tc := ⟨.hbm, 124, rfl⟩
abbrev main_while0b_call6_c : Ref sig .tc := ⟨.hbm, 125, rfl⟩
abbrev main_while0b_call6_c_0 : Ref sig .tc := ⟨.hbm, 126, rfl⟩
abbrev main_while0b_call6_c_1 : Ref sig .tc := ⟨.hbm, 127, rfl⟩
abbrev main_while0b_call6_c_2 : Ref sig .tc := ⟨.hbm, 128, rfl⟩
abbrev main_while0b_call6_v0 : Ref sig .tc := ⟨.hbm, 129, rfl⟩
abbrev main_while0b_v79 : Ref sig .tc := ⟨.hbm, 130, rfl⟩
abbrev main_while0b_call7_c : Ref sig .tc := ⟨.hbm, 131, rfl⟩
abbrev main_while0b_call7_c_0 : Ref sig .tc := ⟨.hbm, 132, rfl⟩
abbrev main_while0b_call7_c_1 : Ref sig .tc := ⟨.hbm, 133, rfl⟩
abbrev main_while0b_call7_c_2 : Ref sig .tc := ⟨.hbm, 134, rfl⟩
abbrev main_while0b_call7_v0 : Ref sig .tc := ⟨.hbm, 135, rfl⟩
abbrev main_while0b_v80 : Ref sig .tc := ⟨.hbm, 136, rfl⟩
abbrev main_while0b_call8_c : Ref sig .tc := ⟨.hbm, 137, rfl⟩
abbrev main_while0b_call8_c_0 : Ref sig .tc := ⟨.hbm, 138, rfl⟩
abbrev main_while0b_call8_c_1 : Ref sig .tc := ⟨.hbm, 139, rfl⟩
abbrev main_while0b_call8_c_2 : Ref sig .tc := ⟨.hbm, 140, rfl⟩
abbrev main_while0b_call8_v0 : Ref sig .tc := ⟨.hbm, 141, rfl⟩
abbrev main_while0b_v81 : Ref sig .tc := ⟨.hbm, 142, rfl⟩
abbrev main_while0b_v82 : Ref sig .tc := ⟨.hbm, 143, rfl⟩
abbrev main_while0b_v83 : Ref sig .tc := ⟨.hbm, 144, rfl⟩
abbrev main_while0b_v84 : Ref sig .tc := ⟨.hbm, 145, rfl⟩
abbrev main_while0b_v85 : Ref sig .tc := ⟨.hbm, 146, rfl⟩
abbrev main_while0b_v86 : Ref sig .tc := ⟨.hbm, 147, rfl⟩
abbrev main_while0b_v87 : Ref sig .tc := ⟨.hbm, 148, rfl⟩
abbrev main_while0b_v88 : Ref sig .tc := ⟨.hbm, 149, rfl⟩
abbrev main_while0b_call9_v0 : Ref sig .tc := ⟨.hbm, 150, rfl⟩
abbrev main_while0b_call9_c : Ref sig .tc := ⟨.hbm, 151, rfl⟩
abbrev main_while0b_call9_c_0 : Ref sig .tc := ⟨.hbm, 152, rfl⟩
abbrev main_while0b_call9_c_1 : Ref sig .tc := ⟨.hbm, 153, rfl⟩
abbrev main_while0b_call9_c_2 : Ref sig .tc := ⟨.hbm, 154, rfl⟩
abbrev main_while0b_v89 : Ref sig .tc := ⟨.hbm, 155, rfl⟩
abbrev main_while0b_c_16 : Ref sig .tc := ⟨.hbm, 156, rfl⟩
abbrev main_while0b_v90 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x12288 : Shape := ⟨2, ![8192, 12288]⟩
abbrev S8192x2048 : Shape := ⟨2, ![8192, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S16x128x128 : Shape := ⟨3, ![16, 128, 128]⟩
abbrev S256x256 : Shape := ⟨2, ![256, 256]⟩
abbrev S2x128 : Shape := ⟨2, ![2, 128]⟩
abbrev S128 : Shape := ⟨1, ![128]⟩
abbrev S1x128 : Shape := ⟨2, ![1, 128]⟩
abbrev S256x128 : Shape := ⟨2, ![256, 128]⟩
abbrev S4x64x128 : Shape := ⟨3, ![4, 64, 128]⟩
abbrev S4x1x128 : Shape := ⟨3, ![4, 1, 128]⟩
abbrev S1x128x128 : Shape := ⟨3, ![1, 128, 128]⟩
abbrev S128x128 : Shape := ⟨2, ![128, 128]⟩
abbrev S64x128 : Shape := ⟨2, ![64, 128]⟩
abbrev S1x64x128 : Shape := ⟨3, ![1, 64, 128]⟩
abbrev S1x1x128 : Shape := ⟨3, ![1, 1, 128]⟩
abbrev S256 : Shape := ⟨1, ![256]⟩
abbrev S256x1 : Shape := ⟨2, ![256, 1]⟩

abbrev nBuf : Space → Nat
  | .hbm => 7
  | .vmem => 15
  | .smem => 0
  | _ => 0

abbrev bufTy : (tb : Table) → Fin (tcTables nBuf tb) → BufTy
  | .hbm, ⟨0, _⟩ => ⟨S8192x12288, .f32⟩
  | .hbm, ⟨1, _⟩ => ⟨S8192x2048, .f32⟩
  | .hbm, ⟨2, _⟩ => ⟨S2x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S2x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S16x128x128, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8192x12288 : Shape := ⟨2, ![8192, 12288]⟩
abbrev S8192x2048 : Shape := ⟨2, ![8192, 2048]⟩
abbrev S2x2048 : Shape := ⟨2, ![2, 2048]⟩
abbrev S1x2048 : Shape := ⟨2, ![1, 2048]⟩
abbrev S1x8192x12288 : Shape := ⟨3, ![1, 8192, 12288]⟩
abbrev S1x8192x2048 : Shape := ⟨3, ![1, 8192, 2048]⟩
abbrev S1x8192x16x128 : Shape := ⟨4, ![1, 8192, 16, 128]⟩
abbrev S_ : Shape := ⟨0, ![]⟩
abbrev S2048 : Shape := ⟨1, ![2048]⟩
abbrev S16x128 : Shape := ⟨2, ![16, 128]⟩
abbrev S1x1x16x128 : Shape := ⟨4, ![1, 1, 16, 128]⟩
abbrev S1x128x64x16x128 : Shape := ⟨5, ![1, 128, 64, 16, 128]⟩
abbrev S1x128x1x16x128 : Shape := ⟨5, ![1, 128, 1, 16, 128]⟩
abbrev S1x128x16x128 : Shape := ⟨4, ![1, 128, 16, 128]⟩
abbrev S64x64 : Shape := ⟨2, ![64, 64]⟩
abbrev S1x128x16x64x64 : Shape := ⟨5, ![1, 128, 16, 64, 64]⟩
abbrev S1x128x16x128x64 : Shape := ⟨5, ![1, 128, 16, 128, 64]⟩
abbrev S1x128x16x128x128 : Shape := ⟨5, ![1, 128, 16, 128, 128]⟩
abbrev S128x1x64x16x128 : Shape := ⟨5, ![128, 1, 64, 16, 128]⟩
abbrev S1x16x128x128 : Shape := ⟨4, ![1, 16, 128, 128]⟩
abbrev S128x1x16x128 : Shape := ⟨4, ![128, 1, 16, 128]⟩
abbrev S128x1x16x128x128 : Shape := ⟨5, ![128, 1, 16, 128, 128]⟩
abbrev S1x16x128 : Shape := ⟨3, ![1, 16, 128]⟩
abbrev S1x1x16x128x128 : Shape := ⟨5, ![1, 1, 16, 128, 128]⟩
abbrev S1x1x64x16x128 : Shape := ⟨5, ![1, 1, 64, 16, 128]⟩
abbrev S1x64x16x128 : Shape := ⟨4, ![1, 64, 16, 128]⟩
abbrev S1x16x128x1 : Shape := ⟨4, ![1, 16, 128, 1]⟩
abbrev S1x16x128x64 : Shape := ⟨4, ![1, 16, 128, 64]⟩
abbrev S1x8192x16 : Shape := ⟨3, ![1, 8192, 16]⟩
abbrev S1x8192x16x1 : Shape := ⟨4, ![1, 8192, 16, 1]⟩
abbrev S1x8192x10240 : Shape := ⟨3, ![1, 8192, 10240]⟩

abbrev nBuf : Space → Nat
  | .hbm => 202
  | .vmem => 0
  | .smem => 0
  | _ => 0

abbrev hbmTy0_0 (i : Nat) : BufTy := match i % 128 with
  | 0 => ⟨S8192x12288, .f32⟩
  | 1 => ⟨S8192x2048, .f32⟩
  | 2 => ⟨S2x2048, .f32⟩
  | 3 => ⟨S1x2048, .f32⟩
  | 4 => ⟨S1x8192x12288, .f32⟩
  | 5 => ⟨S1x8192x2048, .f32⟩
  | 6 => ⟨S1x8192x2048, .f32⟩
  | 7 => ⟨S1x8192x2048, .f32⟩
  | 8 => ⟨S1x8192x2048, .f32⟩
  | 9 => ⟨S1x8192x2048, .f32⟩
  | 10 => ⟨S1x8192x2048, .f32⟩
  | 11 => ⟨S1x8192x16x128, .f32⟩
  | 12 => ⟨S1x8192x16x128, .f32⟩
  | 13 => ⟨S1x8192x16x128, .f32⟩
  | 14 => ⟨S_, .f32⟩
  | 15 => ⟨S1x8192x16x128, .f32⟩
  | 16 => ⟨S1x8192x16x128, .f32⟩
  | 17 => ⟨S_, .f32⟩
  | 18 => ⟨S1x8192x16x128, .f32⟩
  | 19 => ⟨S1x8192x16x128, .f32⟩
  | 20 => ⟨S1x8192x16x128, .f32⟩
  | 21 => ⟨S1x8192x16x128, .f32⟩
  | 22 => ⟨S1x8192x16x128, .f32⟩
  | 23 => ⟨S1x8192x16x128, .f32⟩
  | 24 => ⟨S1x8192x16x128, .f32⟩
  | 25 => ⟨S1x8192x16x128, .f32⟩
  | 26 => ⟨S_, .f32⟩
  | 27 => ⟨S2048, .f32⟩
  | 28 => ⟨S_, .f32⟩
  | 29 => ⟨S2048, .f32⟩
  | 30 => ⟨S2048, .f32⟩
  | 31 => ⟨S1x2048, .f32⟩
  | 32 => ⟨S2x2048, .f32⟩
  | 33 => ⟨S2x2048, .f32⟩
  | 34 => ⟨S2x2048, .f32⟩
  | 35 => ⟨S_, .f32⟩
  | 36 => ⟨S2048, .f32⟩
  | 37 => ⟨S1x2048, .f32⟩
  | 38 => ⟨S2x2048, .f32⟩
  | 39 => ⟨S2x2048, .f32⟩
  | 40 => ⟨S_, .f32⟩
  | 41 => ⟨S_, .f32⟩
  | 42 => ⟨S2x2048, .f32⟩
  | 43 => ⟨S1x2048, .f32⟩
  | 44 => ⟨S2048, .f32⟩
  | 45 => ⟨S16x128, .f32⟩
  | 46 => ⟨S_, .f32⟩
  | 47 => ⟨S16x128, .f32⟩
  | 48 => ⟨S16x128, .f32⟩
  | 49 => ⟨S1x8192x16x128, .f32⟩
  | 50 => ⟨S1x8192x16x128, .f32⟩
  | 51 => ⟨S_, .f32⟩
  | 52 => ⟨S1x8192x16x128, .f32⟩
  | 53 => ⟨S1x8192x16x128, .f32⟩
  | 54 => ⟨S_, .f32⟩
  | 55 => ⟨S1x8192x16x128, .f32⟩
  | 56 => ⟨S1x8192x16x128, .f32⟩
  | 57 => ⟨S1x1x16x128, .f32⟩
  | 58 => ⟨S1x8192x16x128, .f32⟩
  | 59 => ⟨S1x8192x16x128, .f32⟩
  | 60 => ⟨S1x1x16x128, .f32⟩
  | 61 => ⟨S1x8192x16x128, .f32⟩
  | 62 => ⟨S1x8192x16x128, .f32⟩
  | 63 => ⟨S1x8192x16x128, .f32⟩
  | 64 => ⟨S_, .f32⟩
  | 65 => ⟨S1x8192x16x128, .f32⟩
  | 66 => ⟨S1x8192x16x128, .f32⟩
  | 67 => ⟨S1x128x64x16x128, .f32⟩
  | 68 => ⟨S1x128x64x16x128, .f32⟩
  | 69 => ⟨S1x128x64x16x128, .f32⟩
  | 70 => ⟨S1x128x64x16x128, .f32⟩
  | 71 => ⟨S_, .f32⟩
  | 72 => ⟨S_, .f32⟩
  | 73 => ⟨S1x128x64x16x128, .f32⟩
  | 74 => ⟨S1x128x1x16x128, .f32⟩
  | 75 => ⟨S1x128x16x128, .f32⟩
  | 76 => ⟨S1x128x64x16x128, .f32⟩
  | 77 => ⟨S1x128x64x16x128, .f32⟩
  | 78 => ⟨S1x128x64x16x128, .f32⟩
  | 79 => ⟨S1x128x64x16x128, .f32⟩
  | 80 => ⟨S1x128x64x16x128, .f32⟩
  | 81 => ⟨S_, .i1⟩
  | 82 => ⟨S64x64, .i1⟩
  | 83 => ⟨S64x64, .i32⟩
  | 84 => ⟨S_, .i32⟩
  | 85 => ⟨S64x64, .i32⟩
  | 86 => ⟨S64x64, .i32⟩
  | 87 => ⟨S64x64, .i32⟩
  | 88 => ⟨S64x64, .i1⟩
  | 89 => ⟨S_, .i1⟩
  | 90 => ⟨S64x64, .i1⟩
  | 91 => ⟨S64x64, .i1⟩
  | 92 => ⟨S1x128x16x64x64, .f32⟩
  | 93 => ⟨S_, .f32⟩
  | 94 => ⟨S_, .f32⟩
  | 95 => ⟨S1x128x16x64x64, .i1⟩
  | 96 => ⟨S1x128x16x64x64, .f32⟩
  | 97 => ⟨S1x128x16x64x64, .f32⟩
  | 98 => ⟨S1x128x16x128x64, .f32⟩
  | 99 => ⟨S1x128x64x16x128, .f32⟩
  | 100 => ⟨S1x128x1x16x128, .f32⟩
  | 101 => ⟨S1x128x64x16x128, .f32⟩
  | 102 => ⟨S1x128x64x16x128, .f32⟩
  | 103 => ⟨S1x128x64x16x128, .f32⟩
  | 104 => ⟨S1x128x64x16x128, .f32⟩
  | 105 => ⟨S1x128x16x128x128, .f32⟩
  | 106 => ⟨S1x128x16x128, .f32⟩
  | 107 => ⟨S128x1x64x16x128, .f32⟩
  | 108 => ⟨S128x1x64x16x128, .f32⟩
  | 109 => ⟨S_, .f32⟩
  | 110 => ⟨S1x16x128x128, .f32⟩
  | 111 => ⟨S128x1x16x128, .f32⟩
  | 112 => ⟨S128x1x16x128x128, .f32⟩
  | 113 => ⟨S_, .f32⟩
  | 114 => ⟨S128x1x64x16x128, .f32⟩
  | 115 => ⟨S_, .i32⟩
  | 116 => ⟨S128x1x16x128, .f32⟩
  | 117 => ⟨S128x1x16x128x128, .f32⟩
  | 118 => ⟨S128x1x64x16x128, .f32⟩
  | 119 => ⟨S128x1x64x16x128, .f32⟩
  | 120 => ⟨S_, .i32⟩
  | 121 => ⟨S1x16x128x128, .f32⟩
  | 122 => ⟨S128x1x64x16x128, .f32⟩
  | 123 => ⟨S_, .i32⟩
  | 124 => ⟨S_, .i1⟩
  | 125 => ⟨S_, .i32⟩
  | 126 => ⟨S_, .i32⟩
  | 127 => ⟨S_, .i32⟩
  | _ => ⟨S8192x12288, .f32⟩

abbrev hbmTy0_1 (i : Nat) : BufTy := match i % 128 with
  | 0 => ⟨S1x1x16x128, .f32⟩
  | 1 => ⟨S1x16x128, .f32⟩
  | 2 => ⟨S_, .i32⟩
  | 3 => ⟨S_, .i32⟩
  | 4 => ⟨S_, .i32⟩
  | 5 => ⟨S_, .i32⟩
  | 6 => ⟨S1x1x16x128x128, .f32⟩
  | 7 => ⟨S1x16x128x128, .f32⟩
  | 8 => ⟨S_, .i32⟩
  | 9 => ⟨S_, .i32⟩
  | 10 => ⟨S_, .i32⟩
  | 11 => ⟨S_, .i32⟩
  | 12 => ⟨S1x1x64x16x128, .f32⟩
  | 13 => ⟨S1x64x16x128, .f32⟩
  | 14 => ⟨S_, .i32⟩
  | 15 => ⟨S_, .i32⟩
  | 16 => ⟨S_, .i32⟩
  | 17 => ⟨S_, .i32⟩
  | 18 => ⟨S1x1x64x16x128, .f32⟩
  | 19 => ⟨S1x64x16x128, .f32⟩
  | 20 => ⟨S1x16x128x1, .f32⟩
  | 21 => ⟨S1x16x128x128, .f32⟩
  | 22 => ⟨S1x16x128x128, .f32⟩
  | 23 => ⟨S1x16x128x128, .f32⟩
  | 24 => ⟨S1x16x128x64, .f32⟩
  | 25 => ⟨S1x64x16x128, .f32⟩
  | 26 => ⟨S1x64x16x128, .f32⟩
  | 27 => ⟨S1x1x64x16x128, .f32⟩
  | 28 => ⟨S_, .i32⟩
  | 29 => ⟨S_, .i32⟩
  | 30 => ⟨S_, .i32⟩
  | 31 => ⟨S_, .i32⟩
  | 32 => ⟨S128x1x64x16x128, .f32⟩
  | 33 => ⟨S_, .i32⟩
  | 34 => ⟨S_, .i32⟩
  | 35 => ⟨S1x128x64x16x128, .f32⟩
  | 36 => ⟨S1x8192x16x128, .f32⟩
  | 37 => ⟨S1x8192x16x128, .f32⟩
  | 38 => ⟨S1x8192x16x128, .f32⟩
  | 39 => ⟨S1x8192x16x128, .f32⟩
  | 40 => ⟨S1x8192x16x128, .f32⟩
  | 41 => ⟨S_, .f32⟩
  | 42 => ⟨S1x8192x16, .f32⟩
  | 43 => ⟨S1x8192x16x1, .f32⟩
  | 44 => ⟨S_, .f32⟩
  | 45 => ⟨S1x8192x16x1, .f32⟩
  | 46 => ⟨S1x8192x16x1, .f32⟩
  | 47 => ⟨S_, .f32⟩
  | 48 => ⟨S1x8192x16x1, .f32⟩
  | 49 => ⟨S1x8192x16x1, .f32⟩
  | 50 => ⟨S1x8192x16x1, .f32⟩
  | 51 => ⟨S1x8192x16x128, .f32⟩
  | 52 => ⟨S1x8192x16x128, .f32⟩
  | 53 => ⟨S2048, .f32⟩
  | 54 => ⟨S16x128, .f32⟩
  | 55 => ⟨S1x1x16x128, .f32⟩
  | 56 => ⟨S1x8192x16x128, .f32⟩
  | 57 => ⟨S1x8192x16x128, .f32⟩
  | 58 => ⟨S1x8192x12288, .f32⟩
  | 59 => ⟨S1x8192x10240, .f32⟩
  | 60 => ⟨S1x8192x2048, .f32⟩
  | 61 => ⟨S1x8192x2048, .f32⟩
  | 62 => ⟨S1x8192x2048, .f32⟩
  | 63 => ⟨S1x8192x2048, .f32⟩
  | 64 => ⟨S_, .f32⟩
  | 65 => ⟨S1x8192x2048, .f32⟩
  | 66 => ⟨S1x8192x2048, .f32⟩
  | 67 => ⟨S_, .f32⟩
  | 68 => ⟨S1x8192x2048, .f32⟩
  | 69 => ⟨S1x8192x2048, .f32⟩
  | 70 => ⟨S1x8192x2048, .f32⟩
  | 71 => ⟨S1x8192x2048, .f32⟩
  | 72 => ⟨S8192x2048, .f32⟩
  | 73 => ⟨S8192x2048, .bf16⟩
  | _ => ⟨S8192x12288, .f32⟩

abbrev hbmTy (i : Nat) : BufTy := match i / 128 with
  | 0 => hbmTy0_0 i
  | 1 => hbmTy0_1 i
  | _ => ⟨S8192x12288, .f32⟩

abbrev bufTy : (tb : Table) → Fin (tcTables nBuf tb) → BufTy
  | .hbm, ⟨i, _⟩ => hbmTy i
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call4_call0_cst : Ref sig .tc := ⟨.hbm, 40, rfl⟩
abbrev main_call4_call0_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call5_call0_cst : Ref sig .tc := ⟨.hbm, 71, rfl⟩
abbrev main_call5_call0_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c : Ref sig .tc := ⟨.hbm, 81, rfl⟩
abbrev main_v58 : Ref sig .tc := ⟨.hbm, 82, rfl⟩
abbrev main_call6_v0 : Ref sig .tc := ⟨.hbm, 83, rfl⟩
abbrev main_call6_c : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_c_0 : Ref sig .tc := ⟨.hbm, 89, rfl⟩
abbrev main_call6_v5 : Ref sig .tc := ⟨.hbm, 90, rfl⟩
abbrev main_v59 : Ref sig .tc := ⟨.hbm, 91, rfl⟩
abbrev main_v60 : Ref sig .tc := ⟨.hbm, 92, rfl⟩
abbrev main_cst_6 : Ref sig .tc := ⟨.hbm, 93, rfl⟩
abbrev main_call7_v0 : Ref sig .tc := ⟨.hbm, 94, rfl⟩
abbrev main_call7_v1 : Ref sig .tc := ⟨.hbm, 95, rfl⟩
abbrev main_call7_v2 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_7 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_8 : Ref sig .tc := ⟨.hbm, 113, rfl⟩
abbrev main_v76 : Ref sig .tc := ⟨.hbm, 114, rfl⟩
abbrev main_c_9 : Ref sig .tc := ⟨.hbm, 115, rfl⟩
abbrev main_v77_0 : Ref sig .tc := ⟨.hbm, 116, rfl⟩
abbrev main_v77_1 : Ref sig .tc := ⟨.hbm, 117, rfl⟩
abbrev main_v77_2 : Ref sig .tc := ⟨.hbm, 118, rfl⟩
abbrev main_v77_3 : Ref sig .tc := ⟨.hbm, 119, rfl⟩
abbrev main_v77_4 : Ref sig .tc := ⟨.hbm, 120, rfl⟩
abbrev main_v77_5 : Ref sig .tc := ⟨.hbm, 121, rfl⟩
abbrev main_v77_6 : Ref sig .tc := ⟨.hbm, 122, rfl⟩
abbrev main_while0c_c_19 : Ref sig .tc := ⟨.hbm, 123, rfl⟩
abbrev main_while0c_v106 : Ref sig .tc := ⟨.hbm, 124, rfl⟩
abbrev main_while0b_call8_c : Ref sig .tc := ⟨.hbm, 125, rfl⟩
abbrev main_while0b_call8_c_0 : Ref sig .tc := ⟨.hbm, 126, rfl⟩
abbrev main_while0b_call8_c_1 : Ref sig .tc := ⟨.hbm, 127, rfl⟩
abbrev main_while0b_call8_v0 : Ref sig .tc := ⟨.hbm, 128, rfl⟩
abbrev main_while0b_v106 : Ref sig .tc := ⟨.hbm, 129, rfl⟩
abbrev main_while0b_call9_c : Ref sig .tc := ⟨.hbm, 130, rfl⟩
abbrev main_while0b_call9_c_0 : Ref sig .tc := ⟨.hbm, 131, rfl⟩
abbrev main_while0b_call9_c_1 : Ref sig .tc := ⟨.hbm, 132, rfl⟩
abbrev main_while0b_call9_c_2 : Ref sig .tc := ⟨.hbm, 133, rfl⟩
abbrev main_while0b_call9_v0 : Ref sig .tc := ⟨.hbm, 134, rfl⟩
abbrev main_while0b_v107 : Ref sig .tc := ⟨.hbm, 135, rfl⟩
abbrev main_while0b_call10_c : Ref sig .tc := ⟨.hbm, 136, rfl⟩
abbrev main_while0b_call10_c_0 : Ref sig .tc := ⟨.hbm, 137, rfl⟩
abbrev main_while0b_call10_c_1 : Ref sig .tc := ⟨.hbm, 138, rfl⟩
abbrev main_while0b_call10_c_2 : Ref sig .tc := ⟨.hbm, 139, rfl⟩
abbrev main_while0b_call10_v0 : Ref sig .tc := ⟨.hbm, 140, rfl⟩
abbrev main_while0b_v108 : Ref sig .tc := ⟨.hbm, 141, rfl⟩
abbrev main_while0b_call11_c : Ref sig .tc := ⟨.hbm, 142, rfl⟩
abbrev main_while0b_call11_c_0 : Ref sig .tc := ⟨.hbm, 143, rfl⟩
abbrev main_while0b_call11_c_1 : Ref sig .tc := ⟨.hbm, 144, rfl⟩
abbrev main_while0b_call11_c_2 : Ref sig .tc := ⟨.hbm, 145, rfl⟩
abbrev main_while0b_call11_v0 : Ref sig .tc := ⟨.hbm, 146, rfl⟩
abbrev main_while0b_v109 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_v114 : Ref sig .tc := ⟨.hbm, 152, rfl⟩
abbrev main_while0b_v115 : Ref sig .tc := ⟨.hbm, 153, rfl⟩
abbrev main_while0b_v116 : Ref sig .tc := ⟨.hbm, 154, rfl⟩
abbrev main_while0b_call12_v0 : Ref sig .tc := ⟨.hbm, 155, rfl⟩
abbrev main_while0b_call12_c : Ref sig .tc := ⟨.hbm, 156, rfl⟩
abbrev main_while0b_call12_c_0 : Ref sig .tc := ⟨.hbm, 157, rfl⟩
abbrev main_while0b_call12_c_1 : Ref sig .tc := ⟨.hbm, 158, rfl⟩
abbrev main_while0b_call12_c_2 : Ref sig .tc := ⟨.hbm, 159, rfl⟩
abbrev main_while0b_v117 : Ref sig .tc := ⟨.hbm, 160, rfl⟩
abbrev main_while0b_c_19 : Ref sig .tc := ⟨.hbm, 161, rfl⟩
abbrev main_while0b_v118 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_cst_10 : Ref sig .tc := ⟨.hbm, 169, rfl⟩
abbrev main_v84 : Ref sig .tc := ⟨.hbm, 170, rfl⟩
abbrev main_v85 : Ref sig .tc := ⟨.hbm, 171, rfl⟩
abbrev main_cst_11 : Ref sig .tc := ⟨.hbm, 172, rfl⟩
abbrev main_v86 : Ref sig .tc := ⟨.hbm, 173, rfl⟩
abbrev main_v87 : Ref sig .tc := ⟨.hbm, 174, rfl⟩
abbrev main_cst_12 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_call14_v0 : Ref sig .tc := ⟨.hbm, 190, rfl⟩
abbrev main_call14_v1 : Ref sig .tc := ⟨.hbm, 191, rfl⟩
abbrev main_call14_cst : Ref sig .tc := ⟨.hbm, 192, rfl⟩
abbrev main_call14_v2 : Ref sig .tc := ⟨.hbm, 193, rfl⟩
abbrev main_call14_v3 : Ref sig .tc := ⟨.hbm, 194, rfl⟩
abbrev main_call14_cst_0 : Ref sig .tc := ⟨.hbm, 195, rfl⟩
abbrev main_call14_v4 : Ref sig .tc := ⟨.hbm, 196, rfl⟩
abbrev main_call14_v5 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩

abbrev nD : Nat := 1
abbrev τ : Topo := Topo.v7x

variable {F : FTy → Type} [FloatOps F]

abbrev main_while0_count : Scf.Loop 32 := ⟨0#32, 128#32, 1#32⟩
-- ==== Kernel3.lean ====
abbrev S8192x4096 : Shape := ⟨2, ![8192, 4096]⟩
abbrev S4096x12288 : Shape := ⟨2, ![4096, 12288]⟩
abbrev S8192x12288 : Shape := ⟨2, ![8192, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S8192x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S4096x12288 : Shape := ⟨2, ![4096, 12288]⟩
abbrev S8192x12288 : Shape := ⟨2, ![8192, 12288]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S8192x4096, .f32⟩
  | .hbm, ⟨3, _⟩ => ⟨S8192x12288, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S8192x2048 : Shape := ⟨2, ![8192, 2048]⟩
abbrev S4096x4096 : Shape := ⟨2, ![4096, 4096]⟩
abbrev S8192x4096 : Shape := ⟨2, ![8192, 4096]⟩
abbrev S1024x2048 : Shape := ⟨2, ![1024, 2048]⟩
abbrev S4096x512 : Shape := ⟨2, ![4096, 512]⟩
abbrev S1024x512 : Shape := ⟨2, ![1024, 512]⟩
abbrev S2048x512 : Shape := ⟨2, ![2048, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .f32⟩
  | .local _ .vmem, ⟨5, _⟩ => ⟨S4096x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S256x4096 : Shape := ⟨2, ![256, 4096]⟩
abbrev S4096x4096 : Shape := ⟨2, ![4096, 4096]⟩
abbrev S4096x512 : Shape := ⟨2, ![4096, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .bf16⟩
  | .hbm, ⟨1, _⟩ => ⟨S4096x4096, .f32⟩
  | .hbm, ⟨2, _⟩ => ⟨S256x4096, .bf16⟩
  | .local _ .vmem, ⟨0, _⟩ => ⟨S256x4096, .bf16⟩
  | .local _ .vmem, ⟨1, _⟩ => ⟨S4096x512, .f32⟩
  | .local _ .vmem, ⟨2, _⟩ => ⟨S4096x512, .f32⟩
  | .local _ .vmem, ⟨3, _⟩ => ⟨S256x512, .bf16⟩
  | .local _ .vmem, ⟨4, _⟩ => ⟨S256x512, .bf16⟩
  | .local _ .vmem, ⟨5, _⟩ => ⟨S4096x512, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S256x4096 : Shape := ⟨2, ![256, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4096x4096, .f32⟩
  | .hbm, ⟨2, _⟩ => ⟨S256x4096, .f32⟩
  | .hbm, ⟨3, _⟩ => ⟨S256x4096, .f32⟩
  | .hbm, ⟨4, _⟩ => ⟨S256x4096, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x4096 : Shape := ⟨2, ![8192, 4096]⟩
abbrev S256x4096 : Shape := ⟨2, ![256, 4096]⟩
abbrev S1024x1024 : Shape := ⟨2, ![1024, 1024]⟩
abbrev S256x1024 : Shape := ⟨2, ![256, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S256x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x4096 : Shape := ⟨2, ![8192, 4096]⟩
abbrev S256x4096 : Shape := ⟨2, ![256, 4096]⟩
abbrev S8192x4x1024 : Shape := ⟨3, ![8192, 4, 1024]⟩
abbrev S256x4x1024 : Shape := ⟨3, ![256, 4, 1024]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x1024x8192 : Shape := ⟨3, ![4, 1024, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S256x4096, .bf16⟩
  | .hbm, ⟨3, _⟩ => ⟨S8192x4096, .f32⟩
  | .hbm, ⟨4, _⟩ => ⟨S8192x4x1024, .f32⟩
  | .hbm, ⟨5, _⟩ => ⟨S256x4096, .f32⟩
  | .hbm, ⟨6, _⟩ => ⟨S256x4x1024, .f32⟩
  | .hbm, ⟨7, _⟩ => ⟨S256x4096, .f32⟩
  | .hbm, ⟨8, _⟩ => ⟨S256x4x1024, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x1024x8192, .f32⟩
  | .hbm, ⟨28, _⟩ => ⟨S8192x4x1024, .f32⟩
  | .hbm, ⟨29, _⟩ => ⟨S8192x4096, .f32⟩
  | .hbm, ⟨30, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel8.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S8192x12288 : Shape := ⟨2, ![8192, 12288]⟩
abbrev S4x512x512 : Shape := ⟨3, ![4, 512, 512]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S8x2048 : Shape := ⟨2, ![8, 2048]⟩
abbrev S512x1 : Shape := ⟨2, ![512, 1]⟩
abbrev S512x512 : Shape := ⟨2, ![512, 512]⟩
abbrev S8x512 : Shape := ⟨2, ![8, 512]⟩
abbrev S528x512 : Shape := ⟨2, ![528, 512]⟩
abbrev S1x512x512 : Shape := ⟨3, ![1, 512, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x12288, .f32⟩
  | .hbm, ⟨1, _⟩ => ⟨S4x512x512, .f32⟩
  | .hbm, ⟨2, _⟩ => ⟨S2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S4x512x512, .f32⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x12288 : Shape := ⟨2, ![8192, 12288]⟩
abbrev S4x512x512 : Shape := ⟨3, ![4, 512, 512]⟩
abbrev S2048 : Shape := ⟨1, ![2048]⟩
abbrev S8192x2048 : Shape := ⟨2, ![8192, 2048]⟩
abbrev S1x8192x2048 : Shape := ⟨3, ![1, 8192, 2048]⟩
abbrev S8192 : Shape := ⟨1, ![8192]⟩
abbrev S_ : Shape := ⟨0, ![]⟩
abbrev S1x8192x512 : Shape := ⟨3, ![1, 8192, 512]⟩
abbrev S1x8192x1 : Shape := ⟨3, ![1, 8192, 1]⟩
abbrev S1x512x512 : Shape := ⟨3, ![1, 512, 512]⟩
abbrev S512x512 : Shape := ⟨2, ![512, 512]⟩
abbrev S1x1x2048 : Shape := ⟨3, ![1, 1, 2048]⟩

abbrev nBuf : Space → Nat
  | .hbm => 180
  | .vmem => 0
  | .smem => 0
  | _ => 0

abbrev hbmTy0_0 (i : Nat) : BufTy := match i % 128 with
  | 0 => ⟨S8192x12288, .f32⟩
  | 1 => ⟨S4x512x512, .f32⟩
  | 2 => ⟨S2048, .f32⟩
  | 3 => ⟨S8192x2048, .f32⟩
  | 4 => ⟨S1x8192x2048, .f32⟩
  | 5 => ⟨S8192, .i32⟩
  | 6 => ⟨S_, .i32⟩
  | 7 => ⟨S8192, .i32⟩
  | 8 => ⟨S8192, .i32⟩
  | 9 => ⟨S_, .i32⟩
  | 10 => ⟨S_, .i32⟩
  | 11 => ⟨S_, .i32⟩
  | 12 => ⟨S8192, .i32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S_, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S1x8192x512, .f32⟩
  | 32 => ⟨S_, .f32⟩
  | 33 => ⟨S_, .f32⟩
  | 34 => ⟨S1x8192x512, .f32⟩
  | 35 => ⟨S8192, .i32⟩
  | 36 => ⟨S_, .i32⟩
  | 37 => ⟨S8192, .i32⟩
  | 38 => ⟨S8192, .i32⟩
  | 39 => ⟨S8192, .f32⟩
  | 40 => ⟨S1x8192x1, .f32⟩
  | 41 => ⟨S1x8192x512, .f32⟩
  | 42 => ⟨S1x8192x512, .f32⟩
  | 43 => ⟨S1x8192x512, .f32⟩
  | 44 => ⟨S1x8192x512, .f32⟩
  | 45 => ⟨S1x512x512, .f32⟩
  | 46 => ⟨S512x512, .f32⟩
  | 47 => ⟨S1x8192x512, .f32⟩
  | 48 => ⟨S_, .i32⟩
  | 49 => ⟨S8192, .i32⟩
  | 50 => ⟨S8192, .i32⟩
  | 51 => ⟨S_, .i32⟩
  | 52 => ⟨S_, .i32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S_, .i32⟩
  | 66 => ⟨S_, .i32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S1x8192x512, .f32⟩
  | 74 => ⟨S_, .f32⟩
  | 75 => ⟨S_, .f32⟩
  | 76 => ⟨S1x8192x512, .f32⟩
  | 77 => ⟨S8192, .i32⟩
  | 78 => ⟨S_, .i32⟩
  | 79 => ⟨S8192, .i32⟩
  | 80 => ⟨S8192, .i32⟩
  | 81 => ⟨S8192, .f32⟩
  | 82 => ⟨S1x8192x1, .f32⟩
  | 83 => ⟨S1x8192x512, .f32⟩
  | 84 => ⟨S1x8192x512, .f32⟩
  | 85 => ⟨S1x8192x512, .f32⟩
  | 86 => ⟨S1x8192x512, .f32⟩
  | 87 => ⟨S1x512x512, .f32⟩
  | 88 => ⟨S512x512, .f32⟩
  | 89 => ⟨S1x8192x512, .f32⟩
  | 90 => ⟨S_, .i32⟩
  | 91 => ⟨S8192, .i32⟩
  | 92 => ⟨S8192, .i32⟩
  | 93 => ⟨S_, .i32⟩
  | 94 => ⟨S_, .i32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S_, .i32⟩
  | 108 => ⟨S_, .i32⟩
  | 109 => ⟨S_, .i32⟩
  | 110 => ⟨S8192, .i32⟩
  | 111 => ⟨S8192, .i32⟩
  | 112 => ⟨S_, .i32⟩
  | 113 => ⟨S8192, .i32⟩
  | 114 => ⟨S8192, .i32⟩
  | 115 => ⟨S1x8192x512, .f32⟩
  | 116 => ⟨S_, .f32⟩
  | 117 => ⟨S_, .f32⟩
  | 118 => ⟨S1x8192x512, .f32⟩
  | 119 => ⟨S8192, .i32⟩
  | 120 => ⟨S_, .i32⟩
  | 121 => ⟨S8192, .i32⟩
  | 122 => ⟨S8192, .i32⟩
  | 123 => ⟨S8192, .f32⟩
  | 124 => ⟨S1x8192x1, .f32⟩
  | 125 => ⟨S1x8192x512, .f32⟩
  | 126 => ⟨S1x8192x512, .f32⟩
  | 127 => ⟨S1x8192x512, .f32⟩
  | _ => ⟨S8192x12288, .f32⟩

abbrev hbmTy0_1 (i : Nat) : BufTy := match i % 128 with
  | 0 => ⟨S1x8192x512, .f32⟩
  | 1 => ⟨S1x512x512, .f32⟩
  | 2 => ⟨S512x512, .f32⟩
  | 3 => ⟨S1x8192x512, .f32⟩
  | 4 => ⟨S_, .i32⟩
  | 5 => ⟨S8192, .i32⟩
  | 6 => ⟨S8192, .i32⟩
  | 7 => ⟨S_, .i32⟩
  | 8 => ⟨S_, .i32⟩
  | 9 => ⟨S_, .i32⟩
  | 10 => ⟨S8192, .i32⟩
  | 11 => ⟨S8192, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S_, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S1x8192x512, .f32⟩
  | 30 => ⟨S_, .f32⟩
  | 31 => ⟨S_, .f32⟩
  | 32 => ⟨S1x8192x512, .f32⟩
  | 33 => ⟨S8192, .i32⟩
  | 34 => ⟨S_, .i32⟩
  | 35 => ⟨S8192, .i32⟩
  | 36 => ⟨S8192, .i32⟩
  | 37 => ⟨S8192, .f32⟩
  | 38 => ⟨S1x8192x1, .f32⟩
  | 39 => ⟨S1x8192x512, .f32⟩
  | 40 => ⟨S1x8192x512, .f32⟩
  | 41 => ⟨S1x8192x512, .f32⟩
  | 42 => ⟨S1x8192x512, .f32⟩
  | 43 => ⟨S1x512x512, .f32⟩
  | 44 => ⟨S512x512, .f32⟩
  | 45 => ⟨S1x8192x512, .f32⟩
  | 46 => ⟨S1x8192x2048, .f32⟩
  | 47 => ⟨S1x1x2048, .f32⟩
  | 48 => ⟨S1x8192x2048, .f32⟩
  | 49 => ⟨S1x8192x2048, .f32⟩
  | 50 => ⟨S8192x2048, .f32⟩
  | 51 => ⟨S8192x2048, .bf16⟩
  | _ => ⟨S8192x12288, .f32⟩

abbrev hbmTy (i : Nat) : BufTy := match i / 128 with
  | 0 => hbmTy0_0 i
  | 1 => hbmTy0_1 i
  | _ => ⟨S8192x12288, .f32⟩

abbrev bufTy : (tb : Table) → Fin (tcTables nBuf tb) → BufTy
  | .hbm, ⟨i, _⟩ => hbmTy i
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_c_5 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_c_9 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v28 : Ref sig .tc := ⟨.hbm, 58, rfl⟩
abbrev main_c_10 : Ref sig .tc := ⟨.hbm, 59, rfl⟩
abbrev main_v29 : Ref sig .tc := ⟨.hbm, 60, rfl⟩
abbrev main_v30 : Ref sig .tc := ⟨.hbm, 61, rfl⟩
abbrev main_c_11 : Ref sig .tc := ⟨.hbm, 62, rfl⟩
abbrev main_v31 : Ref sig .tc := ⟨.hbm, 63, rfl⟩
abbrev main_v32 : Ref sig .tc := ⟨.hbm, 64, rfl⟩
abbrev main_c_12 : Ref sig .tc := ⟨.hbm, 65, rfl⟩
abbrev main_c_13 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_v33 : Ref sig .tc := ⟨.hbm, 72, rfl⟩
abbrev main_v34 : Ref sig .tc := ⟨.hbm, 73, rfl⟩
abbrev main_cst_14 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_c_15 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_16 : Ref sig .tc := ⟨.hbm, 90, rfl⟩
abbrev main_v49 : Ref sig .tc := ⟨.hbm, 91, rfl⟩
abbrev main_v50 : Ref sig .tc := ⟨.hbm, 92, rfl⟩
abbrev main_c_17 : Ref sig .tc := ⟨.hbm, 93, rfl⟩
abbrev main_c_18 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v51 : Ref sig .tc := ⟨.hbm, 100, rfl⟩
abbrev main_c_19 : Ref sig .tc := ⟨.hbm, 101, rfl⟩
abbrev main_v52 : Ref sig .tc := ⟨.hbm, 102, rfl⟩
abbrev main_v53 : Ref sig .tc := ⟨.hbm, 103, rfl⟩
abbrev main_c_20 : Ref sig .tc := ⟨.hbm, 104, rfl⟩
abbrev main_v54 : Ref sig .tc := ⟨.hbm, 105, rfl⟩
abbrev main_v55 : Ref sig .tc := ⟨.hbm, 106, rfl⟩
abbrev main_c_21 : Ref sig .tc := ⟨.hbm, 107, rfl⟩
abbrev main_c_22 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v56 : Ref sig .tc := ⟨.hbm, 114, rfl⟩
abbrev main_v57 : Ref sig .tc := ⟨.hbm, 115, rfl⟩
abbrev main_cst_23 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_c_24 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_c_25 : Ref sig .tc := ⟨.hbm, 132, rfl⟩
abbrev main_v72 : Ref sig .tc := ⟨.hbm, 133, rfl⟩
abbrev main_v73 : Ref sig .tc := ⟨.hbm, 134, rfl⟩
abbrev main_c_26 : Ref sig .tc := ⟨.hbm, 135, rfl⟩
abbrev main_c_27 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_v74 : Ref sig .tc := ⟨.hbm, 142, rfl⟩
abbrev main_c_28 : Ref sig .tc := ⟨.hbm, 143, rfl⟩
abbrev main_v75 : Ref sig .tc := ⟨.hbm, 144, rfl⟩
abbrev main_v76 : Ref sig .tc := ⟨.hbm, 145, rfl⟩
abbrev main_c_29 : Ref sig .tc := ⟨.hbm, 146, rfl⟩
abbrev main_v77 : Ref sig .tc := ⟨.hbm, 147, rfl⟩
abbrev main_v78 : Ref sig .tc := ⟨.hbm, 148, rfl⟩
abbrev main_c_30 : Ref sig .tc := ⟨.hbm, 149, rfl⟩
abbrev main_c_31 : Ref sig .tc := ⟨.hbm, 150, rfl⟩
abbrev main_call7_v0 : Ref sig .tc := ⟨.hbm, 151, rfl⟩
abbrev main_call7_v1 : Ref sig .tc := ⟨.hbm, 152, rfl⟩
abbrev main_call7_v2 : Ref sig .tc := ⟨.hbm, 153, rfl⟩
abbrev main_call7_v3 : Ref sig .tc := ⟨.hbm, 154, rfl⟩
abbrev main_call7_v4 : Ref sig .tc := ⟨.hbm, 155, rfl⟩
abbrev main_v79 : Ref sig .tc := ⟨.hbm, 156, rfl⟩
abbrev main_v80 : Ref sig .tc := ⟨.hbm, 157, rfl⟩
abbrev main_cst_32 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_c_33 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩

abbrev nD : Nat := 1
abbrev τ : Topo := Topo.v7x

variable {F : FTy → Type} [FloatOps F]
-- ==== Proof.HgrnHead.lean ====
/- The forward recurrence, one head at a time: the kernel writes the same operations out for each of its 16 heads. Here
   they are named once, as stages of one head, and each stored piece is shown to be the head's result or state. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen

/-! ## The stages of one head -/

/-- The lower bound of the gate: the first layer's share of the exponentials. -/
def lower (w : FVec Ideal S2x128 .f32) : FVec Ideal S1x128 .f32 :=
  have e : FVec Ideal S2x128 .f32 := exp (subf w (broadcastTo S2x128 (shapeCast S1x128
    (multiReduction .maximumf [0] S128 w 0xFF800000#32 reduces_S2x128_S128 (.inl rfl) rfl) shapeCasts_S128_S1x128)
    broadcasts_S1x128_S2x128))
  divf (shapeCast S1x128 (multiReduction .add [0] S128 (extractStridedSlice S1x128 ![0, 0] e slices_S2x128_o0_0_S1x128)
      0x00000000#32 reduces_S1x128_S128 (.inl rfl) rfl) shapeCasts_S128_S1x128)
    (shapeCast S1x128 (multiReduction .add [0] S128 e 0x00000000#32 reduces_S2x128_S128 (.inl rfl) rfl) shapeCasts_S128_S1x128)

/-- The gate. -/
def gate (lb : FVec Ideal S1x128 .f32) (f : FVec Ideal S256x128 .f32) : FVec Ideal S256x128 .f32 :=
  addf (broadcastTo S256x128 lb broadcasts_S1x128_S256x128)
    (mulf (broadcastTo S256x128 (subf (broadcast S1x128 (Scalar.ofBits .f32 0x3F800000#32)) lb) broadcasts_S1x128_S256x128) (logistic f))

/-- A row's place in its chunk. -/
def place : IVec S256x128 32 :=
  have v83 : IVec S256x128 32 := iota .tc S256x128 32 [0] iota_S256x128_d0_w32
  have v87 : IVec S256x128 32 := remsi v83 (broadcast S256x128 64#32)
  select (andi (xori (cmpi .slt v87 (broadcast S256x128 0#32))
      (broadcastTo S256x128 (broadcast S256x128 (Scalar.cmpi .slt 64#32 0#32)) broadcasts_S256x128_S256x128))
      (cmpi .ne v87 (broadcast S256x128 0#32)))
    (addi v87 (broadcast S256x128 64#32)) v87

/-- One step of the running sum: every row adds the row `s` above it, within the chunk. -/
def hop (s : BitVec 32) (x : FVec Ideal S256x128 .f32) : FVec Ideal S256x128 .f32 :=
  addf x (select (cmpi .sge place (broadcast S256x128 s)) (dynamicRotate 0 s none x rotates_S256x128_d0)
    (broadcast S256x128 (Scalar.ofBits .f32 0x00000000#32)))

/-- The running sum of the gate's logarithms within each chunk. -/
def cumul (L : FVec Ideal S256x128 .f32) : FVec Ideal S256x128 .f32 :=
  hop 32#32 (hop 16#32 (hop 8#32 (hop 4#32 (hop 2#32 (hop 1#32 L)))))

/-- One minus the gate. -/
def inv (f : FVec Ideal S256x128 .f32) : FVec Ideal S256x128 .f32 :=
  subf (broadcast S256x128 (Scalar.ofBits .f32 0x3F800000#32)) f

/-- The queries, decayed from the chunk's start. -/
def qDecay (q b : FVec Ideal S256x128 .f32) : FVec Ideal S256x128 .bf16 :=
  truncf .bf16 (mulf (mulf q (logistic q)) (exp b)) bitsLt_bf16_f32

/-- The keys, decayed back to the chunk's start. -/
def kDecay (k b : FVec Ideal S256x128 .f32) : FVec Ideal S256x128 .bf16 :=
  truncf .bf16 (mulf k (exp (subf (broadcast S256x128 (Scalar.ofBits .f32 0x00000000#32)) b))) bitsLt_bf16_f32

/-- The running sum by chunks. -/
def chunks (b : FVec Ideal S256x128 .f32) : FVec Ideal S4x64x128 .f32 := shapeCast S4x64x128 b shapeCasts_S256x128_S4x64x128

/-- Each chunk's whole sum. -/
def whole (b : FVec Ideal S256x128 .f32) : FVec Ideal S4x1x128 .f32 :=
  extractStridedSlice S4x1x128 ![0, 63, 0] (chunks b) slices_S4x64x128_o0_63_0_S4x1x128

/-- The keys, decayed to the chunk's end. -/
def kEnd (k b : FVec Ideal S256x128 .f32) : FVec Ideal S4x64x128 .bf16 :=
  truncf .bf16 (mulf (chunks k) (exp (subf (broadcastTo S4x64x128 (whole b) broadcasts_S4x1x128_S4x64x128) (chunks b)))) bitsLt_bf16_f32

/-- Each chunk's decay of the state. -/
def decay (b : FVec Ideal S256x128 .f32) : FVec Ideal S4x1x128 .f32 := exp (whole b)

/-- The values, rounded. -/
def vals (v : FVec Ideal S256x128 .f32) : FVec Ideal S256x128 .bf16 := truncf .bf16 v bitsLt_bf16_f32

/-- Which keys a row sees: those of its chunk up to the row itself. -/
def mask : IVec S256x256 1 :=
  k0_pay8 (iota .tc S256x256 32 [0] iota_S256x256_d0_w32) (iota .tc S256x256 32 [1] iota_S256x256_d1_w32) k0_pay4 64#32 k0_pay5 k0_pay6 k0_pay7

/-- The part within the chunks. -/
def intra (qd kd vb : FVec Ideal S256x128 .bf16) : FVec Ideal S256x128 .f32 :=
  matmul dot_S256x256_S256x128_S256x128_1_0_0_1_n_n none
    (truncf .bf16 (select mask (matmul dot_S256x128_S256x128_S256x256_1_1_0_0_n_n none qd kd (constant S256x256 .f32 0x00000000#32))
      (broadcast S256x256 (Scalar.ofBits .f32 0x00000000#32))) bitsLt_bf16_f32) vb (constant S256x128 .f32 0x00000000#32)

/-- The reading of the state that enters a chunk, whose rows start at `r`. -/
def readout (r : ℕ) (h : S256x128.Slices ![r, 0] S64x128) (qd : FVec Ideal S256x128 .bf16) (S : FVec Ideal S128x128 .f32) :
    FVec Ideal S64x128 .f32 :=
  matmul dot_S64x128_S128x128_S64x128_1_1_0_0_n_n none (extractStridedSlice S64x128 ![r, 0] qd h) (truncf .bf16 S bitsLt_bf16_f32)
    (constant S64x128 .f32 0x00000000#32)

/-- The state after chunk `n`, whose rows start at `r`. -/
def next (n r : ℕ) (hv : S256x128.Slices ![r, 0] S64x128) (hk : S4x64x128.Slices ![n, 0, 0] S1x64x128)
    (hd : S4x1x128.Slices ![n, 0, 0] S1x1x128) (vb : FVec Ideal S256x128 .bf16) (ke : FVec Ideal S4x64x128 .bf16)
    (d : FVec Ideal S4x1x128 .f32) (S : FVec Ideal S128x128 .f32) : FVec Ideal S128x128 .f32 :=
  addf (mulf S (broadcastTo S128x128 (shapeCast S1x128 (extractStridedSlice S1x1x128 ![n, 0, 0] d hd) shapeCasts_S1x1x128_S1x128)
      broadcasts_S1x128_S128x128))
    (matmul dot_S64x128_S64x128_S128x128_0_0_1_1_n_n none (extractStridedSlice S64x128 ![r, 0] vb hv)
      (shapeCast S64x128 (extractStridedSlice S1x64x128 ![n, 0, 0] ke hk) shapeCasts_S1x64x128_S64x128)
      (constant S128x128 .f32 0x00000000#32))

/-- The state after 1, 2, 3 and 4 chunks. -/
def state1 (vb : FVec Ideal S256x128 .bf16) (ke : FVec Ideal S4x64x128 .bf16) (d : FVec Ideal S4x1x128 .f32) (S : FVec Ideal S128x128 .f32) :
    FVec Ideal S128x128 .f32 :=
  next 0 0 slices_S256x128_o0_0_S64x128 slices_S4x64x128_o0_0_0_S1x64x128 slices_S4x1x128_o0_0_0_S1x1x128 vb ke d S
@[inherit_doc state1]
def state2 (vb : FVec Ideal S256x128 .bf16) (ke : FVec Ideal S4x64x128 .bf16) (d : FVec Ideal S4x1x128 .f32) (S : FVec Ideal S128x128 .f32) :
    FVec Ideal S128x128 .f32 :=
  next 1 64 slices_S256x128_o64_0_S64x128 slices_S4x64x128_o1_0_0_S1x64x128 slices_S4x1x128_o1_0_0_S1x1x128 vb ke d (state1 vb ke d S)
@[inherit_doc state1]
def state3 (vb : FVec Ideal S256x128 .bf16) (ke : FVec Ideal S4x64x128 .bf16) (d : FVec Ideal S4x1x128 .f32) (S : FVec Ideal S128x128 .f32) :
    FVec Ideal S128x128 .f32 :=
  next 2 128 slices_S256x128_o128_0_S64x128 slices_S4x64x128_o2_0_0_S1x64x128 slices_S4x1x128_o2_0_0_S1x1x128 vb ke d (state2 vb ke d S)
@[inherit_doc state1]
def state4 (vb : FVec Ideal S256x128 .bf16) (ke : FVec Ideal S4x64x128 .bf16) (d : FVec Ideal S4x1x128 .f32) (S : FVec Ideal S128x128 .f32) :
    FVec Ideal S128x128 .f32 :=
  next 3 192 slices_S256x128_o192_0_S64x128 slices_S4x64x128_o3_0_0_S1x64x128 slices_S4x1x128_o3_0_0_S1x1x128 vb ke d (state3 vb ke d S)

/-- A tile's result from its stages. -/
def tile (qd kd vb : FVec Ideal S256x128 .bf16) (ke : FVec Ideal S4x64x128 .bf16) (d : FVec Ideal S4x1x128 .f32)
    (S : FVec Ideal S128x128 .f32) : FVec Ideal S256x128 .f32 :=
  addf (intra qd kd vb) (concatenate S256x128 0 [⟨S64x128, readout 0 slices_S256x128_o0_0_S64x128 qd S⟩,
    ⟨S64x128, readout 64 slices_S256x128_o64_0_S64x128 qd (state1 vb ke d S)⟩,
    ⟨S64x128, readout 128 slices_S256x128_o128_0_S64x128 qd (state2 vb ke d S)⟩,
    ⟨S64x128, readout 192 slices_S256x128_o192_0_S64x128 qd (state3 vb ke d S)⟩] concatenates_S64x128_S64x128_S64x128_S64x128_S256x128_d0)

/-- The gate of a head's two rows of bounds and its tile. -/
def gateOf (w : FVec Ideal S2x128 .f32) (f : FVec Ideal S256x128 .f32) : FVec Ideal S256x128 .f32 := gate (lower w) f

/-- The running sum of a head's tile. -/
def sumOf (w : FVec Ideal S2x128 .f32) (f : FVec Ideal S256x128 .f32) : FVec Ideal S256x128 .f32 := cumul (log (gateOf w f))

/-- A head's entering state, without its unit axis. -/
def flat (S : FVec Ideal S1x128x128 .f32) : FVec Ideal S128x128 .f32 := shapeCast S128x128 S shapeCasts_S1x128x128_S128x128

/-- A head's result on a tile. -/
def headOut (w : FVec Ideal S2x128 .f32) (q f v : FVec Ideal S256x128 .f32) (S : FVec Ideal S1x128x128 .f32) : FVec Ideal S256x128 .f32 :=
  tile (qDecay q (sumOf w f)) (kDecay (inv (gateOf w f)) (sumOf w f)) (vals v) (kEnd (inv (gateOf w f)) (sumOf w f))
    (decay (sumOf w f)) (flat S)

/-- A head's state after a tile. -/
def headState (w : FVec Ideal S2x128 .f32) (f v : FVec Ideal S256x128 .f32) (S : FVec Ideal S1x128x128 .f32) : FVec Ideal S1x128x128 .f32 :=
  shapeCast S1x128x128 (state4 (vals v) (kEnd (inv (gateOf w f)) (sumOf w f)) (decay (sumOf w f)) (flat S)) shapeCasts_S128x128_S1x128x128

/-! ## The columns of one head -/

theorem inbCols (h : Fin 16) : ∀ a, (![0, h.val * 128] : Fin 2 → Nat) a + S256x128.size a ≤ S256x2048.size a := by revert h; decide
theorem inbBound (h : Fin 16) : ∀ a, (![0, h.val * 128] : Fin 2 → Nat) a + S2x128.size a ≤ S2x2048.size a := by revert h; decide
theorem inbState (h : Fin 16) : ∀ a, (![h.val, 0, 0] : Fin 3 → Nat) a + S1x128x128.size a ≤ S16x128x128.size a := by revert h; decide

/-- A head's columns of a tile. -/
def cols (h : Fin 16) (X : FVec Ideal S256x2048 .f32) : FVec Ideal S256x128 .f32 :=
  fun x => X ((Rect.unit (s := S256x2048) ![0, h.val * 128] ![256, 128] (inbCols h)).idx x)
/-- A head's columns of the bounds. -/
def bound (h : Fin 16) (X : FVec Ideal S2x2048 .f32) : FVec Ideal S2x128 .f32 :=
  fun x => X ((Rect.unit (s := S2x2048) ![0, h.val * 128] ![2, 128] (inbBound h)).idx x)
/-- A head's state. -/
def slab (h : Fin 16) (X : FVec Ideal S16x128x128 .f32) : FVec Ideal S1x128x128 .f32 :=
  fun x => X ((Rect.unit (s := S16x128x128) ![h.val, 0, 0] ![1, 128, 128] (inbState h)).idx x)

/-- The tile's result, all heads. -/
def outTile (q f v : FVec Ideal S256x2048 .f32) (w : FVec Ideal S2x2048 .f32) (S : FVec Ideal S16x128x128 .f32) : FVec Ideal S256x2048 .f32 :=
  fun y => let h : Fin 16 := ⟨(y 1).val / 128, by have := (y 1).isLt; change _ < 2048 at this; omega⟩
    headOut (bound h w) (cols h q) (cols h f) (cols h v) (slab h S) (ValueIdx.ix2 (y 0) ⟨(y 1).val % 128, by omega⟩)
/-- The states after the tile. -/
def stTile (f v : FVec Ideal S256x2048 .f32) (w : FVec Ideal S2x2048 .f32) (S : FVec Ideal S16x128x128 .f32) : FVec Ideal S16x128x128 .f32 :=
  fun y => headState (bound (y 0) w) (cols (y 0) f) (cols (y 0) v) (slab (y 0) S) (ValueIdx.ix3 0 (y 1) (y 2))

theorem outTile_at (q f v : FVec Ideal S256x2048 .f32) (w : FVec Ideal S2x2048 .f32) (S : FVec Ideal S16x128x128 .f32) (h : Fin 16)
    (x : S256x128.Idx) (y : S256x2048.Idx) (e0 : (y 0).val = (x 0).val) (e1 : (y 1).val = h.val * 128 + (x 1).val) :
    headOut (bound h w) (cols h q) (cols h f) (cols h v) (slab h S) x = outTile q f v w S y := by
  have hx : (x 1).val < 128 := (x 1).isLt
  have hh : (⟨(y 1).val / 128, by have := (y 1).isLt; change _ < 2048 at this; omega⟩ : Fin 16) = h := Fin.ext (by show _ / _ = _; omega)
  unfold outTile
  dsimp only
  rw [hh]
  refine congrArg _ (funext fun a => ?_)
  match a with
  | ⟨0, _⟩ => exact Fin.ext e0.symm
  | ⟨1, _⟩ => exact Fin.ext (by show (x 1).val = (y 1).val % 128; omega)

theorem stTile_at (f v : FVec Ideal S256x2048 .f32) (w : FVec Ideal S2x2048 .f32) (S : FVec Ideal S16x128x128 .f32) (h : Fin 16)
    (x : S1x128x128.Idx) (y : S16x128x128.Idx) (e0 : (y 0).val = h.val + (x 0).val) (e1 : (y 1).val = (x 1).val)
    (e2 : (y 2).val = (x 2).val) :
    headState (bound h w) (cols h f) (cols h v) (slab h S) x = stTile f v w S y := by
  have hx : (x 0).val < 1 := (x 0).isLt
  have hh : y 0 = h := Fin.ext (by omega)
  unfold stTile
  rw [hh]
  refine congrArg _ (funext fun a => ?_)
  match a with
  | ⟨0, _⟩ => exact Fin.ext (by show (x 0).val = 0; omega)
  | ⟨1, _⟩ => exact Fin.ext e1.symm
  | ⟨2, _⟩ => exact Fin.ext e2.symm

end Cert.KernelIdeal.Final

end
-- ==== Proof.HgrnPoint.lean ====
/- The forward recurrence at one grid point: the stored result and state are those of the 16 heads. -/
module

public import proofs.«01_k».proof.Proof.HgrnHead
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen

variable (m : (ℓ : Loc nD τ sig) → Buf (Elt Ideal) ℓ)

/-- `stTile_at` for a store given by its rectangle. -/
theorem stTile_emb (f v : FVec Ideal S256x2048 .f32) (w : FVec Ideal S2x2048 .f32) (S : FVec Ideal S16x128x128 .f32) (h : Fin 16)
    (p : FVec Ideal S1x128x128 .f32) (hp : p = headState (bound h w) (cols h f) (cols h v) (slab h S)) (x : S1x128x128.Idx) :
    p x = stTile f v w S ((Rect.unit (s := S16x128x128) ![h.val, 0, 0] ![1, 128, 128] (inbState h)).emb x) := by
  rw [hp]
  refine stTile_at f v w S h x _ ?_ ?_ ?_
  · exact Rect.idx_unit_val ..
  · exact (Rect.idx_unit_val ..).trans (Nat.zero_add _)
  · exact (Rect.idx_unit_val ..).trans (Nat.zero_add _)

/-- A state entry lies in the store of its head. -/
theorem slab_mem (y : S16x128x128.Idx) (n : ℕ) (inb : ∀ a, (![n, 0, 0] : Fin 3 → Nat) a + (![1, 128, 128] : Fin 3 → Nat) a ≤ S16x128x128.size a)
    (e : (y 0).val = n) : y ∈ (Rect.unit (s := S16x128x128) ![n, 0, 0] ![1, 128, 128] inb).set := by
  have h1 : (y 1).val < 128 := (y 1).isLt
  have h2 : (y 2).val < 128 := (y 2).isLt
  refine Rect.mem_set_unit.mpr fun a => ?_
  match a with
  | ⟨0, _⟩ => exact ⟨by show n ≤ (y 0).val; omega, by show (y 0).val < n + 1; omega⟩
  | ⟨1, _⟩ => exact ⟨by show 0 ≤ (y 1).val; omega, by show (y 1).val < 0 + 128; omega⟩
  | ⟨2, _⟩ => exact ⟨by show 0 ≤ (y 2).val; omega, by show (y 2).val < 0 + 128; omega⟩

/-- The result stored at a later grid point. -/
theorem outB (c : Dev nD) (t : Fin cfg0.N) (h0 : ¬t.val % 32 = 0) : (outsAt0 m c t.val t.isLt).1 = outTile (iblk m c 0 t) (iblk m c 1 t) (iblk m c 2 t) (iblk m c 3 t) (outsAt0 m c (t.val - 1) (Nat.lt_of_le_of_lt (Nat.sub_le _ _) t.isLt)).2 := by
  rw [outsAt0_B m c t h0]
  dsimp only
  frame_out
  simp only [read_unread_whole]
  generalize (iblk m c 0 t) = q
  generalize (iblk m c 1 t) = f
  generalize (iblk m c 2 t) = v
  generalize (iblk m c 3 t) = w
  generalize (outsAt0 m c (t.val - 1) (Nat.lt_of_le_of_lt (Nat.sub_le _ _) t.isLt)).2 = S
  funext y
  canon_tiles x h
  · exact (congrFun (rfl : _ = headOut (bound 15 w) (cols 15 q) (cols 15 f) (cols 15 v) (slab 15 S)) x).trans (outTile_at q f v w S 15 x y h0 (by simpa using h1))
  · exact (congrFun (rfl : _ = headOut (bound 14 w) (cols 14 q) (cols 14 f) (cols 14 v) (slab 14 S)) x).trans (outTile_at q f v w S 14 x y h0 (by simpa using h1))
  · exact (congrFun (rfl : _ = headOut (bound 13 w) (cols 13 q) (cols 13 f) (cols 13 v) (slab 13 S)) x).trans (outTile_at q f v w S 13 x y h0 (by simpa using h1))
  · exact (congrFun (rfl : _ = headOut (bound 12 w) (cols 12 q) (cols 12 f) (cols 12 v) (slab 12 S)) x).trans (outTile_at q f v w S 12 x y h0 (by simpa using h1))
  · exact (congrFun (rfl : _ = headOut (bound 11 w) (cols 11 q) (cols 11 f) (cols 11 v) (slab 11 S)) x).trans (outTile_at q f v w S 11 x y h0 (by simpa using h1))
  · exact (congrFun (rfl : _ = headOut (bound 10 w) (cols 10 q) (cols 10 f) (cols 10 v) (slab 10 S)) x).trans (outTile_at q f v w S 10 x y h0 (by simpa using h1))
  · exact (congrFun (rfl : _ = headOut (bound 9 w) (cols 9 q) (cols 9 f) (cols 9 v) (slab 9 S)) x).trans (outTile_at q f v w S 9 x y h0 (by simpa using h1))
  · exact (congrFun (rfl : _ = headOut (bound 8 w) (cols 8 q) (cols 8 f) (cols 8 v) (slab 8 S)) x).trans (outTile_at q f v w S 8 x y h0 (by simpa using h1))
  · exact (congrFun (rfl : _ = headOut (bound 7 w) (cols 7 q) (cols 7 f) (cols 7 v) (slab 7 S)) x).trans (outTile_at q f v w S 7 x y h0 (by simpa using h1))
  · exact (congrFun (rfl : _ = headOut (bound 6 w) (cols 6 q) (cols 6 f) (cols 6 v) (slab 6 S)) x).trans (outTile_at q f v w S 6 x y h0 (by simpa using h1))
  · exact (congrFun (rfl : _ = headOut (bound 5 w) (cols 5 q) (cols 5 f) (cols 5 v) (slab 5 S)) x).trans (outTile_at q f v w S 5 x y h0 (by simpa using h1))
  · exact (congrFun (rfl : _ = headOut (bound 4 w) (cols 4 q) (cols 4 f) (cols 4 v) (slab 4 S)) x).trans (outTile_at q f v w S 4 x y h0 (by simpa using h1))
  · exact (congrFun (rfl : _ = headOut (bound 3 w) (cols 3 q) (cols 3 f) (cols 3 v) (slab 3 S)) x).trans (outTile_at q f v w S 3 x y h0 (by simpa using h1))
  · exact (congrFun (rfl : _ = headOut (bound 2 w) (cols 2 q) (cols 2 f) (cols 2 v) (slab 2 S)) x).trans (outTile_at q f v w S 2 x y h0 (by simpa using h1))
  · exact (congrFun (rfl : _ = headOut (bound 1 w) (cols 1 q) (cols 1 f) (cols 1 v) (slab 1 S)) x).trans (outTile_at q f v w S 1 x y h0 (by simpa using h1))
  · exact (congrFun (rfl : _ = headOut (bound 0 w) (cols 0 q) (cols 0 f) (cols 0 v) (slab 0 S)) x).trans (outTile_at q f v w S 0 x y h0 (by simpa using h1))

/-- The state left by a later grid point. -/
theorem stB (c : Dev nD) (t : Fin cfg0.N) (h0 : ¬t.val % 32 = 0) : (outsAt0 m c t.val t.isLt).2 = stTile (iblk m c 1 t) (iblk m c 2 t) (iblk m c 3 t) (outsAt0 m c (t.val - 1) (Nat.lt_of_le_of_lt (Nat.sub_le _ _) t.isLt)).2 := by
  rw [outsAt0_B m c t h0]
  dsimp only
  frame_out
  simp only [read_unread_whole]
  generalize (iblk m c 0 t) = q
  generalize (iblk m c 1 t) = f
  generalize (iblk m c 2 t) = v
  generalize (iblk m c 3 t) = w
  generalize (outsAt0 m c (t.val - 1) (Nat.lt_of_le_of_lt (Nat.sub_le _ _) t.isLt)).2 = S
  funext y
  canon_tiles x h
  · exact (congrFun (rfl : _ = headState (bound 15 w) (cols 15 f) (cols 15 v) (slab 15 S)) x).trans (stTile_at f v w S 15 x y (by simpa using h0) h1 h2)
  · exact (congrFun (rfl : _ = headState (bound 14 w) (cols 14 f) (cols 14 v) (slab 14 S)) x).trans (stTile_at f v w S 14 x y (by simpa using h0) h1 h2)
  · exact (congrFun (rfl : _ = headState (bound 13 w) (cols 13 f) (cols 13 v) (slab 13 S)) x).trans (stTile_at f v w S 13 x y (by simpa using h0) h1 h2)
  · exact (congrFun (rfl : _ = headState (bound 12 w) (cols 12 f) (cols 12 v) (slab 12 S)) x).trans (stTile_at f v w S 12 x y (by simpa using h0) h1 h2)
  · exact (congrFun (rfl : _ = headState (bound 11 w) (cols 11 f) (cols 11 v) (slab 11 S)) x).trans (stTile_at f v w S 11 x y (by simpa using h0) h1 h2)
  · exact (congrFun (rfl : _ = headState (bound 10 w) (cols 10 f) (cols 10 v) (slab 10 S)) x).trans (stTile_at f v w S 10 x y (by simpa using h0) h1 h2)
  · exact (congrFun (rfl : _ = headState (bound 9 w) (cols 9 f) (cols 9 v) (slab 9 S)) x).trans (stTile_at f v w S 9 x y (by simpa using h0) h1 h2)
  · exact (congrFun (rfl : _ = headState (bound 8 w) (cols 8 f) (cols 8 v) (slab 8 S)) x).trans (stTile_at f v w S 8 x y (by simpa using h0) h1 h2)
  · exact (congrFun (rfl : _ = headState (bound 7 w) (cols 7 f) (cols 7 v) (slab 7 S)) x).trans (stTile_at f v w S 7 x y (by simpa using h0) h1 h2)
  · exact (congrFun (rfl : _ = headState (bound 6 w) (cols 6 f) (cols 6 v) (slab 6 S)) x).trans (stTile_at f v w S 6 x y (by simpa using h0) h1 h2)
  · exact (congrFun (rfl : _ = headState (bound 5 w) (cols 5 f) (cols 5 v) (slab 5 S)) x).trans (stTile_at f v w S 5 x y (by simpa using h0) h1 h2)
  · exact (congrFun (rfl : _ = headState (bound 4 w) (cols 4 f) (cols 4 v) (slab 4 S)) x).trans (stTile_at f v w S 4 x y (by simpa using h0) h1 h2)
  · exact (congrFun (rfl : _ = headState (bound 3 w) (cols 3 f) (cols 3 v) (slab 3 S)) x).trans (stTile_at f v w S 3 x y (by simpa using h0) h1 h2)
  · exact (congrFun (rfl : _ = headState (bound 2 w) (cols 2 f) (cols 2 v) (slab 2 S)) x).trans (stTile_at f v w S 2 x y (by simpa using h0) h1 h2)
  · exact (congrFun (rfl : _ = headState (bound 1 w) (cols 1 f) (cols 1 v) (slab 1 S)) x).trans (stTile_at f v w S 1 x y (by simpa using h0) h1 h2)
  · exact (congrFun (rfl : _ = headState (bound 0 w) (cols 0 f) (cols 0 v) (slab 0 S)) x).trans (stTile_at f v w S 0 x y (by simpa using h0) h1 h2)

/-- The result stored at the first grid point, from the zero state. -/
theorem outA (c : Dev nD) (t : Fin cfg0.N) (h0 : t.val % 32 = 0) : (outsAt0 m c t.val t.isLt).1 = outTile (iblk m c 0 t) (iblk m c 1 t) (iblk m c 2 t) (iblk m c 3 t) k0_pay3 := by
  rw [outsAt0_A m c t h0]
  dsimp only
  frame_out
  simp (disch := decide) only [View.readCov_skip, View.readCov_fill]
  generalize (iblk m c 0 t) = q
  generalize (iblk m c 1 t) = f
  generalize (iblk m c 2 t) = v
  generalize (iblk m c 3 t) = w
  funext y
  canon_tiles x h
  · exact (congrFun (rfl : _ = headOut (bound 15 w) (cols 15 q) (cols 15 f) (cols 15 v) (slab 15 k0_pay3)) x).trans (outTile_at q f v w k0_pay3 15 x y h0 (by simpa using h1))
  · exact (congrFun (rfl : _ = headOut (bound 14 w) (cols 14 q) (cols 14 f) (cols 14 v) (slab 14 k0_pay3)) x).trans (outTile_at q f v w k0_pay3 14 x y h0 (by simpa using h1))
  · exact (congrFun (rfl : _ = headOut (bound 13 w) (cols 13 q) (cols 13 f) (cols 13 v) (slab 13 k0_pay3)) x).trans (outTile_at q f v w k0_pay3 13 x y h0 (by simpa using h1))
  · exact (congrFun (rfl : _ = headOut (bound 12 w) (cols 12 q) (cols 12 f) (cols 12 v) (slab 12 k0_pay3)) x).trans (outTile_at q f v w k0_pay3 12 x y h0 (by simpa using h1))
  · exact (congrFun (rfl : _ = headOut (bound 11 w) (cols 11 q) (cols 11 f) (cols 11 v) (slab 11 k0_pay3)) x).trans (outTile_at q f v w k0_pay3 11 x y h0 (by simpa using h1))
  · exact (congrFun (rfl : _ = headOut (bound 10 w) (cols 10 q) (cols 10 f) (cols 10 v) (slab 10 k0_pay3)) x).trans (outTile_at q f v w k0_pay3 10 x y h0 (by simpa using h1))
  · exact (congrFun (rfl : _ = headOut (bound 9 w) (cols 9 q) (cols 9 f) (cols 9 v) (slab 9 k0_pay3)) x).trans (outTile_at q f v w k0_pay3 9 x y h0 (by simpa using h1))
  · exact (congrFun (rfl : _ = headOut (bound 8 w) (cols 8 q) (cols 8 f) (cols 8 v) (slab 8 k0_pay3)) x).trans (outTile_at q f v w k0_pay3 8 x y h0 (by simpa using h1))
  · exact (congrFun (rfl : _ = headOut (bound 7 w) (cols 7 q) (cols 7 f) (cols 7 v) (slab 7 k0_pay3)) x).trans (outTile_at q f v w k0_pay3 7 x y h0 (by simpa using h1))
  · exact (congrFun (rfl : _ = headOut (bound 6 w) (cols 6 q) (cols 6 f) (cols 6 v) (slab 6 k0_pay3)) x).trans (outTile_at q f v w k0_pay3 6 x y h0 (by simpa using h1))
  · exact (congrFun (rfl : _ = headOut (bound 5 w) (cols 5 q) (cols 5 f) (cols 5 v) (slab 5 k0_pay3)) x).trans (outTile_at q f v w k0_pay3 5 x y h0 (by simpa using h1))
  · exact (congrFun (rfl : _ = headOut (bound 4 w) (cols 4 q) (cols 4 f) (cols 4 v) (slab 4 k0_pay3)) x).trans (outTile_at q f v w k0_pay3 4 x y h0 (by simpa using h1))
  · exact (congrFun (rfl : _ = headOut (bound 3 w) (cols 3 q) (cols 3 f) (cols 3 v) (slab 3 k0_pay3)) x).trans (outTile_at q f v w k0_pay3 3 x y h0 (by simpa using h1))
  · exact (congrFun (rfl : _ = headOut (bound 2 w) (cols 2 q) (cols 2 f) (cols 2 v) (slab 2 k0_pay3)) x).trans (outTile_at q f v w k0_pay3 2 x y h0 (by simpa using h1))
  · exact (congrFun (rfl : _ = headOut (bound 1 w) (cols 1 q) (cols 1 f) (cols 1 v) (slab 1 k0_pay3)) x).trans (outTile_at q f v w k0_pay3 1 x y h0 (by simpa using h1))
  · exact (congrFun (rfl : _ = headOut (bound 0 w) (cols 0 q) (cols 0 f) (cols 0 v) (slab 0 k0_pay3)) x).trans (outTile_at q f v w k0_pay3 0 x y h0 (by simpa using h1))

/-- The state left by the first grid point. -/
theorem stA (c : Dev nD) (t : Fin cfg0.N) (h0 : t.val % 32 = 0) : (outsAt0 m c t.val t.isLt).2 = stTile (iblk m c 1 t) (iblk m c 2 t) (iblk m c 3 t) k0_pay3 := by
  rw [outsAt0_A m c t h0]
  dsimp only
  frame_out
  simp (disch := decide) only [View.readCov_skip, View.readCov_fill]
  generalize (iblk m c 0 t) = q
  generalize (iblk m c 1 t) = f
  generalize (iblk m c 2 t) = v
  generalize (iblk m c 3 t) = w
  funext y
  refine View.canon_append_of_piecesOf (Val := Elt Ideal) (e := .f32) (stTile f v w k0_pay3) [_] [_, _, _, _, _, _, _, _, _, _, _, _, _, _, _, _]
    ⟨stTile_emb f v w k0_pay3 15 _ rfl, stTile_emb f v w k0_pay3 14 _ rfl, stTile_emb f v w k0_pay3 13 _ rfl, stTile_emb f v w k0_pay3 12 _ rfl,
      stTile_emb f v w k0_pay3 11 _ rfl, stTile_emb f v w k0_pay3 10 _ rfl, stTile_emb f v w k0_pay3 9 _ rfl, stTile_emb f v w k0_pay3 8 _ rfl,
      stTile_emb f v w k0_pay3 7 _ rfl, stTile_emb f v w k0_pay3 6 _ rfl, stTile_emb f v w k0_pay3 5 _ rfl, stTile_emb f v w k0_pay3 4 _ rfl,
      stTile_emb f v w k0_pay3 3 _ rfl, stTile_emb f v w k0_pay3 2 _ rfl, stTile_emb f v w k0_pay3 1 _ rfl, stTile_emb f v w k0_pay3 0 _ rfl, trivial⟩ y ?_
  have hy : (y 0).val < 16 := (y 0).isLt
  simp only [List.mem_cons, exists_eq_or_imp, exists_eq_left, List.not_mem_nil, false_and, exists_false, or_false]
  interval_cases hn : (y 0).val
  all_goals repeat first | exact Or.inl (slab_mem y _ _ hn) | exact slab_mem y _ _ hn | refine Or.inr ?_

end Cert.KernelIdeal.Final

end
-- ==== Proof.HgrnSpec.lean ====
/- One head of the recurrence, as functions of a row's and a channel's number: what the kernels and the references of both
   directions are shown to compute. -/
module

public import Idealize.ShloMosaic.Lib.Pipeline.ValueKit

@[expose] public section

noncomputable section

open Idealize.ShloMosaic

namespace Cert.Hgrn

/-- A head's operands: the gate's lower bound by channel; queries, forget logits and values by row and channel. -/
structure Head where
  low : ℕ → EReal
  q : ℕ → ℕ → EReal
  f : ℕ → ℕ → EReal
  v : ℕ → ℕ → EReal

namespace Head

variable (H : Head)

/-- The gate. -/
def gate (r k : ℕ) : EReal := H.low k + (1 - H.low k) * Ideal.logistic (H.f r k)

/-- The gate's logarithms, summed from the chunk's first row to this one. -/
def sum (r k : ℕ) : EReal := ∑ j ∈ Finset.range (r % 64 + 1), Ideal.log (H.gate (r - j) k)

/-- The query, decayed from the chunk's start. -/
def query (r k : ℕ) : EReal := H.q r k * Ideal.logistic (H.q r k) * Ideal.exp (H.sum r k)

/-- The key, decayed back to the chunk's start. -/
def key (r k : ℕ) : EReal := (1 - H.gate r k) * Ideal.exp (0 - H.sum r k)

/-- The key, decayed to the end of chunk `n`. -/
def last (n r k : ℕ) : EReal := (1 - H.gate r k) * Ideal.exp (H.sum (n * 64 + 63) k - H.sum r k)

/-- The state that enters chunk `n`. -/
def state : ℕ → ℕ → ℕ → EReal
  | 0, _, _ => 0
  | n + 1, k, d => state n k d * Ideal.exp (H.sum (n * 64 + 63) k)
      + ∑ s : Fin 64, H.v (n * 64 + s.val) d * H.last n (n * 64 + s.val) k

/-- The part of a result within its chunk. -/
def intra (r d : ℕ) : EReal := ∑ s : Fin 64, if s.val ≤ r % 64
  then (∑ k : Fin 128, H.query r k.val * H.key (r / 64 * 64 + s.val) k.val) * H.v (r / 64 * 64 + s.val) d else 0

/-- The reading of the state that enters the chunk. -/
def readout (r d : ℕ) : EReal := ∑ k : Fin 128, H.query r k.val * H.state (r / 64) k.val d

/-- The result. -/
def out (r d : ℕ) : EReal := H.intra r d + H.readout r d

end Head

/-- The lower bound of the gate: the first of the two layers' share of the exponentials. -/
def share (w : Fin 2 → EReal) : EReal :=
  Ideal.div (Ideal.exp (w 0 - max (w 0) (w 1))) (∑ x, Ideal.exp (w x - max (w 0) (w 1)))

/-- Head `h` of a pass over the input projection's rows in the order `row`, whose forget logits start at column `fo`. -/
def headOf (row : ℕ → Fin 8192) (fo : ℕ) (X : Fin 8192 → Fin 12288 → EReal) (W : Fin 2 → Fin 2048 → EReal) (h : ℕ) : Head where
  low d := share fun x => W x ⟨(h * 128 + d) % 2048, Nat.mod_lt _ (by decide)⟩
  q r d := X (row r) ⟨(2048 + (h * 128 + d)) % 12288, Nat.mod_lt _ (by decide)⟩
  f r d := X (row r) ⟨(fo + (h * 128 + d)) % 12288, Nat.mod_lt _ (by decide)⟩
  v r d := X (row r) ⟨(8192 + (h * 128 + d)) % 12288, Nat.mod_lt _ (by decide)⟩

/-- The rows in their order. -/
def ahead (r : ℕ) : Fin 8192 := ⟨r % 8192, Nat.mod_lt _ (by decide)⟩

/-- The rows from the last to the first. -/
def back (r : ℕ) : Fin 8192 := ⟨8191 - r, by omega⟩

/-- The word of minus infinity. -/
theorem negInf : Ideal.ofBits FTy.f32 4286578688#32 = (⊥ : EReal) := by simp [Ideal.ofBits, Ideal.ieee]

theorem fold_two (w : Fin 2 → EReal) : Finset.fold max (Ideal.ofBits FTy.f32 4286578688#32) w Finset.univ = max (w 0) (w 1) := by
  rw [negInf]
  rw [show (Finset.univ : Finset (Fin 2)) = {0, 1} from rfl, Finset.fold_insert (by decide), Finset.fold_singleton, max_bot_right]

/-- A sum over 256 rows of which only those of chunk `c` count. -/
theorem sum_chunk (c : Fin 4) (g : ℕ → EReal) :
    (∑ x : Fin 256, if x.val / 64 = c.val then g x.val else 0) = ∑ s : Fin 64, g (c.val * 64 + s.val) := by
  rw [← (finProdFinEquiv (m := 4) (n := 64)).sum_comp, Fintype.sum_prod_type]
  refine (Finset.sum_eq_single c (fun a _ h => Finset.sum_eq_zero fun s _ => if_neg ?_) (fun h => absurd (Finset.mem_univ c) h)).trans
    (Finset.sum_congr rfl fun s _ => ?_)
  · have hs := s.isLt
    have ha : a.val ≠ c.val := fun e => h (Fin.ext e)
    show ¬ (s.val + 64 * a.val) / 64 = c.val
    omega
  · have hs := s.isLt
    show (if (s.val + 64 * c.val) / 64 = c.val then g (s.val + 64 * c.val) else 0) = _
    rw [if_pos (by omega), show s.val + 64 * c.val = c.val * 64 + s.val by omega]

end Cert.Hgrn

end
-- ==== Proof.HgrnStages.lean ====
/- The stages of one head at an index: the kernel's head on a tile of 256 rows is rows `T … T + 255` of the head of
   HgrnSpec.lean. -/
module

public import proofs.«01_k».proof.Proof.HgrnHead
public import proofs.«01_k».proof.Proof.HgrnSpec

@[expose] public section

set_option maxRecDepth 16384

noncomputable section

open Idealize.ShloMosaic Idealize.ShloMosaic.TcCoe Idealize.SL.Sem
open Cert.Hgrn (Head)

namespace Cert.KernelIdeal.Final

open Cert.KernelIdeal Cert.KernelIdeal.Gen

theorem lower_at (w : FVec Ideal S2x128 .f32) (d : Fin 128) : lower w (ValueIdx.ix2 0 d) = Hgrn.share fun x => w (ValueIdx.ix2 x d) := by
  unfold lower
  pointwise []
  refine congrArg₂ Ideal.div ((Fintype.sum_unique _).trans ?_) (Finset.sum_congr rfl fun x _ => ?_)
  · exact congrArg (fun M => Ideal.exp (w (ValueIdx.ix2 0 d) - M)) (Hgrn.fold_two fun x => w (ValueIdx.ix2 x d))
  · exact congrArg (fun M => Ideal.exp (w (ValueIdx.ix2 x d) - M)) (Hgrn.fold_two fun x => w (ValueIdx.ix2 x d))

theorem gate_at (lb : FVec Ideal S1x128 .f32) (f : FVec Ideal S256x128 .f32) (r : Fin 256) (d : Fin 128) :
    gate lb f (ValueIdx.ix2 r d) = lb (ValueIdx.ix2 0 d) + (1 - lb (ValueIdx.ix2 0 d)) * Ideal.logistic (f (ValueIdx.ix2 r d)) := by
  pointwise [gate]
  rfl

theorem place_at (r : Fin 256) (d : Fin 128) : place (ValueIdx.ix2 r d) = BitVec.ofNat 32 (r.val % 64) := by
  refine (rfl : _ = place (ValueIdx.ix2 r 0)).trans ?_
  revert r
  decide +kernel

theorem keeps (p : Fin 64) : ∀ k : Fin 6, IntOp.cmpi .sge (BitVec.ofNat 32 p.val) (BitVec.ofNat 32 (2 ^ k.val))
    = if 2 ^ k.val ≤ p.val then 1#1 else 0#1 := by
  revert p
  decide +kernel

/-- A key's chunk, as the kernel computes it from the column's number. -/
def keyChunk : IVec S256x256 32 :=
  select (andi (cmpi .ne k0_pay6 k0_pay7)
      (cmpi .ne (remsi (iota .tc S256x256 32 [1] iota_S256x256_d1_w32) (broadcast S256x256 64#32)) (broadcast S256x256 0#32)))
    (subi k0_pay5 (broadcast S256x256 1#32)) k0_pay5

theorem rowChunk_at (r s : Fin 256) : k0_pay4 (ValueIdx.ix2 r s) = BitVec.ofNat 32 (r.val / 64) := by
  refine (rfl : _ = k0_pay4 (ValueIdx.ix2 r 0)).trans ?_
  revert r
  decide +kernel

theorem keyChunk_at (r s : Fin 256) : keyChunk (ValueIdx.ix2 r s) = BitVec.ofNat 32 (s.val / 64) := by
  refine (rfl : _ = keyChunk (ValueIdx.ix2 0 s)).trans ?_
  revert s
  decide +kernel

theorem mask_at (r s : Fin 256) : mask (ValueIdx.ix2 r s) = if s.val / 64 = r.val / 64 ∧ s.val ≤ r.val then 1#1 else 0#1 := by
  have hr := r.isLt
  have hs := s.isLt
  have hk : keyChunk (ValueIdx.ix2 r s) = BitVec.ofNat 32 (s.val / 64) := keyChunk_at r s
  unfold keyChunk at hk
  unfold mask k0_pay8
  pointwise [] at hk ⊢
  rw [hk, rowChunk_at, WordCmp.cmpi_eq_ofNat (by omega) (by omega)]
  show IntOp.andi _ (IntOp.cmpi .sle (BitVec.ofNat 32 s.val) (BitVec.ofNat 32 r.val)) = _
  rw [WordCmp.cmpi_sle_ofNat (by omega) (by omega)]
  by_cases h1 : r.val / 64 = s.val / 64 <;> by_cases h2 : s.val ≤ r.val <;> simp [h1, h2, eq_comm, IntOp.andi]

/-- A step of `s` rows adds the sum `s` rows above, where the chunk has that row. -/
theorem hop_at (k : Fin 6) (s : ℕ) (hs : s = 2 ^ k.val) (x : FVec Ideal S256x128 .f32) (r : Fin 256) (d : Fin 128) :
    hop (BitVec.ofNat 32 s) x (ValueIdx.ix2 r d) = x (ValueIdx.ix2 r d)
      + if s ≤ r.val % 64 then x (ValueIdx.ix2 ⟨r.val - s, Nat.lt_of_le_of_lt (Nat.sub_le _ _) r.isLt⟩ d) else 0 := by
  have hk : s < 64 := by subst hs; revert k; decide
  have hr := r.isLt
  have ht : (BitVec.ofNat 32 s).toNat = s := by rw [BitVec.toNat_ofNat]; omega
  have hm := keeps ⟨r.val % 64, by omega⟩ k
  rw [← hs] at hm
  unfold hop
  show x (ValueIdx.ix2 r d) + Scalar.select (IntOp.cmpi .sge (place (ValueIdx.ix2 r d)) (BitVec.ofNat 32 s))
    (dynamicRotate 0 (BitVec.ofNat 32 s) none x rotates_S256x128_d0 (ValueIdx.ix2 r d)) (Ideal.ofBits .f32 0x00000000#32) = _
  rw [place_at, hm]
  by_cases h : s ≤ r.val % 64
  · rw [if_pos h, if_pos h]
    refine congrArg (x (ValueIdx.ix2 r d) + ·) (congrArg x (funext fun b => ?_))
    match b with
    | ⟨0, _⟩ =>
      refine Fin.ext ?_
      show (r.val + 256 - (BitVec.ofNat 32 s).toNat % 256) % 256 = r.val - s
      rw [ht]
      omega
    | ⟨1, _⟩ => rfl
  · rw [if_neg h, if_neg h]
    exact congrArg (x (ValueIdx.ix2 r d) + ·) (by simp [Scalar.select, Ideal.ofBits, Ideal.ieee])

/-- `x` holds the sums of the last `n` rows of the chunk, of channel `d` of `g`. -/
def Sums (g : ℕ → ℕ → EReal) (n : ℕ) (x : FVec Ideal S256x128 .f32) : Prop :=
  ∀ (r : Fin 256) (d : Fin 128), x (ValueIdx.ix2 r d) = ∑ j ∈ Finset.range (min n (r.val % 64 + 1)), g (r.val - j) d.val

theorem Sums.hop {g : ℕ → ℕ → EReal} {x : FVec Ideal S256x128 .f32} (k : Fin 6) (s : ℕ) (hs : s = 2 ^ k.val) (h : Sums g s x) :
    Sums g (s + s) (hop (BitVec.ofNat 32 s) x) := by
  intro r d
  have hr := r.isLt
  rw [hop_at k s hs, h r d]
  by_cases hc : s ≤ r.val % 64
  · rw [if_pos hc, h]
    show _ + ∑ j ∈ Finset.range (min s ((r.val - s) % 64 + 1)), g (r.val - s - j) d.val = _
    rw [show min s (r.val % 64 + 1) = s by omega,
      show min (s + s) (r.val % 64 + 1) = s + min s ((r.val - s) % 64 + 1) by omega, Finset.sum_range_add]
    exact congrArg _ (Finset.sum_congr rfl fun j _ => by rw [Nat.sub_sub])
  · rw [if_neg hc, add_zero, show min (s + s) (r.val % 64 + 1) = min s (r.val % 64 + 1) by omega]

theorem cumul_at (g : ℕ → ℕ → EReal) (L : FVec Ideal S256x128 .f32) (hL : ∀ (r : Fin 256) (d : Fin 128), L (ValueIdx.ix2 r d) = g r.val d.val)
    (r : Fin 256) (d : Fin 128) : cumul L (ValueIdx.ix2 r d) = ∑ j ∈ Finset.range (r.val % 64 + 1), g (r.val - j) d.val := by
  have h0 : Sums g 1 L := fun r d => by
    rw [show min 1 (r.val % 64 + 1) = 1 by omega, Finset.sum_range_one]
    exact hL r d
  refine ((((((h0.hop 0 1 rfl).hop 1 2 rfl).hop 2 4 rfl).hop 3 8 rfl).hop 4 16 rfl).hop 5 32 rfl r d).trans ?_
  rw [show min (32 + 32) (r.val % 64 + 1) = r.val % 64 + 1 by omega]

end Cert.KernelIdeal.Final

end
-- ==== Proof.HgrnTile.lean ====
/- One head on a tile of 256 rows is rows `T … T + 255` of the head of HgrnSpec.lean. -/
module

public import proofs.«01_k».proof.Proof.HgrnStages

@[expose] public section

set_option maxRecDepth 16384

noncomputable section

open Idealize.ShloMosaic Idealize.ShloMosaic.TcCoe Idealize.SL.Sem
open Cert.Hgrn (Head)

namespace Cert.KernelIdeal.Final

open Cert.KernelIdeal Cert.KernelIdeal.Gen

/-- A tile's operands are the head's from row `T` on. -/
structure Fits (H : Head) (T : ℕ) (w : FVec Ideal S2x128 .f32) (q f v : FVec Ideal S256x128 .f32) : Prop where
  start : T % 64 = 0
  low : ∀ d : Fin 128, lower w (ValueIdx.ix2 0 d) = H.low d.val
  q : ∀ (r : Fin 256) (d : Fin 128), q (ValueIdx.ix2 r d) = H.q (T + r.val) d.val
  f : ∀ (r : Fin 256) (d : Fin 128), f (ValueIdx.ix2 r d) = H.f (T + r.val) d.val
  v : ∀ (r : Fin 256) (d : Fin 128), v (ValueIdx.ix2 r d) = H.v (T + r.val) d.val

variable {H : Head} {T : ℕ} {w : FVec Ideal S2x128 .f32} {q f v : FVec Ideal S256x128 .f32} (hf : Fits H T w q f v)

include hf

theorem gateOf_at (r : Fin 256) (d : Fin 128) : gateOf w f (ValueIdx.ix2 r d) = H.gate (T + r.val) d.val := by
  unfold gateOf
  rw [gate_at, hf.low, hf.f]
  rfl

theorem sumOf_at (r : Fin 256) (d : Fin 128) : sumOf w f (ValueIdx.ix2 r d) = H.sum (T + r.val) d.val := by
  have hT := hf.start
  unfold sumOf
  refine (cumul_at (fun r k => Ideal.log (H.gate (T + r) k)) _ (fun r d => ?_) r d).trans ?_
  · exact congrArg Ideal.log (gateOf_at hf r d)
  · unfold Head.sum
    rw [show (T + r.val) % 64 = r.val % 64 by omega]
    refine Finset.sum_congr rfl fun j hj => ?_
    have := Finset.mem_range.1 hj
    rw [show T + r.val - j = T + (r.val - j) by omega]

theorem query_at (r : Fin 256) (d : Fin 128) : qDecay q (sumOf w f) (ValueIdx.ix2 r d) = H.query (T + r.val) d.val := by
  have hb := sumOf_at hf r d
  generalize sumOf w f = b at hb ⊢
  pointwise [qDecay]
  rw [hb, hf.q]
  rfl

theorem key_at (r : Fin 256) (d : Fin 128) : kDecay (inv (gateOf w f)) (sumOf w f) (ValueIdx.ix2 r d) = H.key (T + r.val) d.val := by
  have hb := sumOf_at hf r d
  have hg := gateOf_at hf r d
  generalize sumOf w f = b at hb ⊢
  generalize gateOf w f = g at hg ⊢
  pointwise [kDecay, inv]
  rw [hb, hg]
  rfl

theorem vals_at (r : Fin 256) (d : Fin 128) : vals v (ValueIdx.ix2 r d) = H.v (T + r.val) d.val := hf.v r d

theorem last_at (c : Fin 4) (i : Fin 64) (d : Fin 128) : kEnd (inv (gateOf w f)) (sumOf w f) (ValueIdx.ix3 c i d)
    = H.last (T / 64 + c.val) ((T / 64 + c.val) * 64 + i.val) d.val := by
  have hT := hf.start
  have hc := c.isLt
  have hi := i.isLt
  have hb := sumOf_at hf
  have hg := gateOf_at hf
  generalize sumOf w f = b at hb ⊢
  generalize gateOf w f = g at hg ⊢
  pointwise [kEnd, chunks, whole, inv]
  have e : T + (c.val * 64 + i.val) = (T / 64 + c.val) * 64 + i.val := by omega
  have e' : T + (c.val * 64 + 63) = (T / 64 + c.val) * 64 + 63 := by omega
  have h1 := hb ⟨c.val * 64 + i.val, by omega⟩ d
  have h2 := hb ⟨c.val * 64 + 63, by omega⟩ d
  have h3 := hg ⟨c.val * 64 + i.val, by omega⟩ d
  simp only [e, e'] at h1 h2 h3
  exact congrArg₂ (· * ·) (congrArg (1 - ·) h3) (congrArg Ideal.exp (congrArg₂ (· - ·) h2 h1))

theorem decay_at (c : Fin 4) (d : Fin 128) : decay (sumOf w f) (ValueIdx.ix3 c 0 d)
    = Ideal.exp (H.sum ((T / 64 + c.val) * 64 + 63) d.val) := by
  have hT := hf.start
  have hc := c.isLt
  have hb := sumOf_at hf
  generalize sumOf w f = b at hb ⊢
  pointwise [decay, chunks, whole]
  have h2 := hb ⟨c.val * 64 + 63, by omega⟩ d
  simp only [show T + (c.val * 64 + 63) = (T / 64 + c.val) * 64 + 63 by omega] at h2
  exact congrArg Ideal.exp h2

omit hf in
/-- The state holds the head's, values by keys. -/
def Holds (H : Head) (n : ℕ) (S : FVec Ideal S128x128 .f32) : Prop :=
  ∀ i k : Fin 128, S (ValueIdx.ix2 i k) = H.state n k.val i.val

theorem next_at (c : Fin 4) (n : ℕ) (hn : n = c.val) (r : ℕ) (hr : r = n * 64) (hv : S256x128.Slices ![r, 0] S64x128)
    (hk : S4x64x128.Slices ![n, 0, 0] S1x64x128) (hd : S4x1x128.Slices ![n, 0, 0] S1x1x128) (S : FVec Ideal S128x128 .f32)
    (hS : Holds H (T / 64 + n) S) :
    Holds H (T / 64 + n + 1) (next n r hv hk hd (vals v) (kEnd (inv (gateOf w f)) (sumOf w f)) (decay (sumOf w f)) S) := by
  intro i k
  subst hn hr
  have hT := hf.start
  have hc := c.isLt
  have h1 := decay_at hf c k
  have h2 := fun s => last_at hf c s k
  have h3 := vals_at hf
  generalize kEnd _ _ = ke at h2 ⊢
  generalize decay _ = dc at h1 ⊢
  generalize vals v = vb at h3 ⊢
  pointwise [next]
  refine congrArg₂ (· + ·) (congrArg₂ (· * ·) (hS i k) h1) (Finset.sum_congr rfl fun s _ => congrArg₂ (· * ·) ?_ (h2 s))
  have hs := s.isLt
  refine (h3 ⟨c.val * 64 + s.val, by omega⟩ i).trans ?_
  show H.v (T + (c.val * 64 + s.val)) i.val = _
  rw [show T + (c.val * 64 + s.val) = (T / 64 + c.val) * 64 + s.val by omega]

theorem intra_at (r : Fin 256) (d : Fin 128) :
    intra (qDecay q (sumOf w f)) (kDecay (inv (gateOf w f)) (sumOf w f)) (vals v) (ValueIdx.ix2 r d) = H.intra (T + r.val) d.val := by
  have hT := hf.start
  have hr := r.isLt
  have h1 := query_at hf r
  have h2 := key_at hf
  have h3 := vals_at hf
  have h4 := mask_at r
  generalize qDecay _ _ = qd at h1 ⊢
  generalize kDecay _ _ = kd at h2 ⊢
  generalize vals v = vb at h3 ⊢
  unfold intra
  generalize mask = M at h4 ⊢
  pointwise []
  unfold Head.intra
  rw [show (T + r.val) % 64 = r.val % 64 by omega, show (T + r.val) / 64 * 64 = T + r.val / 64 * 64 by omega]
  refine Eq.trans ?_ (Hgrn.sum_chunk ⟨r.val / 64, by omega⟩ (fun x => if x % 64 ≤ r.val % 64
    then (∑ k : Fin 128, H.query (T + r.val) k.val * H.key (T + x) k.val) * H.v (T + x) d.val else 0) |>.trans ?_)
  · refine Finset.sum_congr rfl fun x _ => ?_
    have e : (∑ k, qd (ValueIdx.ix2 r k) * kd (ValueIdx.ix2 x k)) * vb (ValueIdx.ix2 x d)
        = (∑ k : Fin 128, H.query (T + r.val) k.val * H.key (T + x.val) k.val) * H.v (T + x.val) d.val := by
      rw [h3]
      exact congrArg (· * _) (Finset.sum_congr rfl fun k _ => congrArg₂ (· * ·) (h1 k) (h2 x k))
    refine (congrArg₂ (fun a b => Scalar.select a b (0 : EReal)) (h4 x) e).trans ?_
    by_cases ha : x.val / 64 = r.val / 64
    · by_cases hb : x.val ≤ r.val
      · rw [if_pos ⟨ha, hb⟩, if_pos ha, if_pos (by omega)]
        exact if_pos rfl
      · rw [if_neg (fun h => hb h.2), if_pos ha, if_neg (by omega)]
        exact if_neg (by decide)
    · rw [if_neg (fun h => ha h.1), if_neg ha]
      exact if_neg (by decide)
  · refine Finset.sum_congr rfl fun s _ => ?_
    have hs := s.isLt
    show (if (r.val / 64 * 64 + s.val) % 64 ≤ r.val % 64 then _ else _) = _
    rw [show (r.val / 64 * 64 + s.val) % 64 = s.val by omega, show T + (r.val / 64 * 64 + s.val) = T + r.val / 64 * 64 + s.val by omega]

theorem readout_at (c : Fin 4) (r : ℕ) (hr : r = c.val * 64) (h : S256x128.Slices ![r, 0] S64x128) (S : FVec Ideal S128x128 .f32)
    (hS : Holds H (T / 64 + c.val) S) (i : Fin 64) (d : Fin 128) :
    readout r h (qDecay q (sumOf w f)) S (ValueIdx.ix2 i d) = H.readout (T + (r + i.val)) d.val := by
  subst hr
  have hT := hf.start
  have hc := c.isLt
  have hi := i.isLt
  have h1 := query_at hf ⟨c.val * 64 + i.val, by omega⟩
  generalize qDecay _ _ = qd at h1 ⊢
  pointwise [readout]
  unfold Head.readout
  rw [show (T + (c.val * 64 + i.val)) / 64 = T / 64 + c.val by omega]
  exact Finset.sum_congr rfl fun k _ => congrArg₂ (· * ·) (h1 k) (hS d k)

variable {S : FVec Ideal S1x128x128 .f32} (hS : ∀ i k : Fin 128, S (ValueIdx.ix3 0 i k) = H.state (T / 64) k.val i.val)

include hS

omit hf in
theorem flat_at : Holds H (T / 64 + 0) (flat S) := by
  intro i k
  pointwise [flat]
  exact hS i k

theorem state1_at : Holds H (T / 64 + 1) (state1 (vals v) (kEnd (inv (gateOf w f)) (sumOf w f)) (decay (sumOf w f)) (flat S)) :=
  next_at hf 0 0 rfl 0 rfl _ _ _ _ (flat_at hS)
theorem state2_at : Holds H (T / 64 + 2) (state2 (vals v) (kEnd (inv (gateOf w f)) (sumOf w f)) (decay (sumOf w f)) (flat S)) :=
  next_at hf 1 1 rfl 64 rfl _ _ _ _ (state1_at hf hS)
theorem state3_at : Holds H (T / 64 + 3) (state3 (vals v) (kEnd (inv (gateOf w f)) (sumOf w f)) (decay (sumOf w f)) (flat S)) :=
  next_at hf 2 2 rfl 128 rfl _ _ _ _ (state2_at hf hS)
theorem state4_at : Holds H (T / 64 + 4) (state4 (vals v) (kEnd (inv (gateOf w f)) (sumOf w f)) (decay (sumOf w f)) (flat S)) :=
  next_at hf 3 3 rfl 192 rfl _ _ _ _ (state3_at hf hS)

/-- The state a tile leaves. -/
theorem headState_at (i k : Fin 128) : headState w f v S (ValueIdx.ix3 0 i k) = H.state (T / 64 + 4) k.val i.val := by
  have h := state4_at hf hS i k
  unfold headState
  generalize state4 _ _ _ _ = Z at h ⊢
  pointwise []
  exact h

/-- The result on a tile. -/
theorem headOut_at (r : Fin 256) (d : Fin 128) : headOut w q f v S (ValueIdx.ix2 r d) = H.out (T + r.val) d.val := by
  have hr := r.isLt
  have hi := intra_at hf r d
  have h0 := fun i => readout_at hf 0 0 rfl slices_S256x128_o0_0_S64x128 _ (flat_at hS) i d
  have h1 := fun i => readout_at hf 1 64 rfl slices_S256x128_o64_0_S64x128 _ (state1_at hf hS) i d
  have h2 := fun i => readout_at hf 2 128 rfl slices_S256x128_o128_0_S64x128 _ (state2_at hf hS) i d
  have h3 := fun i => readout_at hf 3 192 rfl slices_S256x128_o192_0_S64x128 _ (state3_at hf hS) i d
  unfold headOut tile
  generalize intra _ _ _ = I at hi ⊢
  generalize readout 0 _ _ _ = R0 at h0 ⊢
  generalize readout 64 _ _ _ = R1 at h1 ⊢
  generalize readout 128 _ _ _ = R2 at h2 ⊢
  generalize readout 192 _ _ _ = R3 at h3 ⊢
  pointwise []
  refine congrArg₂ (· + ·) hi ?_
  by_cases a0 : r.val < 64
  · refine (dif_pos a0).trans ((h0 ⟨r.val, a0⟩).trans ?_)
    rw [Nat.zero_add]
  refine (dif_neg a0).trans ?_
  by_cases a1 : r.val - 64 < 64
  · refine (dif_pos a1).trans ((h1 ⟨r.val - 64, a1⟩).trans ?_)
    rw [show 64 + (r.val - 64) = r.val by omega]
  refine (dif_neg a1).trans ?_
  by_cases a2 : r.val - 64 - 64 < 64
  · refine (dif_pos a2).trans ((h2 ⟨r.val - 64 - 64, a2⟩).trans ?_)
    rw [show 128 + (r.val - 64 - 64) = r.val by omega]
  refine (dif_neg a2).trans ((h3 ⟨r.val - 64 - 64 - 64, by omega⟩).trans ?_)
  rw [show 192 + (r.val - 64 - 64 - 64) = r.val by omega]

end Cert.KernelIdeal.Final

end
-- ==== Proof.Hgrn.lean ====
/- The forward recurrence: its 32 grid points take the rows in order, 256 at a time, and hand the heads' states on. -/
module

public import proofs.«01_k».proof.Proof.HgrnPoint
public import proofs.«01_k».proof.Proof.HgrnTile
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Hgrn (Head headOf ahead)

namespace Cert.KernelIdeal.Final

open Cert.KernelIdeal Cert.KernelIdeal.Gen

variable (m : (ℓ : Loc nD τ sig) → Buf (Elt Ideal) ℓ)

/-- Where each window's block lies at a grid point. -/
theorem idx : ∀ t : Fin cfg0.N, win0_0.index t = ![t.val, 1] ∧ win0_1.index t = ![t.val, 2] ∧ win0_2.index t = ![t.val, 4]
    ∧ win0_3.index t = ![0, 0] ∧ win0_4.index t = ![t.val, 0] :=
  (by decide +kernel : ∀ t : Fin grid0.N, _)

/-- The heads of the launch's arguments. -/
def head (X : FVec Ideal S8192x12288 .f32) (W : FVec Ideal S2x2048 .f32) (h : ℕ) : Head :=
  headOf ahead 4096 (fun r k => X (ValueIdx.ix2 r k)) (fun r k => W (ValueIdx.ix2 r k)) h

/-- The heads' results side by side. -/
def heads (X : FVec Ideal S8192x12288 .f32) (W : FVec Ideal S2x2048 .f32) : FVec Ideal S8192x2048 .f32 :=
  fun y => (head X W ((y 1).val / 128)).out (y 0).val ((y 1).val % 128)

theorem cols_at (h : Fin 16) (A : FVec Ideal S256x2048 .f32) (r : Fin 256) (d : Fin 128) :
    cols h A (ValueIdx.ix2 r d) = A (ValueIdx.ix2 r ⟨h.val * 128 + d.val, by omega⟩) := by
  refine congrArg A (funext fun a => ?_)
  match a with
  | ⟨0, _⟩ => exact Fin.ext ((Rect.idx_unit_val ..).trans (Nat.zero_add _))
  | ⟨1, _⟩ => exact Fin.ext (Rect.idx_unit_val ..)

theorem bound_at (h : Fin 16) (A : FVec Ideal S2x2048 .f32) (r : Fin 2) (d : Fin 128) :
    bound h A (ValueIdx.ix2 r d) = A (ValueIdx.ix2 r ⟨h.val * 128 + d.val, by omega⟩) := by
  refine congrArg A (funext fun a => ?_)
  match a with
  | ⟨0, _⟩ => exact Fin.ext ((Rect.idx_unit_val ..).trans (Nat.zero_add _))
  | ⟨1, _⟩ => exact Fin.ext (Rect.idx_unit_val ..)

theorem slab_at (h : Fin 16) (A : FVec Ideal S16x128x128 .f32) (i k : Fin 128) :
    slab h A (ValueIdx.ix3 0 i k) = A (ValueIdx.ix3 h i k) := by
  refine congrArg A (funext fun a => ?_)
  match a with
  | ⟨0, _⟩ => exact Fin.ext ((Rect.idx_unit_val ..).trans (Nat.add_zero _))
  | ⟨1, _⟩ => exact Fin.ext ((Rect.idx_unit_val ..).trans (Nat.zero_add _))
  | ⟨2, _⟩ => exact Fin.ext ((Rect.idx_unit_val ..).trans (Nat.zero_add _))

theorem q_at (c : Dev nD) (t : Fin cfg0.N) (r : Fin 256) (e : Fin 2048) (a : Fin 8192) (b : Fin 12288) (ha : a.val = 256 * t.val + r.val)
    (hb : b.val = 2048 + e.val) : iblk m c 0 t (ValueIdx.ix2 r e) = m ((c : Thread nD τ).loc main_arg0) (ValueIdx.ix2 a b) := by
  blk_point [iblk, V, idx t]
  · show t.val * 256 + r.val = a.val; omega
  · exact (by omega : 1 * 2048 + e.val = b.val)

theorem f_at (c : Dev nD) (t : Fin cfg0.N) (r : Fin 256) (e : Fin 2048) (a : Fin 8192) (b : Fin 12288) (ha : a.val = 256 * t.val + r.val)
    (hb : b.val = 4096 + e.val) : iblk m c 1 t (ValueIdx.ix2 r e) = m ((c : Thread nD τ).loc main_arg0) (ValueIdx.ix2 a b) := by
  blk_point [iblk, V, idx t]
  · show t.val * 256 + r.val = a.val; omega
  · exact (by omega : 2 * 2048 + e.val = b.val)

theorem v_at (c : Dev nD) (t : Fin cfg0.N) (r : Fin 256) (e : Fin 2048) (a : Fin 8192) (b : Fin 12288) (ha : a.val = 256 * t.val + r.val)
    (hb : b.val = 8192 + e.val) : iblk m c 2 t (ValueIdx.ix2 r e) = m ((c : Thread nD τ).loc main_arg0) (ValueIdx.ix2 a b) := by
  blk_point [iblk, V, idx t]
  · show t.val * 256 + r.val = a.val; omega
  · exact (by omega : 4 * 2048 + e.val = b.val)

theorem w_at (c : Dev nD) (t : Fin cfg0.N) (r : Fin 2) (e : Fin 2048) :
    iblk m c 3 t (ValueIdx.ix2 r e) = m ((c : Thread nD τ).loc main_arg1) (ValueIdx.ix2 r e) := by
  blk_point [iblk, V, idx t]

/-- A grid point's blocks, a head's columns of them, are the head's from the point's first row on. -/
theorem fits (c : Dev nD) (t : Fin cfg0.N) (h : Fin 16) :
    Fits (head (m ((c : Thread nD τ).loc main_arg0)) (m ((c : Thread nD τ).loc main_arg1)) h.val) (256 * t.val)
      (bound h (iblk m c 3 t)) (cols h (iblk m c 0 t)) (cols h (iblk m c 1 t)) (cols h (iblk m c 2 t)) where
  start := by omega
  low d := by
    rw [lower_at]
    refine congrArg Hgrn.share (funext fun x => ?_)
    rw [bound_at, w_at m c t]
    exact congrArg _ (congrArg (ValueIdx.ix2 x) (Fin.ext (by show _ = _ % 2048; dsimp only; omega)))
  q r d := by
    have := t.isLt.trans_eq (show cfg0.N = 32 from rfl)
    exact (cols_at ..).trans (q_at m c t _ _ _ _ (by show _ % 8192 = _; omega) (by show _ % 12288 = _; dsimp only; omega))
  f r d := by
    have := t.isLt.trans_eq (show cfg0.N = 32 from rfl)
    exact (cols_at ..).trans (f_at m c t _ _ _ _ (by show _ % 8192 = _; omega) (by show _ % 12288 = _; dsimp only; omega))
  v r d := by
    have := t.isLt.trans_eq (show cfg0.N = 32 from rfl)
    exact (cols_at ..).trans (v_at m c t _ _ _ _ (by show _ % 8192 = _; omega) (by show _ % 12288 = _; dsimp only; omega))

/-- The states a grid point enters with. -/
def Enters (c : Dev nD) (T : ℕ) (S : FVec Ideal S16x128x128 .f32) : Prop :=
  ∀ (h : Fin 16) (i k : Fin 128), slab h S (ValueIdx.ix3 0 i k)
    = (head (m ((c : Thread nD τ).loc main_arg0)) (m ((c : Thread nD τ).loc main_arg1)) h.val).state (T / 64) k.val i.val

/-- The states the first point enters with: none yet. -/
theorem enters_zero (c : Dev nD) : Enters m c (256 * 0) (k0_pay3 (F := Ideal)) := fun h i k => by
  rw [slab_at]
  exact (show k0_pay3 (F := Ideal) (ValueIdx.ix3 h i k) = 0 by pointwise [k0_pay3])

/-- The states a grid point leaves are those the next one enters with. -/
theorem enters_next (c : Dev nD) (t : Fin cfg0.N) {S} (hS : Enters m c (256 * t.val) S) :
    Enters m c (256 * (t.val + 1)) (stTile (iblk m c 1 t) (iblk m c 2 t) (iblk m c 3 t) S) := fun h i k => by
  rw [slab_at]
  refine (headState_at (fits m c t h) (hS h) i k).trans ?_
  rw [show 256 * t.val / 64 + 4 = 256 * (t.val + 1) / 64 by omega]

/-- The states after a grid point. -/
theorem states (c : Dev nD) : ∀ (n : ℕ) (hn : n < cfg0.N), Enters m c (256 * (n + 1)) (outsAt0 m c n hn).2
  | 0, hn => by
    rw [show (outsAt0 m c 0 hn).2 = _ from stA m c ⟨0, hn⟩ rfl]
    exact enters_next m c ⟨0, hn⟩ (enters_zero m c)
  | n + 1, hn => by
    rw [show (outsAt0 m c (n + 1) hn).2 = _ from stB m c ⟨n + 1, hn⟩ (by have := hn.trans_eq (show cfg0.N = 32 from rfl); dsimp only; omega)]
    exact enters_next m c ⟨n + 1, hn⟩ (states c n _)

/-- A grid point's result. -/
theorem out_at (c : Dev nD) (t : Fin cfg0.N) {S} (hS : Enters m c (256 * t.val) S) (r : Fin 256) (e : Fin 2048) :
    outTile (iblk m c 0 t) (iblk m c 1 t) (iblk m c 2 t) (iblk m c 3 t) S (ValueIdx.ix2 r e)
      = (head (m ((c : Thread nD τ).loc main_arg0)) (m ((c : Thread nD τ).loc main_arg1)) (e.val / 128)).out (256 * t.val + r.val) (e.val % 128) :=
  headOut_at (fits m c t ⟨e.val / 128, by omega⟩) (hS ⟨e.val / 128, by omega⟩) r ⟨e.val % 128, Nat.mod_lt _ (by decide)⟩

/-- The output block after a grid point. -/
theorem block_at (c : Dev nD) (t : Fin cfg0.N) (r : Fin 256) (e : Fin 2048) :
    (outsAt0 m c t.val t.isLt).1 (ValueIdx.ix2 r e)
      = (head (m ((c : Thread nD τ).loc main_arg0)) (m ((c : Thread nD τ).loc main_arg1)) (e.val / 128)).out (256 * t.val + r.val) (e.val % 128) := by
  have hN := t.isLt.trans_eq (show cfg0.N = 32 from rfl)
  by_cases h0 : t.val % 32 = 0
  · rw [outA m c t h0]
    exact out_at m c t ((show t.val = 0 by omega) ▸ enters_zero m c) r e
  · rw [outB m c t h0]
    refine out_at m c t ?_ r e
    have := states m c (t.val - 1) (Nat.lt_of_le_of_lt (Nat.sub_le _ _) t.isLt)
    rwa [show t.val - 1 + 1 = t.val by omega] at this

/-- The launch leaves the heads' results. -/
theorem final (c : Dev nD) : (dats m 0 c).arrAt 4 cfg0.N
    = heads (m ((c : Thread nD τ).loc main_arg0)) (m ((c : Thread nD τ).loc main_arg1)) := by
  refine (dats m 0 c).arrAt_eq_of_covers 4 _ (by decide +kernel) fun t _ y => ?_
  blk_simp
  rw [after0_4]
  frame_out
  idx_vars y
  refine (block_at m c t y0 y1).trans ?_
  have h : ((View.whole main_v0).slice (win0_4.rect t)).emb (ValueIdx.ix2 y0 y1)
      = ValueIdx.ix2 ⟨256 * t.val + y0.val, by have := t.isLt.trans_eq (show cfg0.N = 32 from rfl); omega⟩ y1 := by
    blk_point [idx t]
    show t.val * 256 + y0.val = 256 * t.val + y0.val
    omega
  exact (congrArg (heads _ _) h).symm

end Cert.KernelIdeal.Final

end
-- ==== Proof.HgrnRun.lean ====
/- The run of the forward reference: the loop over the chunks, as states of Gen/ReferenceIdeal/Step.lean. -/
module

public import proofs.«01_k».proof.Proof.Gen.ReferenceIdeal.Run
public import proofs.«01_k».proof.Proof.Gen.ReferenceIdeal.Step
public import Idealize.ShloMosaic.Lib.Pipeline.ValueKit

@[expose] public section

noncomputable section

open Idealize.ShloMosaic Idealize.ShloMosaic.TcCoe Idealize.SL.Sem Idealize.ShloMosaic.StableHlo

namespace Cert.ReferenceIdeal.Trips

open Cert.ReferenceIdeal Cert.ReferenceIdeal.Gen Cert.ReferenceIdeal.Value
open Cert.ReferenceIdeal.Step (State step init b26 b35 R_main_v77)

variable {F : FTy → Type} [FloatOps F]

variable (m : (ℓ : Loc nD τ sig) → Buf (Elt F) ℓ) (c : Dev nD)

/-- The loop's buffers before trip `n` are the fields of the state `s`. -/
structure Carries (V : Valuation τ sig (Elt F)) (s : State F) (n : ℕ) : Prop where
  state : V (Proc.devRef .tc main_v74_5) = s.main_v74_5
  rows : V (Proc.devRef .tc main_v74_6) = s.main_v74_6
  decay : V (Proc.devRef .tc main_v74_0) = s.main_v74_0
  incr : V (Proc.devRef .tc main_v74_1) = s.main_v74_1
  query : V (Proc.devRef .tc main_v74_2) = s.main_v74_2
  intra : V (Proc.devRef .tc main_v74_3) = s.main_v74_3
  count : V (Proc.devRef .tc main_v74_4) = constantI S_ 32 (BitVec.ofNat 32 n)

variable {V : Valuation τ sig (Elt F)} {s : State F} {n : ℕ}

set_option maxRecDepth 8192 in
theorem state_next (h : Carries V s n) : step_main_v74_5 V = b26 n s := by
  unfold step_main_v74_5
  simp only [h.decay, h.incr, h.state, h.count]
  rfl

set_option maxRecDepth 8192 in
theorem rows_next (h : Carries V s n) : step_main_v74_6 V = b35 n s := by
  unfold step_main_v74_6
  simp only [h.rows, h.query, h.intra, h.state, h.count]
  rfl

theorem count_next (h : Carries V s n) : step_main_v74_4 V = constantI S_ 32 (BitVec.ofNat 32 (n + 1)) := by
  unfold step_main_v74_4
  rw [h.count, BitVec.ofNat_add]
  rfl

/-- A trip takes the buffers to the next state. -/
theorem Carries.next (h : Carries V s n) : Carries (STEP V) (step n s) (n + 1) where
  state := (STEP_main_v74_5 V).trans (state_next h)
  rows := (STEP_main_v74_6 V).trans (rows_next h)
  decay := (STEP_main_v74_0 V).trans h.decay
  incr := (STEP_main_v74_1 V).trans h.incr
  query := (STEP_main_v74_2 V).trans h.query
  intra := (STEP_main_v74_3 V).trans h.intra
  count := (STEP_main_v74_4 V).trans (count_next h)

/-- The state before trip `n`. -/
def at_ (n : ℕ) : State F :=
  n.rec (init (m ((c.tc : Thread nD τ).loc main_arg0)) (m ((c.tc : Thread nD τ).loc main_arg1))) fun k s => step k s

set_option maxRecDepth 65536 in
set_option maxHeartbeats 700000 in
theorem carries_init : Carries (entryContents preI m c) (init (m ((c.tc : Thread nD τ).loc main_arg0)) (m ((c.tc : Thread nD τ).loc main_arg1))) 0 := by
  constructor <;> (simp only [entryContents, afterL_cons, afterL_nil]; after_reads_simp) <;> rfl

theorem carries (k : ℕ) : Carries (STEP^[k] (entryContents preI m c)) (at_ m c k) k := by
  induction k with
  | zero => exact carries_init m c
  | succ k ih => rw [Function.iterate_succ_apply']; exact ih.next

set_option maxRecDepth 8192 in
theorem result (h : Carries V s n) : out_main_v77 V = R_main_v77 s := by
  unfold out_main_v77 R_main_v77
  rw [h.rows]
  rfl

/-- The reference ends with the rows of the state after all 128 trips, and its arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v77) = R_main_v77 (at_ m c 128)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result (carries m c 128)), (h c).2.1, (h c).2.2⟩) (Value.run m ρ)

end Cert.ReferenceIdeal.Trips

end
-- ==== Proof.HgrnSums.lean ====
/- Sums over a window, and the running sum within a chunk of 64 rows. -/
module

public import proofs.«01_k».proof.Proof.HgrnSpec
public import Idealize.ShloMosaic.Lib.Pipeline.ValueKit

@[expose] public section

set_option maxRecDepth 16384

noncomputable section

open Idealize.ShloMosaic Idealize.ShloMosaic.TcCoe Idealize.SL.Sem

namespace Cert.Hgrn

/-- A left fold of additions is the sum of what it adds. -/
theorem foldl_sum {n : ℕ} (g : Fin n → EReal) (z : EReal) : (List.finRange n).foldl (fun r i => r + g i) z = z + ∑ i, g i := by
  have h : ∀ (l : List (Fin n)) (z : EReal), l.foldl (fun r i => r + g i) z = z + (l.map g).sum := by
    intro l
    induction l with
    | nil => intro z; simp
    | cons a l ih => intro z; rw [List.foldl_cons, ih, List.map_cons, List.sum_cons, add_assoc]
  rw [h, ← List.ofFn_eq_map, List.sum_ofFn]

/-- A window's sum: over the window's places, the entry there, or the initial value outside. -/
theorem window_sum {s t u : Shape} (window strides lo hi : Fin s.rank → ℕ) (x : FVec Ideal s .f32) (z : FVec Ideal u .f32)
    (h : s.ReduceWindows window strides lo hi t) (hu : 0 < u.numel) (hz : z (Shape.Idx.first hu) = (0 : EReal)) (j : t.Idx) :
    Host.reduceWindowAdd window strides lo hi x z h hu j = ∑ w : (⟨s.rank, window⟩ : Shape).Idx,
      (if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else (0 : EReal)) := by
  unfold Host.reduceWindowAdd
  rw [Ideal.hostReduceWindowAdd_def]
  unfold Ideal.hostReduceWindowAdd Host.reduceWindow
  dsimp only
  rw [hz]
  refine (foldl_sum _ _).trans ?_
  rw [zero_add]
  refine (Fintype.sum_congr _ _ fun i => ?_).trans (Equiv.sum_comp (⟨s.rank, window⟩ : Shape).rowMajor.symm (fun w : (⟨s.rank, window⟩ : Shape).Idx =>
    (if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else (0 : EReal))))
  exact dite_congr rfl (fun _ => rfl) (fun _ => rfl)

/-- The places of a chunk's window are those along its rows. -/
def chunkAt : (⟨5, ![1, 1, 64, 1, 1]⟩ : Shape).Idx ≃ Fin 64 where
  toFun w := w 2
  invFun r := ValueIdx.ix5 (0 : Fin 1) (0 : Fin 1) r (0 : Fin 1) (0 : Fin 1)
  left_inv w := funext fun a => by
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv r := rfl

/-- The running sum within a chunk: row `i` holds the sum of the rows up to it. -/
theorem chunk_sum {u : Shape} (x : FVec Ideal ⟨5, ![1, 128, 64, 16, 128]⟩ .f32) (z : FVec Ideal u .f32)
    (hr : (⟨5, ![1, 128, 64, 16, 128]⟩ : Shape).ReduceWindows ![1, 1, 64, 1, 1] ![1, 1, 1, 1, 1] ![0, 0, 63, 0, 0] ![0, 0, 0, 0, 0] ⟨5, ![1, 128, 64, 16, 128]⟩)
    (hu : 0 < u.numel) (hz : z (Shape.Idx.first hu) = (0 : EReal)) (n : Fin 128) (i : Fin 64) (h : Fin 16) (d : Fin 128) (g : ℕ → EReal)
    (hg : ∀ i : Fin 64, x (ValueIdx.ix5 0 n i h d) = g i.val) :
    Host.reduceWindowAdd ![1, 1, 64, 1, 1] ![1, 1, 1, 1, 1] ![0, 0, 63, 0, 0] ![0, 0, 0, 0, 0] x z hr hu (ValueIdx.ix5 0 n i h d)
      = ∑ j ∈ Finset.range (i.val + 1), g (i.val - j) := by
  have hi := i.isLt
  refine (window_sum _ _ _ _ _ _ _ _ hz _).trans ?_
  refine (Equiv.sum_comp (chunkAt.symm) _).symm.trans ?_
  refine (Fintype.sum_congr _ (fun w : Fin 64 => if 63 ≤ i.val + w.val then g (i.val + w.val - 63) else 0) fun w => ?_).trans ?_
  · have hw := w.isLt
    by_cases hc : 63 ≤ i.val + w.val
    · rw [if_pos hc]
      refine (dif_pos ?_).trans ?_
      · rintro ⟨a, ha⟩
        match a, ha with
        | 0, _ => exact ⟨Nat.zero_le _, by show 0 * 1 + 0 - 0 < 1; decide⟩
        | 1, _ => exact ⟨Nat.zero_le _, by show n.val * 1 + 0 - 0 < 128; omega⟩
        | 2, _ => exact ⟨by show 63 ≤ i.val * 1 + w.val; omega, by show i.val * 1 + w.val - 63 < 64; omega⟩
        | 3, _ => exact ⟨Nat.zero_le _, by show h.val * 1 + 0 - 0 < 16; omega⟩
        | 4, _ => exact ⟨Nat.zero_le _, by show d.val * 1 + 0 - 0 < 128; omega⟩
      · refine Eq.trans (congrArg x (funext fun a => ?_)) (hg ⟨i.val + w.val - 63, by omega⟩)
        match a with
        | ⟨0, _⟩ => rfl
        | ⟨1, _⟩ => exact Fin.ext (by show n.val * 1 + 0 - 0 = n.val; omega)
        | ⟨2, _⟩ => exact Fin.ext (by show i.val * 1 + w.val - 63 = i.val + w.val - 63; omega)
        | ⟨3, _⟩ => exact Fin.ext (by show h.val * 1 + 0 - 0 = h.val; omega)
        | ⟨4, _⟩ => exact Fin.ext (by show d.val * 1 + 0 - 0 = d.val; omega)
    · rw [if_neg hc]
      refine dif_neg fun hin => hc ?_
      have h2 := (hin 2).1
      have : 63 ≤ i.val * 1 + w.val := h2
      omega
  · rw [Fin.sum_univ_eq_sum_range (fun w => if 63 ≤ i.val + w then g (i.val + w - 63) else 0) 64, ← Finset.sum_range_reflect]
    refine ((Finset.sum_subset (Finset.range_subset_range.mpr (by omega : i.val + 1 ≤ 64)) fun j hj hn => ?_).symm).trans
      (Finset.sum_congr rfl fun j hj => ?_)
    · rw [Finset.mem_range] at hj hn
      exact if_neg (by omega)
    · rw [Finset.mem_range] at hj
      rw [if_pos (by omega), show i.val + (64 - 1 - j) - 63 = i.val - j by omega]

/-- The places of a window two rows high. -/
def pairAt : (⟨2, ![2, 1]⟩ : Shape).Idx ≃ Fin 2 where
  toFun w := w 0
  invFun r := ValueIdx.ix2 r (0 : Fin 1)
  left_inv w := funext fun a => by
    match a with
    | ⟨0, _⟩ => rfl
    | ⟨1, _⟩ => exact Subsingleton.elim (α := Fin 1) _ _
  right_inv r := rfl

/-- The running sum over the two layers, at the first: its own entry. -/
theorem pair_sum {u : Shape} (x : FVec Ideal ⟨2, ![2, 2048]⟩ .f32) (z : FVec Ideal u .f32)
    (hr : (⟨2, ![2, 2048]⟩ : Shape).ReduceWindows ![2, 1] ![1, 1] ![1, 0] ![0, 0] ⟨2, ![2, 2048]⟩)
    (hu : 0 < u.numel) (hz : z (Shape.Idx.first hu) = (0 : EReal)) (d : Fin 2048) :
    Host.reduceWindowAdd ![2, 1] ![1, 1] ![1, 0] ![0, 0] x z hr hu (ValueIdx.ix2 0 d) = x (ValueIdx.ix2 0 d) := by
  refine (window_sum _ _ _ _ _ _ _ _ hz _).trans ?_
  refine (Equiv.sum_comp (pairAt.symm) _).symm.trans ?_
  rw [Fin.sum_univ_two]
  refine (congrArg₂ (· + ·) (dif_neg fun hin => ?_) (dif_pos ?_)).trans ((zero_add _).trans ?_)
  · have h0 : 1 ≤ 0 * 1 + 0 := (hin 0).1
    omega
  · rintro ⟨a, ha⟩
    match a, ha with
    | 0, _ => exact ⟨by show 1 ≤ 0 * 1 + 1; decide, by show 0 * 1 + 1 - 1 < 2; decide⟩
    | 1, _ => exact ⟨Nat.zero_le _, by show d.val * 1 + 0 - 0 < 2048; omega⟩
  · refine congrArg x (funext fun a => ?_)
    match a with
    | ⟨0, _⟩ => rfl
    | ⟨1, _⟩ => exact Fin.ext (by show d.val * 1 + 0 - 0 = d.val; omega)

end Cert.Hgrn

end
-- ==== Proof.HgrnScan.lean ====
/- The reference's chunked scan, as a function of the queries, the gate and the values: what it computes before its loop,
   what a trip computes, and all of it in the terms of `Hgrn.Head`. -/
module

public import proofs.«01_k».proof.Proof.Gen.ReferenceIdeal.Step
public import proofs.«01_k».proof.Proof.HgrnSums
public import Idealize.ShloMosaic.Lib.Pipeline.ValueKit
public import Idealize.ShloMosaic.Lib.DynamicIndex
public import Idealize.ShloMosaic.Lib.WordCmp

@[expose] public section

set_option maxRecDepth 16384

noncomputable section

open Idealize.ShloMosaic Idealize.ShloMosaic.TcCoe Idealize.SL.Sem

namespace Cert.Hgrn.Scan

open Cert.ReferenceIdeal Cert.ReferenceIdeal.Gen Cert.ReferenceIdeal.Step

section Stages

variable {F : FTy → Type} [FloatOps F]

/-- The layers' softmax. -/
def soft (W : FVec F S2x2048 .f32) : FVec F S2x2048 .f32 :=
  let e := Host.exp (subf W (broadcastInDim S2x2048 ![0, 1] bcast_S1x2048_S2x2048_0_1 (broadcastInDim S1x2048 ![1] bcast_S2048_S1x2048_1
    (maximumf (K_main_v12 (F := F)) (Host.reduce FloatOps.maximumf W (K_main_cst (F := F)) reducesTo_S2x2048_S2048_d0 h_S_)))))
  Host.divf e (broadcastInDim S2x2048 ![0, 1] bcast_S1x2048_S2x2048_0_1 (broadcastInDim S1x2048 ![1] bcast_S2048_S1x2048_1
    (Host.reduceAdd e (K_main_cst_1 (F := F)) reducesTo_S2x2048_S2048_d0 h_S_)))

/-- The lower bound of the gate. -/
def bound (W : FVec F S2x2048 .f32) : FVec F S16x128 .f32 :=
  shapeCast _ (shapeCast S2048 (extractStridedSlice S1x2048 ![0, 0]
    (Host.reduceWindowAdd ![2, 1] ![1, 1] ![1, 0] ![0, 0] (soft W) (K_main_call1_call0_v0 (F := F)) reduceWindows_S2x2048_S2x2048_w2s1p1_0_w1s1p0_0 h_S_)
    slices_S2x2048_S1x2048_0_0) shapeCasts_S1x2048_S2048) shapeCasts_S2048_S16x128

/-- The gate, of the lower bound and the logits. -/
def gate (lb : FVec F S16x128 .f32) (f : FVec F S1x8192x16x128 .f32) : FVec F S1x8192x16x128 .f32 :=
  addf (broadcastInDim S1x8192x16x128 ![0, 1, 2, 3] bcast_S1x1x16x128_S1x8192x16x128_0_1_2_3 (broadcastInDim S1x1x16x128 ![2, 3] bcast_S16x128_S1x1x16x128_2_3 lb))
    (mulf (broadcastInDim S1x8192x16x128 ![0, 1, 2, 3] bcast_S1x1x16x128_S1x8192x16x128_0_1_2_3
        (broadcastInDim S1x1x16x128 ![2, 3] bcast_S16x128_S1x1x16x128_2_3 (subf (K_main_v26 (F := F)) lb)))
      (Host.divf (K_main_v32 (F := F)) (addf (K_main_v30 (F := F)) (Host.exp (Host.negf f)))))

/-- Rows in chunks of 64. -/
def chunked (x : FVec F S1x8192x16x128 .f32) : FVec F S1x128x64x16x128 .f32 :=
  shapeCast _ x shapeCasts_S1x8192x16x128_S1x128x64x16x128

/-- One less the gate. -/
def keys (G : FVec F S1x8192x16x128 .f32) : FVec F S1x128x64x16x128 .f32 := chunked (subf (K_main_v41 (F := F)) G)

/-- The chunks' running sums of the gate's logarithm. -/
def sums (G : FVec F S1x8192x16x128 .f32) : FVec F S1x128x64x16x128 .f32 :=
  Host.reduceWindowAdd ![1, 1, 64, 1, 1] ![1, 1, 1, 1, 1] ![0, 0, 63, 0, 0] ![0, 0, 0, 0, 0] (chunked (Host.log G)) (K_main_call2_call0_v0 (F := F))
    reduceWindows_S1x128x64x16x128_S1x128x64x16x128_w1s1p0_0_w1s1p0_0_w64s1p63_0_w1s1p0_0_w1s1p0_0 h_S_

/-- The sums at a chunk's last row. -/
def lasts (G : FVec F S1x8192x16x128 .f32) : FVec F S1x128x16x128 .f32 :=
  shapeCast _ (extractStridedSlice S1x128x1x16x128 ![0, 0, 63, 0, 0] (sums G) slices_S1x128x64x16x128_S1x128x1x16x128_0_0_63_0_0)
    shapeCasts_S1x128x1x16x128_S1x128x16x128

/-- The decayed queries. -/
def queries (Q G : FVec F S1x8192x16x128 .f32) : FVec F S1x128x64x16x128 .f32 := mulf (chunked Q) (Host.exp (sums G))

/-- The keys, decayed back to the chunk's start. -/
def starts (G : FVec F S1x8192x16x128 .f32) : FVec F S1x128x64x16x128 .f32 := mulf (keys G) (Host.exp (Host.negf (sums G)))

/-- The scores within a chunk, of no later key. -/
def scores (Q G : FVec F S1x8192x16x128 .f32) : FVec F S1x128x16x64x64 .f32 :=
  select (K_main_call4_v1 (F := F)) (Host.dotGeneral dot_S1x128x64x16x128_S1x128x64x16x128_S1x128x16x64x64_4_4_2_2_013_013 none (queries Q G) (starts G))
    (K_main_call4_v2 (F := F))

/-- The results within the chunks, chunk by chunk. -/
def intras (Q G V : FVec F S1x8192x16x128 .f32) : FVec F S128x1x64x16x128 .f32 :=
  transpose S128x1x64x16x128 [1, 0, 2, 3, 4] (transpose S1x128x64x16x128 [0, 1, 4, 2, 3]
    (Host.dotGeneral dot_S1x128x64x16x128_S1x128x16x64x64_S1x128x16x128x64_2_4_4_3_013_012 none (chunked V) (scores Q G))
    transposes_S1x128x16x128x64_S1x128x64x16x128_0_1_4_2_3) transposes_S1x128x64x16x128_S128x1x64x16x128_1_0_2_3_4

/-- The keys, decayed to the chunk's end. -/
def ends (G : FVec F S1x8192x16x128 .f32) : FVec F S1x128x64x16x128 .f32 :=
  mulf (keys G) (Host.exp (subf (broadcastInDim S1x128x64x16x128 ![0, 1, 2, 3, 4] bcast_S1x128x1x16x128_S1x128x64x16x128_0_1_2_3_4
    (broadcastInDim S1x128x1x16x128 ![0, 1, 3, 4] bcast_S1x128x16x128_S1x128x1x16x128_0_1_3_4 (lasts G))) (sums G)))

/-- What each chunk adds to the state. -/
def adds (G V : FVec F S1x8192x16x128 .f32) : FVec F S128x1x16x128x128 .f32 :=
  transpose S128x1x16x128x128 [1, 0, 2, 3, 4]
    (Host.dotGeneral dot_S1x128x64x16x128_S1x128x64x16x128_S1x128x16x128x128_2_2_4_4_013_013 none (ends G) (chunked V))
    transposes_S1x128x16x128x128_S128x1x16x128x128_1_0_2_3_4

/-- What each chunk's state decays by. -/
def decays (G : FVec F S1x8192x16x128 .f32) : FVec F S128x1x16x128 .f32 :=
  transpose S128x1x16x128 [1, 0, 2, 3] (Host.exp (lasts G)) transposes_S1x128x16x128_S128x1x16x128_1_0_2_3

/-- The decayed queries, chunk by chunk. -/
def asks (Q G : FVec F S1x8192x16x128 .f32) : FVec F S128x1x64x16x128 .f32 :=
  transpose S128x1x64x16x128 [1, 0, 2, 3, 4] (queries Q G) transposes_S1x128x64x16x128_S128x1x64x16x128_1_0_2_3_4

/-- Where a trip reads an array of five axes: at its number. -/
def at5 (j : ℕ) : Fin 5 → Int := fun k => ((![(constantI S_ 32 (BitVec.ofNat 32 j) : (⟨S_, .i32⟩ : BufTy).Contents (Elt F)),
  constantI S_ 32 0#32, constantI S_ 32 0#32, constantI S_ 32 0#32, constantI S_ 32 0#32] : Fin 5 → (⟨S_, .i32⟩ : BufTy).Contents (Elt F)) k (Shape.Idx.first h_S_)).toInt

/-- Where a trip reads an array of four axes: at its number. -/
def at4 (j : ℕ) : Fin 4 → Int := fun k => ((![(constantI S_ 32 (BitVec.ofNat 32 j) : (⟨S_, .i32⟩ : BufTy).Contents (Elt F)),
  constantI S_ 32 0#32, constantI S_ 32 0#32, constantI S_ 32 0#32] : Fin 4 → (⟨S_, .i32⟩ : BufTy).Contents (Elt F)) k (Shape.Idx.first h_S_)).toInt

/-- A chunk of results or queries. -/
def rowsOf (j : ℕ) (x : FVec F S128x1x64x16x128 .f32) : FVec F S1x64x16x128 .f32 :=
  shapeCast S1x64x16x128 (Host.dynamicSlice S1x1x64x16x128 x (at5 (F := F) j) sliceFits_S128x1x64x16x128_S1x1x64x16x128) shapeCasts_S1x1x64x16x128_S1x64x16x128

/-- The state a trip leaves. -/
def tripState (j : ℕ) (S : FVec F S1x16x128x128 .f32) (D : FVec F S128x1x16x128 .f32) (A : FVec F S128x1x16x128x128 .f32) : FVec F S1x16x128x128 .f32 :=
  addf (mulf (broadcastInDim S1x16x128x128 ![0, 1, 2, 3] bcast_S1x16x128x1_S1x16x128x128_0_1_2_3
      (broadcastInDim S1x16x128x1 ![0, 1, 2] bcast_S1x16x128_S1x16x128x1_0_1_2
        (shapeCast S1x16x128 (Host.dynamicSlice S1x1x16x128 D (at4 (F := F) j) sliceFits_S128x1x16x128_S1x1x16x128) shapeCasts_S1x1x16x128_S1x16x128))) S)
    (shapeCast S1x16x128x128 (Host.dynamicSlice S1x1x16x128x128 A (at5 (F := F) j) sliceFits_S128x1x16x128x128_S1x1x16x128x128) shapeCasts_S1x1x16x128x128_S1x16x128x128)

/-- A chunk's results. -/
def tripOut (j : ℕ) (S : FVec F S1x16x128x128 .f32) (Qd O : FVec F S128x1x64x16x128 .f32) : FVec F S1x64x16x128 .f32 :=
  addf (rowsOf j O) (transpose S1x64x16x128 [0, 3, 1, 2]
    (Host.dotGeneral dot_S1x16x128x128_S1x64x16x128_S1x16x128x64_2_3_3_1_01_02 none S (rowsOf j Qd)) transposes_S1x16x128x64_S1x64x16x128_0_3_1_2)

/-- The results after a trip. -/
def tripRows (j : ℕ) (S : FVec F S1x16x128x128 .f32) (Qd O R : FVec F S128x1x64x16x128 .f32) : FVec F S128x1x64x16x128 .f32 :=
  Host.dynamicUpdateSlice R (broadcastInDim S1x1x64x16x128 ![1, 2, 3, 4] bcast_S1x64x16x128_S1x1x64x16x128_1_2_3_4 (tripOut j S Qd O))
    (at5 (F := F) j) updateFits_S128x1x64x16x128_S1x1x64x16x128

end Stages

/-! The lower bound and the gate. -/

theorem soft_at (W : FVec Ideal S2x2048 .f32) (d : Fin 2048) : soft W (ValueIdx.ix2 0 d) = share fun x => W (ValueIdx.ix2 x d) := by
  have h : ∀ e : Fin 2048, max (Ideal.ofBits FTy.f32 4286578688#32) (Finset.fold max (Ideal.ofBits FTy.f32 4286578688#32) (fun x : Fin 2 => W (ValueIdx.ix2 x e)) Finset.univ)
      = max (W (ValueIdx.ix2 0 e)) (W (ValueIdx.ix2 1 e)) := fun e => by
    rw [fold_two, negInf, max_bot_left]
  unfold soft
  pointwise [K_main_v12, K_main_cst, K_main_cst_1, K_main_cst_0]
  refine congrArg₂ Ideal.div ?_ (Finset.sum_congr rfl fun x _ => ?_)
  · exact congrArg (fun M => Ideal.exp (W (ValueIdx.ix2 0 d) - M)) (h d)
  · exact congrArg (fun M => Ideal.exp (W (ValueIdx.ix2 x d) - M)) (h d)

theorem bound_at (W : FVec Ideal S2x2048 .f32) (h : Fin 16) (d : Fin 128) :
    bound W (ValueIdx.ix2 h d) = share fun x => W (ValueIdx.ix2 x ⟨h.val * 128 + d.val, by omega⟩) := by
  unfold bound
  have e := pair_sum (soft W) (K_main_call1_call0_v0 (F := Ideal)) reduceWindows_S2x2048_S2x2048_w2s1p1_0_w1s1p0_0 h_S_
    (by pointwise [K_main_call1_call0_v0, K_main_call1_call0_cst]) ⟨h.val * 128 + d.val, by omega⟩
  generalize Host.reduceWindowAdd _ _ _ _ (soft W) _ _ _ = y at e ⊢
  rw [soft_at] at e
  pointwise []
  exact e

theorem gate_at (lb : FVec Ideal S16x128 .f32) (f : FVec Ideal S1x8192x16x128 .f32) (r : Fin 8192) (h : Fin 16) (d : Fin 128) :
    gate lb f (ValueIdx.ix4 0 r h d) = lb (ValueIdx.ix2 h d) + (1 - lb (ValueIdx.ix2 h d)) * Ideal.logistic (f (ValueIdx.ix4 0 r h d)) := by
  pointwise [gate, K_main_v30, K_main_v32, K_main_v26, K_main_cst_2, K_main_cst_3, K_main_cst_4]
  rfl

/-! The chunks. -/

/-- Row `i` of chunk `n`. -/
abbrev row (n : Fin 128) (i : Fin 64) : Fin 8192 := ⟨n.val * 64 + i.val, by omega⟩

/-- The arrays hold the heads' queries, gates and values. -/
structure Holds (H : ℕ → Head) (Q G V : FVec Ideal S1x8192x16x128 .f32) : Prop where
  q : ∀ (r : Fin 8192) (h : Fin 16) (d : Fin 128), Q (ValueIdx.ix4 0 r h d) = (H h.val).q r.val d.val * Ideal.logistic ((H h.val).q r.val d.val)
  g : ∀ (r : Fin 8192) (h : Fin 16) (d : Fin 128), G (ValueIdx.ix4 0 r h d) = (H h.val).gate r.val d.val
  v : ∀ (r : Fin 8192) (h : Fin 16) (d : Fin 128), V (ValueIdx.ix4 0 r h d) = (H h.val).v r.val d.val

theorem chunked_at (x : FVec Ideal S1x8192x16x128 .f32) (n : Fin 128) (i : Fin 64) (h : Fin 16) (d : Fin 128) :
    chunked x (ValueIdx.ix5 0 n i h d) = x (ValueIdx.ix4 0 (row n i) h d) := by
  pointwise [chunked]
  rfl

variable {H : ℕ → Head} {Q G V : FVec Ideal S1x8192x16x128 .f32} (hH : Holds H Q G V)

include hH

theorem keys_at (n : Fin 128) (i : Fin 64) (h : Fin 16) (d : Fin 128) :
    keys G (ValueIdx.ix5 0 n i h d) = 1 - (H h.val).gate (n.val * 64 + i.val) d.val := by
  unfold keys
  rw [chunked_at]
  pointwise [K_main_v41, K_main_cst_5]
  exact congrArg (1 - ·) (hH.g (row n i) h d)

theorem sums_at (n : Fin 128) (i : Fin 64) (h : Fin 16) (d : Fin 128) :
    sums G (ValueIdx.ix5 0 n i h d) = (H h.val).sum (n.val * 64 + i.val) d.val := by
  have hi := i.isLt
  refine (chunk_sum _ _ _ _ (by pointwise [K_main_call2_call0_v0, K_main_call2_call0_cst]) n i h d
    (fun j => Ideal.log ((H h.val).gate (n.val * 64 + j) d.val)) fun j => ?_).trans ?_
  · rw [chunked_at]
    exact congrArg Ideal.log (hH.g (row n j) h d)
  · unfold Head.sum
    rw [show (n.val * 64 + i.val) % 64 = i.val by omega]
    refine Finset.sum_congr rfl fun j hj => ?_
    rw [Finset.mem_range] at hj
    rw [show n.val * 64 + (i.val - j) = n.val * 64 + i.val - j by omega]

theorem lasts_at (n : Fin 128) (h : Fin 16) (d : Fin 128) : lasts G (ValueIdx.ix4 0 n h d) = (H h.val).sum (n.val * 64 + 63) d.val := by
  have e := sums_at hH n 63 h d
  unfold lasts
  generalize sums G = y at e ⊢
  pointwise []
  exact e

theorem queries_at (n : Fin 128) (i : Fin 64) (h : Fin 16) (d : Fin 128) :
    queries Q G (ValueIdx.ix5 0 n i h d) = (H h.val).query (n.val * 64 + i.val) d.val :=
  congrArg₂ (fun a b : EReal => a * Ideal.exp b) ((chunked_at Q n i h d).trans (hH.q (row n i) h d)) (sums_at hH n i h d)

theorem starts_at (n : Fin 128) (i : Fin 64) (h : Fin 16) (d : Fin 128) :
    starts G (ValueIdx.ix5 0 n i h d) = (H h.val).key (n.val * 64 + i.val) d.val := by
  unfold Head.key
  rw [zero_sub]
  exact congrArg₂ (fun a b : EReal => a * Ideal.exp (-b)) (keys_at hH n i h d) (sums_at hH n i h d)

theorem ends_at (n : Fin 128) (i : Fin 64) (h : Fin 16) (d : Fin 128) :
    ends G (ValueIdx.ix5 0 n i h d) = (H h.val).last n.val (n.val * 64 + i.val) d.val := by
  have e1 := keys_at hH n i h d
  have e2 := sums_at hH n i h d
  have e3 := lasts_at hH n h d
  unfold ends Head.last
  generalize sums G = y at e2 ⊢
  generalize lasts G = z at e3 ⊢
  generalize keys G = w at e1 ⊢
  pointwise []
  rw [← e1, ← e2, ← e3]
  rfl

omit hH in
theorem mask_at (n : Fin 128) (h : Fin 16) (r s : Fin 64) :
    K_main_call4_v1 (F := Ideal) (ValueIdx.ix5 0 n h r s) = if s.val ≤ r.val then 1#1 else 0#1 := by
  pointwise [K_main_call4_v1, K_main_v56, K_main_v55, K_main_c, K_main_call3_v4, K_main_call3_v5, K_main_call3_c_0, K_main_call3_v3, K_main_call3_v2, K_main_call3_v0, K_main_call3_v1, K_main_call3_c]
  show Scalar.select (IntOp.cmpi .sge (IntOp.addi (BitVec.ofNat 32 r.val) 0#32) (BitVec.ofNat 32 s.val)) 1#1 0#1 = _
  have hr := r.isLt
  have hs := s.isLt
  rw [show IntOp.addi (BitVec.ofNat 32 r.val) 0#32 = BitVec.ofNat 32 r.val from BitVec.add_zero _, WordCmp.cmpi_sge_ofNat (by omega) (by omega)]
  by_cases hc : s.val ≤ r.val <;> simp [hc, Scalar.select]

theorem scores_at (n : Fin 128) (h : Fin 16) (r s : Fin 64) : scores Q G (ValueIdx.ix5 0 n h r s)
    = if s.val ≤ r.val then ∑ k : Fin 128, (H h.val).query (n.val * 64 + r.val) k.val * (H h.val).key (n.val * 64 + s.val) k.val else 0 := by
  have e1 := fun k => queries_at hH n r h k
  have e2 := fun k => starts_at hH n s h k
  have e3 := mask_at n h r s
  unfold scores
  generalize queries Q G = x at e1 ⊢
  generalize starts G = y at e2 ⊢
  generalize K_main_call4_v1 (F := Ideal) = z at e3 ⊢
  pointwise [K_main_call4_v2, K_main_call4_v0, K_main_cst_6]
  rw [e3]
  by_cases hc : s.val ≤ r.val
  · rw [if_pos hc, if_pos hc]
    show (∑ k : Fin 128, x (ValueIdx.ix5 0 n r h k) * y (ValueIdx.ix5 0 n s h k) : EReal) = _
    exact Finset.sum_congr rfl fun k _ => congrArg₂ (fun a b : EReal => a * b) (e1 k) (e2 k)
  · rw [if_neg hc, if_neg hc]
    exact (show (constant S_ .f32 0#32 : FVec Ideal S_ .f32) (fun a => a.elim0) = 0 by pointwise [])

theorem intras_at (n : Fin 128) (i : Fin 64) (h : Fin 16) (d : Fin 128) :
    intras Q G V (ValueIdx.ix5 n 0 i h d) = (H h.val).intra (n.val * 64 + i.val) d.val := by
  have e1 := fun s => scores_at hH n h i s
  have e2 := fun s => (chunked_at V n s h d).trans (hH.v (row n s) h d)
  unfold intras Head.intra
  generalize scores Q G = x at e1 ⊢
  generalize chunked V = y at e2 ⊢
  pointwise []
  refine Finset.sum_congr rfl fun s _ => ?_
  have hi := i.isLt
  rw [show (n.val * 64 + i.val) % 64 = i.val by omega, show (n.val * 64 + i.val) / 64 = n.val by omega, ← ite_zero_mul, ← e1 s]
  refine (mul_comm _ _).trans (congrArg₂ (fun a b : EReal => a * b) rfl (e2 s))

theorem adds_at (n : Fin 128) (h : Fin 16) (k d : Fin 128) : adds G V (ValueIdx.ix5 n 0 h k d)
    = ∑ s : Fin 64, (H h.val).v (n.val * 64 + s.val) d.val * (H h.val).last n.val (n.val * 64 + s.val) k.val := by
  have e1 := fun s => ends_at hH n s h k
  have e2 := fun s => (chunked_at V n s h d).trans (hH.v (row n s) h d)
  unfold adds
  generalize ends G = x at e1 ⊢
  generalize chunked V = y at e2 ⊢
  pointwise []
  refine Finset.sum_congr rfl fun s _ => ?_
  exact (mul_comm _ _).trans (congrArg₂ (fun a b : EReal => a * b) (e2 s) (e1 s))

theorem decays_at (n : Fin 128) (h : Fin 16) (k : Fin 128) :
    decays G (ValueIdx.ix4 n 0 h k) = Ideal.exp ((H h.val).sum (n.val * 64 + 63) k.val) := by
  have e := lasts_at hH n h k
  unfold decays
  generalize lasts G = x at e ⊢
  pointwise []
  exact congrArg Ideal.exp e

theorem asks_at (n : Fin 128) (i : Fin 64) (h : Fin 16) (k : Fin 128) :
    asks Q G (ValueIdx.ix5 n 0 i h k) = (H h.val).query (n.val * 64 + i.val) k.val := by
  have e := queries_at hH n i h k
  unfold asks
  generalize queries Q G = x at e ⊢
  pointwise []
  exact e

omit hH

/-! The trips. -/

theorem start_at (j : ℕ) (hj : j < 128) : (BitVec.ofNat 32 j).toInt = (j : Int) := toInt_ofNat_of_lt (by omega)

theorem at4_eq (j : ℕ) (hj : j < 128) : ∀ a, at4 (F := Ideal) j a = ((![j, 0, 0, 0] : Fin 4 → ℕ) a : Int)
  | 0 => start_at j hj
  | 1 | 2 | 3 => rfl

theorem at5_eq (j : ℕ) (hj : j < 128) : ∀ a, at5 (F := Ideal) j a = ((![j, 0, 0, 0, 0] : Fin 5 → ℕ) a : Int)
  | 0 => start_at j hj
  | 1 | 2 | 3 | 4 => rfl

theorem rowsOf_at (j : Fin 128) (x : FVec Ideal S128x1x64x16x128 .f32) (i : Fin 64) (h : Fin 16) (d : Fin 128) :
    rowsOf j.val x (ValueIdx.ix4 0 i h d) = x (ValueIdx.ix5 j 0 i h d) := by
  have hj := j.isLt
  have hs : S128x1x64x16x128.Slices ![j.val, 0, 0, 0, 0] S1x1x64x16x128 := ⟨rfl, fun
    | 0 => by show j.val + 1 ≤ 128; omega
    | 1 | 2 | 3 | 4 => Nat.le_of_eq (Nat.zero_add _)⟩
  unfold rowsOf
  rw [Host.dynamicSlice_eq_extractStridedSlice _ _ _ _ _ hs (at5_eq j.val hj)]
  pointwise []
  rfl

theorem tripState_at (j : Fin 128) (S : FVec Ideal S1x16x128x128 .f32) (D : FVec Ideal S128x1x16x128 .f32) (A : FVec Ideal S128x1x16x128x128 .f32)
    (h : Fin 16) (k d : Fin 128) : tripState j.val S D A (ValueIdx.ix4 0 h k d)
      = D (ValueIdx.ix4 j 0 h k) * S (ValueIdx.ix4 0 h k d) + A (ValueIdx.ix5 j 0 h k d) := by
  have hj := j.isLt
  have hs : S128x1x16x128.Slices ![j.val, 0, 0, 0] S1x1x16x128 := ⟨rfl, fun
    | 0 => by show j.val + 1 ≤ 128; omega
    | 1 | 2 | 3 => Nat.le_of_eq (Nat.zero_add _)⟩
  have hs' : S128x1x16x128x128.Slices ![j.val, 0, 0, 0, 0] S1x1x16x128x128 := ⟨rfl, fun
    | 0 => by show j.val + 1 ≤ 128; omega
    | 1 | 2 | 3 | 4 => Nat.le_of_eq (Nat.zero_add _)⟩
  unfold tripState
  rw [Host.dynamicSlice_eq_extractStridedSlice _ _ _ _ _ hs (at4_eq j.val hj),
    Host.dynamicSlice_eq_extractStridedSlice _ _ _ _ _ hs' (at5_eq j.val hj)]
  pointwise []
  rfl

theorem tripOut_at (j : Fin 128) (S : FVec Ideal S1x16x128x128 .f32) (Qd O : FVec Ideal S128x1x64x16x128 .f32) (i : Fin 64) (h : Fin 16) (d : Fin 128) :
    tripOut j.val S Qd O (ValueIdx.ix4 0 i h d) = O (ValueIdx.ix5 j 0 i h d)
      + ∑ k : Fin 128, Qd (ValueIdx.ix5 j 0 i h k) * S (ValueIdx.ix4 0 h k d) := by
  have e1 := rowsOf_at j O i h d
  have e2 := fun k => rowsOf_at j Qd i h k
  unfold tripOut
  generalize rowsOf j.val O = x at e1 ⊢
  generalize rowsOf j.val Qd = y at e2 ⊢
  pointwise []
  refine congrArg₂ (fun a b : EReal => a + b) e1 (Finset.sum_congr rfl fun k _ => ?_)
  exact (mul_comm _ _).trans (congrArg₂ (fun a b : EReal => a * b) (e2 k) rfl)

/-- A trip writes its chunk and leaves the others. -/
theorem tripRows_at (j : Fin 128) (S : FVec Ideal S1x16x128x128 .f32) (Qd O R : FVec Ideal S128x1x64x16x128 .f32) (n : Fin 128) (i : Fin 64) (h : Fin 16)
    (d : Fin 128) : tripRows j.val S Qd O R (ValueIdx.ix5 n 0 i h d)
      = if n = j then tripOut j.val S Qd O (ValueIdx.ix4 0 i h d) else R (ValueIdx.ix5 n 0 i h d) := by
  have hj := j.isLt
  have hs : S128x1x64x16x128.Slices ![j.val, 0, 0, 0, 0] S1x1x64x16x128 := ⟨rfl, fun
    | 0 => by show j.val + 1 ≤ 128; omega
    | 1 | 2 | 3 | 4 => Nat.le_of_eq (Nat.zero_add _)⟩
  unfold tripRows
  rw [Host.dynamicUpdateSlice_eq_updateSlice _ _ _ _ ![j.val, 0, 0, 0, 0] (fun a => by
    have := hs.2 a
    rw [at5_eq j.val hj]
    omega) hs]
  generalize tripOut j.val S Qd O = x
  unfold updateSlice
  by_cases hc : n = j
  · subst hc
    rw [if_pos rfl]
    refine (dif_pos fun
      | 0 => ⟨le_rfl, Nat.lt_succ_self _⟩
      | 1 => ⟨le_rfl, Nat.lt_succ_self 0⟩
      | 2 => ⟨Nat.zero_le _, by show i.val < 0 + 64; omega⟩
      | 3 => ⟨Nat.zero_le _, by show h.val < 0 + 16; omega⟩
      | 4 => ⟨Nat.zero_le _, by show d.val < 0 + 128; omega⟩).trans ?_
    pointwise []
    rfl
  · rw [if_neg hc]
    refine dif_neg fun hin => hc (Fin.ext ?_)
    have h1 : j.val ≤ n.val := (hin 0).1
    have h2 : n.val < j.val + 1 := (hin 0).2
    omega

/-- After `n` trips: the state that enters chunk `n`, and the results of the chunks before it. -/
theorem trips_at (hH : Holds H Q G V) (S : ℕ → FVec Ideal S1x16x128x128 .f32) (R : ℕ → FVec Ideal S128x1x64x16x128 .f32)
    (h0 : ∀ i, S 0 i = 0) (hS : ∀ n, S (n + 1) = tripState n (S n) (decays G) (adds G V))
    (hR : ∀ n, R (n + 1) = tripRows n (S n) (asks Q G) (intras Q G V) (R n)) : ∀ n ≤ 128,
    (∀ (h : Fin 16) (k d : Fin 128), S n (ValueIdx.ix4 0 h k d) = (H h.val).state n k.val d.val)
      ∧ ∀ m : Fin 128, m.val < n → ∀ (i : Fin 64) (h : Fin 16) (d : Fin 128), R n (ValueIdx.ix5 m 0 i h d) = (H h.val).out (m.val * 64 + i.val) d.val
  | 0, _ => ⟨fun h k d => h0 _, fun m hm => absurd hm (Nat.not_lt_zero _)⟩
  | n + 1, hn => by
    obtain ⟨ihS, ihR⟩ := trips_at hH S R h0 hS hR n (by omega)
    refine ⟨fun h k d => ?_, fun m hm i h d => ?_⟩
    · rw [hS, tripState_at ⟨n, by omega⟩, decays_at hH, adds_at hH, ihS, mul_comm]
      rfl
    · rw [hR, tripRows_at ⟨n, by omega⟩]
      by_cases hc : m = ⟨n, by omega⟩
      · have hm' : m.val = n := congrArg Fin.val hc
        rw [if_pos hc, tripOut_at ⟨n, by omega⟩, intras_at hH, hm']
        refine congrArg₂ (fun a b : EReal => a + b) rfl (Finset.sum_congr rfl fun k _ => ?_)
        have hi := i.isLt
        rw [asks_at hH, ihS, show (n * 64 + i.val) / 64 = n by omega]
      · rw [if_neg hc]
        exact ihR m (lt_of_le_of_ne (by omega) fun e => hc (Fin.ext e)) i h d

end Cert.Hgrn.Scan

end
-- ==== Proof.HgrnRef.lean ====
/- The reference of the forward recurrence: after its 128 trips it holds the heads' results. -/
module

public import proofs.«01_k».proof.Proof.HgrnRun
public import proofs.«01_k».proof.Proof.HgrnScan

@[expose] public section

set_option maxRecDepth 16384

noncomputable section

open Idealize.ShloMosaic Idealize.ShloMosaic.TcCoe Idealize.SL.Sem

namespace Cert.ReferenceIdeal.Final

open Cert.ReferenceIdeal Cert.ReferenceIdeal.Gen Cert.ReferenceIdeal.Step Cert.ReferenceIdeal.Trips
open Cert.Hgrn (Head headOf ahead)

/-- The heads of the reference's arguments. -/
def head (X : FVec Ideal S8192x12288 .f32) (W : FVec Ideal S2x2048 .f32) (h : ℕ) : Head :=
  headOf ahead 4096 (fun r k => X (ValueIdx.ix2 r k)) (fun r k => W (ValueIdx.ix2 r k)) h

/-- The heads' results side by side. -/
def heads (X : FVec Ideal S8192x12288 .f32) (W : FVec Ideal S2x2048 .f32) : FVec Ideal S8192x2048 .f32 :=
  fun y => (head X W ((y 1).val / 128)).out (y 0).val ((y 1).val % 128)

variable (X : FVec Ideal S8192x12288 .f32) (W : FVec Ideal S2x2048 .f32)

theorem col {a b : ℕ} (X : FVec Ideal S8192x12288 .f32) (r : Fin 8192) (ha : a < 12288) (hb : b = a) :
    X (ValueIdx.ix2 r ⟨a, ha⟩) = X (ValueIdx.ix2 (ahead r.val) ⟨b % 12288, Nat.mod_lt _ (by decide)⟩) := by
  subst hb
  exact congrArg X (congrArg₂ ValueIdx.ix2 (Fin.ext (Nat.mod_eq_of_lt r.isLt).symm) (Fin.ext (Nat.mod_eq_of_lt ha).symm))

theorem q_at (r : Fin 8192) (h : Fin 16) (d : Fin 128) : A_main_v7 (F := Ideal) X W (ValueIdx.ix4 0 r h d) = (head X W h.val).q r.val d.val := by
  pointwise [A_main_v7, A_main_v2, A_main_v0]
  exact col X r _ rfl

theorem f_at (r : Fin 8192) (h : Fin 16) (d : Fin 128) : A_main_v10 (F := Ideal) X W (ValueIdx.ix4 0 r h d) = (head X W h.val).f r.val d.val := by
  pointwise [A_main_v10, A_main_v3, A_main_v0]
  exact col X r _ rfl

theorem v_at (r : Fin 8192) (h : Fin 16) (d : Fin 128) : A_main_v9 (F := Ideal) X W (ValueIdx.ix4 0 r h d) = (head X W h.val).v r.val d.val := by
  pointwise [A_main_v9, A_main_v5, A_main_v0]
  exact col X r _ rfl

theorem low_at (h : Fin 16) (d : Fin 128) : Hgrn.Scan.bound W (ValueIdx.ix2 h d) = (head X W h.val).low d.val := by
  rw [Hgrn.Scan.bound_at]
  refine congrArg Hgrn.share (funext fun x => ?_)
  exact congrArg W (congrArg (ValueIdx.ix2 x) (Fin.ext (Nat.mod_eq_of_lt (by omega)).symm))

/-- What the loop starts from holds the heads'. -/
theorem holds : Hgrn.Scan.Holds (head X W) (A_main_v8 (F := Ideal) X W) (A_main_v39 (F := Ideal) X W) (A_main_v9 (F := Ideal) X W) where
  q r h d := by
    have e := q_at X W r h d
    unfold A_main_v8 A_main_call0_v5 A_main_call0_v3 A_main_call0_v1 A_main_call0_v0
    generalize A_main_v7 (F := Ideal) X W = x at e ⊢
    pointwise [K_main_call0_v2, K_main_call0_v4, K_main_call0_cst, K_main_call0_cst_0]
    rw [e]
    rfl
  g r h d := by
    refine (Hgrn.Scan.gate_at (Hgrn.Scan.bound W) (A_main_v10 (F := Ideal) X W) r h d).trans ?_
    rw [low_at X W, f_at X W]
    rfl
  v := v_at X W

/-- What the loop reads and does not change. -/
structure Fixed {F : FTy → Type} [FloatOps F] (X : FVec F S8192x12288 .f32) (W : FVec F S2x2048 .f32) (s : State F) : Prop where
  decays : s.main_v74_0 = Hgrn.Scan.decays (A_main_v39 X W)
  adds : s.main_v74_1 = Hgrn.Scan.adds (A_main_v39 X W) (A_main_v9 X W)
  asks : s.main_v74_2 = Hgrn.Scan.asks (A_main_v8 X W) (A_main_v39 X W)
  intras : s.main_v74_3 = Hgrn.Scan.intras (A_main_v8 X W) (A_main_v39 X W) (A_main_v9 X W)

section Start

variable {F : FTy → Type} [FloatOps F] (X : FVec F S8192x12288 .f32) (W : FVec F S2x2048 .f32)

theorem sums_eq : A_main_v47 X W = Hgrn.Scan.sums (A_main_v39 X W) := by
  unfold A_main_v47 A_main_v46 A_main_v40 Hgrn.Scan.sums Hgrn.Scan.chunked
  rfl

theorem lasts_eq : A_main_v49 X W = Hgrn.Scan.lasts (A_main_v39 X W) := by
  unfold A_main_v49 A_main_v48 Hgrn.Scan.lasts
  rw [sums_eq]

theorem keys_eq : A_main_v44 X W = Hgrn.Scan.keys (A_main_v39 X W) := by
  unfold A_main_v44 A_main_v42 Hgrn.Scan.keys Hgrn.Scan.chunked
  rfl

theorem queries_eq : A_main_v51 X W = Hgrn.Scan.queries (A_main_v8 X W) (A_main_v39 X W) := by
  unfold A_main_v51 A_main_v50 A_main_v43 Hgrn.Scan.queries Hgrn.Scan.chunked
  rw [sums_eq]

theorem starts_eq : A_main_v54 X W = Hgrn.Scan.starts (A_main_v39 X W) := by
  unfold A_main_v54 A_main_v53 A_main_v52 Hgrn.Scan.starts
  rw [sums_eq, keys_eq]

theorem scores_eq : A_main_v58 X W = Hgrn.Scan.scores (A_main_v8 X W) (A_main_v39 X W) := by
  unfold A_main_v58 A_main_v57 Hgrn.Scan.scores
  rw [queries_eq, starts_eq]

theorem intras_eq : A_main_v68 X W = Hgrn.Scan.intras (A_main_v8 X W) (A_main_v39 X W) (A_main_v9 X W) := by
  unfold A_main_v68 A_main_v60 A_main_v59 A_main_v45 Hgrn.Scan.intras Hgrn.Scan.chunked
  rw [scores_eq]

theorem ends_eq : A_main_v65 X W = Hgrn.Scan.ends (A_main_v39 X W) := by
  unfold A_main_v65 A_main_v64 A_main_v63 A_main_v62 A_main_v61 Hgrn.Scan.ends
  rw [sums_eq, keys_eq, lasts_eq]

theorem adds_eq : A_main_v72 X W = Hgrn.Scan.adds (A_main_v39 X W) (A_main_v9 X W) := by
  unfold A_main_v72 A_main_v66 A_main_v45 Hgrn.Scan.adds Hgrn.Scan.chunked
  rw [ends_eq]

theorem decays_eq : A_main_v71 X W = Hgrn.Scan.decays (A_main_v39 X W) := by
  unfold A_main_v71 A_main_v67 Hgrn.Scan.decays
  rw [lasts_eq]

theorem asks_eq : A_main_v69 X W = Hgrn.Scan.asks (A_main_v8 X W) (A_main_v39 X W) := by
  unfold A_main_v69 Hgrn.Scan.asks
  rw [queries_eq]

theorem fixed_init : Fixed X W (init X W) := ⟨decays_eq X W, adds_eq X W, asks_eq X W, intras_eq X W⟩

theorem next_state (n : ℕ) (s : State F) : (step n s).main_v74_5 = Hgrn.Scan.tripState n s.main_v74_5 s.main_v74_0 s.main_v74_1 := by
  rw [step_main_v74_5]
  unfold b26 b25 b24 b23 b4 b3 b2 b1 b0 b10 b9 b8 b7 b6 b5 Hgrn.Scan.tripState Hgrn.Scan.at4 Hgrn.Scan.at5
  rfl

theorem next_rows (n : ℕ) (s : State F) :
    (step n s).main_v74_6 = Hgrn.Scan.tripRows n s.main_v74_5 s.main_v74_2 s.main_v74_3 s.main_v74_6 := by
  rw [step_main_v74_6]
  unfold b35 b34 b33 b32 b31 b30 b29 b28 b27 b22 b21 b20 b19 b18 b17 b16 b15 b14 b13 b12 b11 Hgrn.Scan.tripRows Hgrn.Scan.tripOut Hgrn.Scan.rowsOf Hgrn.Scan.at5
  rfl

end Start

variable (m : (ℓ : Loc nD τ sig) → Buf (Elt Ideal) ℓ)

theorem fixed (c : Dev nD) : ∀ n, Fixed (m ((c : Thread nD τ).loc main_arg0)) (m ((c : Thread nD τ).loc main_arg1)) (at_ m c n)
  | 0 => fixed_init _ _
  | n + 1 => ⟨(fixed c n).decays, (fixed c n).adds, (fixed c n).asks, (fixed c n).intras⟩

/-- The reference's result. -/
theorem final (c : Dev nD) : R_main_v77 (at_ m c 128) = heads (m ((c : Thread nD τ).loc main_arg0)) (m ((c : Thread nD τ).loc main_arg1)) := by
  have h := (Hgrn.Scan.trips_at (holds (m ((c : Thread nD τ).loc main_arg0)) (m ((c : Thread nD τ).loc main_arg1)))
    (fun n => (at_ m c n).main_v74_5) (fun n => (at_ m c n).main_v74_6) (fun i => by
      show K_main_v70 (F := Ideal) i = 0
      pointwise [K_main_v70, K_main_cst_7]) (fun n => by
      have hf := fixed m c n
      rw [← hf.decays, ← hf.adds]
      exact next_state n _) (fun n => by
      have hf := fixed m c n
      rw [← hf.asks, ← hf.intras]
      exact next_rows n _) 128 le_rfl).2
  generalize at_ m c 128 = s at h ⊢
  unfold R_main_v77
  generalize s.main_v74_6 = x at h ⊢
  funext y
  idx_vars y
  pointwise []
  refine (h ⟨y0.val / 64, by omega⟩ (by show y0.val / 64 < 128; omega) ⟨y0.val % 64, Nat.mod_lt _ (by decide)⟩ ⟨y1.val / 128, by omega⟩ ⟨y1.val % 128, Nat.mod_lt _ (by decide)⟩).trans ?_
  show Head.out _ (y0.val / 64 * 64 + y0.val % 64) _ = Head.out _ y0.val _
  rw [Nat.div_add_mod']
  rfl

end Cert.ReferenceIdeal.Final

end
-- ==== Proof.HgrnBwdHead.lean ====
/- The backward recurrence, one head at a time: what differs from the forward one's stages. The running sums go up from the
   chunk's last row, a row sees the keys from itself on, and the chunks are taken from the last to the first. A head's result
   is added to the forward direction's, normalized and gated. -/
module

public import proofs.«01_k».proof.Proof.Gen.Kernel2Ideal.Frame
public import proofs.«01_k».proof.Proof.HgrnHead

@[expose] public section

set_option maxRecDepth 16384

noncomputable section

open Idealize.ShloMosaic Idealize.ShloMosaic.TcCoe Idealize.SL.Sem
open Idealize.ShloMosaic.Pipeline (Dat)

namespace Cert.Kernel2Ideal.Final

open Cert.Kernel2Ideal Cert.Kernel2Ideal.Gen
open Cert.KernelIdeal.Final (gateOf place inv qDecay kDecay chunks vals next readout flat cols bound slab inbState inbCols)

/-! ## The stages of one head -/

/-- One step of the running sum: every row before place `p` of its chunk adds the row that rotating by `s` brings to it. -/
def hop (s p : BitVec 32) (x : FVec Ideal S256x128 .f32) : FVec Ideal S256x128 .f32 :=
  addf x (select (cmpi .slt place (broadcast S256x128 p)) (dynamicRotate 0 s none x rotates_S256x128_d0)
    (broadcast S256x128 (Scalar.ofBits .f32 0x00000000#32)))

/-- The running sum of the gate's logarithms within each chunk. -/
def cumul (L : FVec Ideal S256x128 .f32) : FVec Ideal S256x128 .f32 :=
  hop 224#32 32#32 (hop 240#32 48#32 (hop 248#32 56#32 (hop 252#32 60#32 (hop 254#32 62#32 (hop 255#32 63#32 L)))))

/-- Each chunk's whole sum. -/
def whole (b : FVec Ideal S256x128 .f32) : FVec Ideal S4x1x128 .f32 :=
  extractStridedSlice S4x1x128 ![0, 0, 0] (chunks b) slices_S4x64x128_o0_0_0_S4x1x128

/-- The keys, decayed to the chunk's end. -/
def kEnd (k b : FVec Ideal S256x128 .f32) : FVec Ideal S4x64x128 .bf16 :=
  truncf .bf16 (mulf (chunks k) (exp (subf (broadcastTo S4x64x128 (whole b) broadcasts_S4x1x128_S4x64x128) (chunks b)))) bitsLt_bf16_f32

/-- Each chunk's decay of the state. -/
def decay (b : FVec Ideal S256x128 .f32) : FVec Ideal S4x1x128 .f32 := exp (whole b)

/-- Which keys a row sees: those of its chunk from the row itself on. -/
def mask : IVec S256x256 1 :=
  k0_pay7 (iota .tc S256x256 32 [0] iota_S256x256_d0_w32) (iota .tc S256x256 32 [1] iota_S256x256_d1_w32) k0_pay3 64#32 k0_pay4 k0_pay5 k0_pay6

/-- The part within the chunks. -/
def intra (qd kd vb : FVec Ideal S256x128 .bf16) : FVec Ideal S256x128 .f32 :=
  matmul dot_S256x256_S256x128_S256x128_1_0_0_1_n_n none
    (truncf .bf16 (select mask (matmul dot_S256x128_S256x128_S256x256_1_1_0_0_n_n none qd kd (constant S256x256 .f32 0x00000000#32))
      (broadcast S256x256 (Scalar.ofBits .f32 0x00000000#32))) bitsLt_bf16_f32) vb (constant S256x128 .f32 0x00000000#32)

/-- The state after 1, 2, 3 and 4 chunks. -/
def state1 (vb : FVec Ideal S256x128 .bf16) (ke : FVec Ideal S4x64x128 .bf16) (d : FVec Ideal S4x1x128 .f32) (S : FVec Ideal S128x128 .f32) :
    FVec Ideal S128x128 .f32 :=
  next 3 192 slices_S256x128_o192_0_S64x128 slices_S4x64x128_o3_0_0_S1x64x128 slices_S4x1x128_o3_0_0_S1x1x128 vb ke d S
@[inherit_doc state1]
def state2 (vb : FVec Ideal S256x128 .bf16) (ke : FVec Ideal S4x64x128 .bf16) (d : FVec Ideal S4x1x128 .f32) (S : FVec Ideal S128x128 .f32) :
    FVec Ideal S128x128 .f32 :=
  next 2 128 slices_S256x128_o128_0_S64x128 slices_S4x64x128_o2_0_0_S1x64x128 slices_S4x1x128_o2_0_0_S1x1x128 vb ke d (state1 vb ke d S)
@[inherit_doc state1]
def state3 (vb : FVec Ideal S256x128 .bf16) (ke : FVec Ideal S4x64x128 .bf16) (d : FVec Ideal S4x1x128 .f32) (S : FVec Ideal S128x128 .f32) :
    FVec Ideal S128x128 .f32 :=
  next 1 64 slices_S256x128_o64_0_S64x128 slices_S4x64x128_o1_0_0_S1x64x128 slices_S4x1x128_o1_0_0_S1x1x128 vb ke d (state2 vb ke d S)
@[inherit_doc state1]
def state4 (vb : FVec Ideal S256x128 .bf16) (ke : FVec Ideal S4x64x128 .bf16) (d : FVec Ideal S4x1x128 .f32) (S : FVec Ideal S128x128 .f32) :
    FVec Ideal S128x128 .f32 :=
  next 0 0 slices_S256x128_o0_0_S64x128 slices_S4x64x128_o0_0_0_S1x64x128 slices_S4x1x128_o0_0_0_S1x1x128 vb ke d (state3 vb ke d S)

/-- A tile's result from its stages. -/
def tile (qd kd vb : FVec Ideal S256x128 .bf16) (ke : FVec Ideal S4x64x128 .bf16) (d : FVec Ideal S4x1x128 .f32)
    (S : FVec Ideal S128x128 .f32) : FVec Ideal S256x128 .f32 :=
  addf (intra qd kd vb) (concatenate S256x128 0 [⟨S64x128, readout 0 slices_S256x128_o0_0_S64x128 qd (state3 vb ke d S)⟩,
    ⟨S64x128, readout 64 slices_S256x128_o64_0_S64x128 qd (state2 vb ke d S)⟩,
    ⟨S64x128, readout 128 slices_S256x128_o128_0_S64x128 qd (state1 vb ke d S)⟩,
    ⟨S64x128, readout 192 slices_S256x128_o192_0_S64x128 qd S⟩] concatenates_S64x128_S64x128_S64x128_S64x128_S256x128_d0)

/-- The running sum of a head's tile. -/
def sumOf (w : FVec Ideal S2x128 .f32) (f : FVec Ideal S256x128 .f32) : FVec Ideal S256x128 .f32 := cumul (log (gateOf w f))

/-- The backward direction of a head on a tile. -/
def headDir (w : FVec Ideal S2x128 .f32) (q f v : FVec Ideal S256x128 .f32) (S : FVec Ideal S1x128x128 .f32) : FVec Ideal S256x128 .f32 :=
  tile (qDecay q (sumOf w f)) (kDecay (inv (gateOf w f)) (sumOf w f)) (vals v) (kEnd (inv (gateOf w f)) (sumOf w f))
    (decay (sumOf w f)) (flat S)

/-- The norm over a head's row, its gain and the gate. -/
def tail (o : FVec Ideal S256x128 .f32) (gain : FVec Ideal S1x128 .f32) (g : FVec Ideal S256x128 .f32) : FVec Ideal S256x128 .bf16 :=
  k0_pay1 o (divf (shapeCast S256x1 (multiReduction .add [1] S256 (mulf o o) 0x00000000#32 reduces_S256x128_S256 (.inl rfl) rfl) shapeCasts_S256_S256x1)
    (broadcast S256x1 (Scalar.ofBits .f32 0x43000000#32))) (Scalar.ofBits .f32 0x358637BD#32) gain g

/-- A head's result on a tile. -/
def headOut (w : FVec Ideal S2x128 .f32) (q f v g o : FVec Ideal S256x128 .f32) (gain : FVec Ideal S1x128 .f32) (S : FVec Ideal S1x128x128 .f32) :
    FVec Ideal S256x128 .bf16 := tail (addf o (headDir w q f v S)) gain g

/-- A head's state after a tile. -/
def headState (w : FVec Ideal S2x128 .f32) (f v : FVec Ideal S256x128 .f32) (S : FVec Ideal S1x128x128 .f32) : FVec Ideal S1x128x128 .f32 :=
  shapeCast S1x128x128 (state4 (vals v) (kEnd (inv (gateOf w f)) (sumOf w f)) (decay (sumOf w f)) (flat S)) shapeCasts_S128x128_S1x128x128

/-! ## All heads -/

theorem inbGain (h : Fin 16) : ∀ a, (![0, h.val * 128] : Fin 2 → Nat) a + S1x128.size a ≤ S1x2048.size a := by revert h; decide

/-- A head's columns of the gain. -/
def gains (h : Fin 16) (X : FVec Ideal S1x2048 .f32) : FVec Ideal S1x128 .f32 :=
  fun x => X ((Rect.unit (s := S1x2048) ![0, h.val * 128] ![1, 128] (inbGain h)).idx x)

/-- A tile's operands, all heads: queries, forget logits, values, gates, the forward direction, the bounds and the gain. -/
structure Tile where
  q : FVec Ideal S256x2048 .f32
  f : FVec Ideal S256x2048 .f32
  v : FVec Ideal S256x2048 .f32
  g : FVec Ideal S256x2048 .f32
  o : FVec Ideal S256x2048 .f32
  w : FVec Ideal S2x2048 .f32
  gain : FVec Ideal S1x2048 .f32

/-- The result of head `h` of a tile. -/
def Tile.out (A : Tile) (S : FVec Ideal S16x128x128 .f32) (h : Fin 16) : FVec Ideal S256x128 .bf16 :=
  headOut (bound h A.w) (cols h A.q) (cols h A.f) (cols h A.v) (cols h A.g) (cols h A.o) (gains h A.gain) (slab h S)

/-- The state of head `h` after a tile. -/
def Tile.state (A : Tile) (S : FVec Ideal S16x128x128 .f32) (h : Fin 16) : FVec Ideal S1x128x128 .f32 :=
  headState (bound h A.w) (cols h A.f) (cols h A.v) (slab h S)

/-- The heads' pieces side by side. -/
def beside (P : Fin 16 → FVec Ideal S256x128 .bf16) : FVec Ideal S256x2048 .bf16 :=
  fun y => P ⟨(y 1).val / 128, by have := (y 1).isLt; change _ < 2048 at this; omega⟩ (ValueIdx.ix2 (y 0) ⟨(y 1).val % 128, by omega⟩)
/-- The heads' states one after another. -/
def stacked (P : Fin 16 → FVec Ideal S1x128x128 .f32) : FVec Ideal S16x128x128 .f32 := fun y => P (y 0) (ValueIdx.ix3 0 (y 1) (y 2))

theorem beside_at (P : Fin 16 → FVec Ideal S256x128 .bf16) (h : Fin 16) (x : S256x128.Idx) (y : S256x2048.Idx) (e0 : (y 0).val = (x 0).val)
    (e1 : (y 1).val = h.val * 128 + (x 1).val) : P h x = beside P y := by
  have hx : (x 1).val < 128 := (x 1).isLt
  have hh : (⟨(y 1).val / 128, by have := (y 1).isLt; change _ < 2048 at this; omega⟩ : Fin 16) = h := Fin.ext (by show _ / _ = _; omega)
  unfold beside
  rw [hh]
  refine congrArg _ (funext fun a => ?_)
  match a with
  | ⟨0, _⟩ => exact Fin.ext e0.symm
  | ⟨1, _⟩ => exact Fin.ext (by show (x 1).val = (y 1).val % 128; omega)

theorem stacked_at (P : Fin 16 → FVec Ideal S1x128x128 .f32) (h : Fin 16) (x : S1x128x128.Idx) (y : S16x128x128.Idx)
    (e0 : (y 0).val = h.val + (x 0).val) (e1 : (y 1).val = (x 1).val) (e2 : (y 2).val = (x 2).val) : P h x = stacked P y := by
  have hx : (x 0).val < 1 := (x 0).isLt
  have hh : y 0 = h := Fin.ext (by omega)
  unfold stacked
  rw [hh]
  refine congrArg _ (funext fun a => ?_)
  match a with
  | ⟨0, _⟩ => exact Fin.ext (by show (x 0).val = 0; omega)
  | ⟨1, _⟩ => exact Fin.ext e1.symm
  | ⟨2, _⟩ => exact Fin.ext e2.symm

/-- `stacked_at` for a store given by its rectangle. -/
theorem stacked_emb (P : Fin 16 → FVec Ideal S1x128x128 .f32) (h : Fin 16) (p : FVec Ideal S1x128x128 .f32) (hp : p = P h) (x : S1x128x128.Idx) :
    p x = stacked P ((Rect.unit (s := S16x128x128) ![h.val, 0, 0] ![1, 128, 128] (inbState h)).emb x) := by
  rw [hp]
  refine stacked_at P h x _ ?_ ?_ ?_
  · exact Rect.idx_unit_val ..
  · exact (Rect.idx_unit_val ..).trans (Nat.zero_add _)
  · exact (Rect.idx_unit_val ..).trans (Nat.zero_add _)

end Cert.Kernel2Ideal.Final

end
-- ==== Proof.HgrnBwdPoint.lean ====
/- The backward recurrence at one grid point: the stored result and state are those of the 16 heads. -/
module

public import proofs.«01_k».proof.Proof.HgrnBwdHead
public import proofs.«01_k».proof.Proof.HgrnPoint
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Final

open Cert.Kernel2Ideal Cert.Kernel2Ideal.Gen
open Cert.KernelIdeal.Final (slab_mem)

variable (m : (ℓ : Loc nD τ sig) → Buf (Elt Ideal) ℓ)

/-- A grid point's operands. -/
def tileAt (c : Dev nD) (t : Fin cfg0.N) : Tile where
  q := iblk m c 0 t
  f := iblk m c 1 t
  v := iblk m c 2 t
  g := iblk m c 3 t
  o := iblk m c 4 t
  w := iblk m c 5 t
  gain := iblk m c 6 t

/-- The result stored at a later grid point. -/
theorem outB (c : Dev nD) (t : Fin cfg0.N) (h0 : ¬t.val % 32 = 0) :
    (outsAt0 m c t.val t.isLt).1 = beside ((tileAt m c t).out (outsAt0 m c (t.val - 1) (Nat.lt_of_le_of_lt (Nat.sub_le _ _) t.isLt)).2) := by
  rw [outsAt0_B m c t h0]
  unfold tileAt
  dsimp only
  frame_out
  simp only [read_unread_whole]
  generalize (iblk m c 0 t) = q
  generalize (iblk m c 1 t) = f
  generalize (iblk m c 2 t) = v
  generalize (iblk m c 3 t) = g
  generalize (iblk m c 4 t) = o
  generalize (iblk m c 5 t) = w
  generalize (iblk m c 6 t) = gain
  generalize (outsAt0 m c (t.val - 1) (Nat.lt_of_le_of_lt (Nat.sub_le _ _) t.isLt)).2 = S
  funext y
  canon_tiles x h
  · exact (congrFun (rfl : _ = Tile.out ⟨q, f, v, g, o, w, gain⟩ S 15) x).trans (beside_at _ 15 x y h0 (by simpa using h1))
  · exact (congrFun (rfl : _ = Tile.out ⟨q, f, v, g, o, w, gain⟩ S 14) x).trans (beside_at _ 14 x y h0 (by simpa using h1))
  · exact (congrFun (rfl : _ = Tile.out ⟨q, f, v, g, o, w, gain⟩ S 13) x).trans (beside_at _ 13 x y h0 (by simpa using h1))
  · exact (congrFun (rfl : _ = Tile.out ⟨q, f, v, g, o, w, gain⟩ S 12) x).trans (beside_at _ 12 x y h0 (by simpa using h1))
  · exact (congrFun (rfl : _ = Tile.out ⟨q, f, v, g, o, w, gain⟩ S 11) x).trans (beside_at _ 11 x y h0 (by simpa using h1))
  · exact (congrFun (rfl : _ = Tile.out ⟨q, f, v, g, o, w, gain⟩ S 10) x).trans (beside_at _ 10 x y h0 (by simpa using h1))
  · exact (congrFun (rfl : _ = Tile.out ⟨q, f, v, g, o, w, gain⟩ S 9) x).trans (beside_at _ 9 x y h0 (by simpa using h1))
  · exact (congrFun (rfl : _ = Tile.out ⟨q, f, v, g, o, w, gain⟩ S 8) x).trans (beside_at _ 8 x y h0 (by simpa using h1))
  · exact (congrFun (rfl : _ = Tile.out ⟨q, f, v, g, o, w, gain⟩ S 7) x).trans (beside_at _ 7 x y h0 (by simpa using h1))
  · exact (congrFun (rfl : _ = Tile.out ⟨q, f, v, g, o, w, gain⟩ S 6) x).trans (beside_at _ 6 x y h0 (by simpa using h1))
  · exact (congrFun (rfl : _ = Tile.out ⟨q, f, v, g, o, w, gain⟩ S 5) x).trans (beside_at _ 5 x y h0 (by simpa using h1))
  · exact (congrFun (rfl : _ = Tile.out ⟨q, f, v, g, o, w, gain⟩ S 4) x).trans (beside_at _ 4 x y h0 (by simpa using h1))
  · exact (congrFun (rfl : _ = Tile.out ⟨q, f, v, g, o, w, gain⟩ S 3) x).trans (beside_at _ 3 x y h0 (by simpa using h1))
  · exact (congrFun (rfl : _ = Tile.out ⟨q, f, v, g, o, w, gain⟩ S 2) x).trans (beside_at _ 2 x y h0 (by simpa using h1))
  · exact (congrFun (rfl : _ = Tile.out ⟨q, f, v, g, o, w, gain⟩ S 1) x).trans (beside_at _ 1 x y h0 (by simpa using h1))
  · exact (congrFun (rfl : _ = Tile.out ⟨q, f, v, g, o, w, gain⟩ S 0) x).trans (beside_at _ 0 x y h0 (by simpa using h1))

/-- The result stored at the first grid point, from the zero state. -/
theorem outA (c : Dev nD) (t : Fin cfg0.N) (h0 : t.val % 32 = 0) :
    (outsAt0 m c t.val t.isLt).1 = beside ((tileAt m c t).out k0_pay2) := by
  rw [outsAt0_A m c t h0]
  unfold tileAt
  dsimp only
  frame_out
  simp (disch := decide) only [View.readCov_skip, View.readCov_fill]
  generalize (iblk m c 0 t) = q
  generalize (iblk m c 1 t) = f
  generalize (iblk m c 2 t) = v
  generalize (iblk m c 3 t) = g
  generalize (iblk m c 4 t) = o
  generalize (iblk m c 5 t) = w
  generalize (iblk m c 6 t) = gain
  funext y
  canon_tiles x h
  · exact (congrFun (rfl : _ = Tile.out ⟨q, f, v, g, o, w, gain⟩ k0_pay2 15) x).trans (beside_at _ 15 x y h0 (by simpa using h1))
  · exact (congrFun (rfl : _ = Tile.out ⟨q, f, v, g, o, w, gain⟩ k0_pay2 14) x).trans (beside_at _ 14 x y h0 (by simpa using h1))
  · exact (congrFun (rfl : _ = Tile.out ⟨q, f, v, g, o, w, gain⟩ k0_pay2 13) x).trans (beside_at _ 13 x y h0 (by simpa using h1))
  · exact (congrFun (rfl : _ = Tile.out ⟨q, f, v, g, o, w, gain⟩ k0_pay2 12) x).trans (beside_at _ 12 x y h0 (by simpa using h1))
  · exact (congrFun (rfl : _ = Tile.out ⟨q, f, v, g, o, w, gain⟩ k0_pay2 11) x).trans (beside_at _ 11 x y h0 (by simpa using h1))
  · exact (congrFun (rfl : _ = Tile.out ⟨q, f, v, g, o, w, gain⟩ k0_pay2 10) x).trans (beside_at _ 10 x y h0 (by simpa using h1))
  · exact (congrFun (rfl : _ = Tile.out ⟨q, f, v, g, o, w, gain⟩ k0_pay2 9) x).trans (beside_at _ 9 x y h0 (by simpa using h1))
  · exact (congrFun (rfl : _ = Tile.out ⟨q, f, v, g, o, w, gain⟩ k0_pay2 8) x).trans (beside_at _ 8 x y h0 (by simpa using h1))
  · exact (congrFun (rfl : _ = Tile.out ⟨q, f, v, g, o, w, gain⟩ k0_pay2 7) x).trans (beside_at _ 7 x y h0 (by simpa using h1))
  · exact (congrFun (rfl : _ = Tile.out ⟨q, f, v, g, o, w, gain⟩ k0_pay2 6) x).trans (beside_at _ 6 x y h0 (by simpa using h1))
  · exact (congrFun (rfl : _ = Tile.out ⟨q, f, v, g, o, w, gain⟩ k0_pay2 5) x).trans (beside_at _ 5 x y h0 (by simpa using h1))
  · exact (congrFun (rfl : _ = Tile.out ⟨q, f, v, g, o, w, gain⟩ k0_pay2 4) x).trans (beside_at _ 4 x y h0 (by simpa using h1))
  · exact (congrFun (rfl : _ = Tile.out ⟨q, f, v, g, o, w, gain⟩ k0_pay2 3) x).trans (beside_at _ 3 x y h0 (by simpa using h1))
  · exact (congrFun (rfl : _ = Tile.out ⟨q, f, v, g, o, w, gain⟩ k0_pay2 2) x).trans (beside_at _ 2 x y h0 (by simpa using h1))
  · exact (congrFun (rfl : _ = Tile.out ⟨q, f, v, g, o, w, gain⟩ k0_pay2 1) x).trans (beside_at _ 1 x y h0 (by simpa using h1))
  · exact (congrFun (rfl : _ = Tile.out ⟨q, f, v, g, o, w, gain⟩ k0_pay2 0) x).trans (beside_at _ 0 x y h0 (by simpa using h1))

/-- The states left by a later grid point. -/
theorem stB (c : Dev nD) (t : Fin cfg0.N) (h0 : ¬t.val % 32 = 0) :
    (outsAt0 m c t.val t.isLt).2 = stacked ((tileAt m c t).state (outsAt0 m c (t.val - 1) (Nat.lt_of_le_of_lt (Nat.sub_le _ _) t.isLt)).2) := by
  rw [outsAt0_B m c t h0]
  unfold tileAt
  dsimp only
  frame_out
  simp only [read_unread_whole]
  generalize (iblk m c 0 t) = q
  generalize (iblk m c 1 t) = f
  generalize (iblk m c 2 t) = v
  generalize (iblk m c 3 t) = g
  generalize (iblk m c 4 t) = o
  generalize (iblk m c 5 t) = w
  generalize (iblk m c 6 t) = gain
  generalize (outsAt0 m c (t.val - 1) (Nat.lt_of_le_of_lt (Nat.sub_le _ _) t.isLt)).2 = S
  funext y
  canon_tiles x h
  · exact (congrFun (rfl : _ = Tile.state ⟨q, f, v, g, o, w, gain⟩ S 15) x).trans (stacked_at _ 15 x y (by simpa using h0) h1 h2)
  · exact (congrFun (rfl : _ = Tile.state ⟨q, f, v, g, o, w, gain⟩ S 14) x).trans (stacked_at _ 14 x y (by simpa using h0) h1 h2)
  · exact (congrFun (rfl : _ = Tile.state ⟨q, f, v, g, o, w, gain⟩ S 13) x).trans (stacked_at _ 13 x y (by simpa using h0) h1 h2)
  · exact (congrFun (rfl : _ = Tile.state ⟨q, f, v, g, o, w, gain⟩ S 12) x).trans (stacked_at _ 12 x y (by simpa using h0) h1 h2)
  · exact (congrFun (rfl : _ = Tile.state ⟨q, f, v, g, o, w, gain⟩ S 11) x).trans (stacked_at _ 11 x y (by simpa using h0) h1 h2)
  · exact (congrFun (rfl : _ = Tile.state ⟨q, f, v, g, o, w, gain⟩ S 10) x).trans (stacked_at _ 10 x y (by simpa using h0) h1 h2)
  · exact (congrFun (rfl : _ = Tile.state ⟨q, f, v, g, o, w, gain⟩ S 9) x).trans (stacked_at _ 9 x y (by simpa using h0) h1 h2)
  · exact (congrFun (rfl : _ = Tile.state ⟨q, f, v, g, o, w, gain⟩ S 8) x).trans (stacked_at _ 8 x y (by simpa using h0) h1 h2)
  · exact (congrFun (rfl : _ = Tile.state ⟨q, f, v, g, o, w, gain⟩ S 7) x).trans (stacked_at _ 7 x y (by simpa using h0) h1 h2)
  · exact (congrFun (rfl : _ = Tile.state ⟨q, f, v, g, o, w, gain⟩ S 6) x).trans (stacked_at _ 6 x y (by simpa using h0) h1 h2)
  · exact (congrFun (rfl : _ = Tile.state ⟨q, f, v, g, o, w, gain⟩ S 5) x).trans (stacked_at _ 5 x y (by simpa using h0) h1 h2)
  · exact (congrFun (rfl : _ = Tile.state ⟨q, f, v, g, o, w, gain⟩ S 4) x).trans (stacked_at _ 4 x y (by simpa using h0) h1 h2)
  · exact (congrFun (rfl : _ = Tile.state ⟨q, f, v, g, o, w, gain⟩ S 3) x).trans (stacked_at _ 3 x y (by simpa using h0) h1 h2)
  · exact (congrFun (rfl : _ = Tile.state ⟨q, f, v, g, o, w, gain⟩ S 2) x).trans (stacked_at _ 2 x y (by simpa using h0) h1 h2)
  · exact (congrFun (rfl : _ = Tile.state ⟨q, f, v, g, o, w, gain⟩ S 1) x).trans (stacked_at _ 1 x y (by simpa using h0) h1 h2)
  · exact (congrFun (rfl : _ = Tile.state ⟨q, f, v, g, o, w, gain⟩ S 0) x).trans (stacked_at _ 0 x y (by simpa using h0) h1 h2)

/-- The states left by the first grid point. -/
theorem stA (c : Dev nD) (t : Fin cfg0.N) (h0 : t.val % 32 = 0) :
    (outsAt0 m c t.val t.isLt).2 = stacked ((tileAt m c t).state k0_pay2) := by
  rw [outsAt0_A m c t h0]
  unfold tileAt
  dsimp only
  frame_out
  simp (disch := decide) only [View.readCov_skip, View.readCov_fill]
  generalize (iblk m c 0 t) = q
  generalize (iblk m c 1 t) = f
  generalize (iblk m c 2 t) = v
  generalize (iblk m c 3 t) = g
  generalize (iblk m c 4 t) = o
  generalize (iblk m c 5 t) = w
  generalize (iblk m c 6 t) = gain
  funext y
  have hp := stacked_emb (Tile.state ⟨q, f, v, g, o, w, gain⟩ k0_pay2)
  refine View.canon_append_of_piecesOf (Val := Elt Ideal) (e := .f32) (stacked (Tile.state ⟨q, f, v, g, o, w, gain⟩ k0_pay2)) [_] [_, _, _, _, _, _, _, _, _, _, _, _, _, _, _, _]
    ⟨hp 15 _ rfl, hp 14 _ rfl, hp 13 _ rfl, hp 12 _ rfl, hp 11 _ rfl, hp 10 _ rfl, hp 9 _ rfl, hp 8 _ rfl, hp 7 _ rfl, hp 6 _ rfl, hp 5 _ rfl, hp 4 _ rfl, hp 3 _ rfl, hp 2 _ rfl, hp 1 _ rfl, hp 0 _ rfl, trivial⟩ y ?_
  have hy : (y 0).val < 16 := (y 0).isLt
  simp only [List.mem_cons, exists_eq_or_imp, exists_eq_left, List.not_mem_nil, false_and, exists_false, or_false]
  interval_cases hn : (y 0).val
  all_goals repeat first | exact Or.inl (slab_mem y _ _ hn) | exact slab_mem y _ _ hn | refine Or.inr ?_

end Cert.Kernel2Ideal.Final

end
-- ==== Proof.HgrnBwdSpec.lean ====
/- The backward call's result as a function of a row's and a column's number: both directions added, normalized by the head
   and gated. -/
module

public import proofs.«01_k».proof.Proof.HgrnSpec

@[expose] public section

noncomputable section

open Idealize.ShloMosaic

namespace Cert.Hgrn

/-- Entry `d` of a head's row `o`, divided by the row's root mean square, times its gain and the gate `g · logistic g`. -/
def normed (o : ℕ → EReal) (gain g : EReal) (d : ℕ) : EReal :=
  o d * Ideal.rsqrt (Ideal.div (∑ k : Fin 128, o k.val * o k.val) (Ideal.ofBits .f32 0x43000000#32) + Ideal.ofBits .f32 0x358637BD#32)
    * gain * (g * Ideal.logistic g)

/-- Row `a` of head `h`: the forward direction's, given, and the backward direction's. -/
def added (X : Fin 8192 → Fin 12288 → EReal) (O : Fin 8192 → Fin 2048 → EReal) (W : Fin 2 → Fin 2048 → EReal) (a : Fin 8192) (h d : ℕ) :
    EReal :=
  O a ⟨(h * 128 + d) % 2048, Nat.mod_lt _ (by decide)⟩ + (headOf back 6144 X W h).out (8191 - a.val) d

/-- The call's result. -/
def both (X : Fin 8192 → Fin 12288 → EReal) (O : Fin 8192 → Fin 2048 → EReal) (W : Fin 2 → Fin 2048 → EReal) (G : Fin 2048 → EReal)
    (a : Fin 8192) (e : Fin 2048) : EReal :=
  normed (added X O W a (e.val / 128)) (G e) (X a ⟨10240 + e.val, by omega⟩) (e.val % 128)

end Cert.Hgrn

end
-- ==== Proof.HgrnBwdStages.lean ====
/- The stages of one head of the backward recurrence at an index. -/
module

public import proofs.«01_k».proof.Proof.HgrnBwdHead
public import proofs.«01_k».proof.Proof.HgrnBwdSpec
public import proofs.«01_k».proof.Proof.HgrnStages

@[expose] public section

set_option maxRecDepth 16384

noncomputable section

open Idealize.ShloMosaic Idealize.ShloMosaic.TcCoe Idealize.SL.Sem

namespace Cert.Kernel2Ideal.Final

open Cert.Kernel2Ideal Cert.Kernel2Ideal.Gen
open Cert.KernelIdeal.Final (place place_at)

theorem below (p : Fin 64) : ∀ k : Fin 6, IntOp.cmpi .slt (BitVec.ofNat 32 p.val) (BitVec.ofNat 32 (64 - 2 ^ k.val))
    = if p.val < 64 - 2 ^ k.val then 1#1 else 0#1 := by
  revert p
  decide +kernel

/-- A key's chunk, as the kernel computes it from the column's number. -/
def keyChunk : IVec S256x256 32 :=
  select (andi (cmpi .ne k0_pay5 k0_pay6)
      (cmpi .ne (remsi (iota .tc S256x256 32 [1] iota_S256x256_d1_w32) (broadcast S256x256 64#32)) (broadcast S256x256 0#32)))
    (subi k0_pay4 (broadcast S256x256 1#32)) k0_pay4

theorem rowChunk_at (r s : Fin 256) : k0_pay3 (ValueIdx.ix2 r s) = BitVec.ofNat 32 (r.val / 64) := by
  refine (rfl : _ = k0_pay3 (ValueIdx.ix2 r 0)).trans ?_
  revert r
  decide +kernel

theorem keyChunk_at (r s : Fin 256) : keyChunk (ValueIdx.ix2 r s) = BitVec.ofNat 32 (s.val / 64) := by
  refine (rfl : _ = keyChunk (ValueIdx.ix2 0 s)).trans ?_
  revert s
  decide +kernel

theorem mask_at (r s : Fin 256) : mask (ValueIdx.ix2 r s) = if s.val / 64 = r.val / 64 ∧ r.val ≤ s.val then 1#1 else 0#1 := by
  have hr := r.isLt
  have hs := s.isLt
  have hk : keyChunk (ValueIdx.ix2 r s) = BitVec.ofNat 32 (s.val / 64) := keyChunk_at r s
  unfold keyChunk at hk
  unfold mask k0_pay7
  pointwise [] at hk ⊢
  rw [hk, rowChunk_at, WordCmp.cmpi_eq_ofNat (by omega) (by omega)]
  show IntOp.andi _ (IntOp.cmpi .sge (BitVec.ofNat 32 s.val) (BitVec.ofNat 32 r.val)) = _
  rw [WordCmp.cmpi_sge_ofNat (by omega) (by omega)]
  by_cases h1 : r.val / 64 = s.val / 64 <;> by_cases h2 : r.val ≤ s.val <;> simp [h1, h2, eq_comm, IntOp.andi]

/-- A step of `s` rows adds the sum `s` rows below, where the chunk has that row. -/
theorem hop_at (k : Fin 6) (s : ℕ) (hs : s = 2 ^ k.val) (x : FVec Ideal S256x128 .f32) (r : Fin 256) (d : Fin 128) :
    hop (BitVec.ofNat 32 (256 - s)) (BitVec.ofNat 32 (64 - s)) x (ValueIdx.ix2 r d) = x (ValueIdx.ix2 r d)
      + if h : r.val % 64 < 64 - s then x (ValueIdx.ix2 ⟨r.val + s, by omega⟩ d) else 0 := by
  have hk : 0 < s ∧ s < 64 := by subst hs; revert k; decide
  have hr := r.isLt
  have ht : (BitVec.ofNat 32 (256 - s)).toNat = 256 - s := by rw [BitVec.toNat_ofNat]; omega
  have hm := below ⟨r.val % 64, by omega⟩ k
  rw [← hs] at hm
  unfold hop
  show x (ValueIdx.ix2 r d) + Scalar.select (IntOp.cmpi .slt (place (ValueIdx.ix2 r d)) (BitVec.ofNat 32 (64 - s)))
    (dynamicRotate 0 (BitVec.ofNat 32 (256 - s)) none x rotates_S256x128_d0 (ValueIdx.ix2 r d)) (Ideal.ofBits .f32 0x00000000#32) = _
  rw [place_at, hm]
  by_cases h : r.val % 64 < 64 - s
  · rw [if_pos h, dif_pos h]
    refine congrArg (x (ValueIdx.ix2 r d) + ·) (congrArg x (funext fun b => ?_))
    match b with
    | ⟨0, _⟩ =>
      refine Fin.ext ?_
      show (r.val + 256 - (BitVec.ofNat 32 (256 - s)).toNat % 256) % 256 = r.val + s
      rw [ht]
      omega
    | ⟨1, _⟩ => rfl
  · rw [if_neg h, dif_neg h]
    exact congrArg (x (ValueIdx.ix2 r d) + ·) (by simp [Scalar.select, Ideal.ofBits, Ideal.ieee])

/-- `x` holds the sums of the next `n` rows of the chunk, of channel `d` of `g`. -/
def Sums (g : ℕ → ℕ → EReal) (n : ℕ) (x : FVec Ideal S256x128 .f32) : Prop :=
  ∀ (r : Fin 256) (d : Fin 128), x (ValueIdx.ix2 r d) = ∑ j ∈ Finset.range (min n (64 - r.val % 64)), g (r.val + j) d.val

theorem Sums.hop {g : ℕ → ℕ → EReal} {x : FVec Ideal S256x128 .f32} (k : Fin 6) (s : ℕ) (hs : s = 2 ^ k.val) (h : Sums g s x) :
    Sums g (s + s) (hop (BitVec.ofNat 32 (256 - s)) (BitVec.ofNat 32 (64 - s)) x) := by
  intro r d
  have hr := r.isLt
  rw [hop_at k s hs, h r d]
  by_cases hc : r.val % 64 < 64 - s
  · rw [dif_pos hc, h]
    show _ + ∑ j ∈ Finset.range (min s (64 - (r.val + s) % 64)), g (r.val + s + j) d.val = _
    rw [show min s (64 - r.val % 64) = s by omega,
      show min (s + s) (64 - r.val % 64) = s + min s (64 - (r.val + s) % 64) by omega, Finset.sum_range_add]
    exact congrArg _ (Finset.sum_congr rfl fun j _ => by rw [Nat.add_assoc])
  · rw [dif_neg hc, add_zero, show min (s + s) (64 - r.val % 64) = min s (64 - r.val % 64) by omega]

theorem cumul_at (g : ℕ → ℕ → EReal) (L : FVec Ideal S256x128 .f32) (hL : ∀ (r : Fin 256) (d : Fin 128), L (ValueIdx.ix2 r d) = g r.val d.val)
    (r : Fin 256) (d : Fin 128) : cumul L (ValueIdx.ix2 r d) = ∑ j ∈ Finset.range (64 - r.val % 64), g (r.val + j) d.val := by
  have h0 : Sums g 1 L := fun r d => by
    rw [show min 1 (64 - r.val % 64) = 1 by omega, Finset.sum_range_one]
    exact hL r d
  refine ((((((h0.hop 0 1 rfl).hop 1 2 rfl).hop 2 4 rfl).hop 3 8 rfl).hop 4 16 rfl).hop 5 32 rfl r d).trans ?_
  rw [show min (32 + 32) (64 - r.val % 64) = 64 - r.val % 64 by omega]

/-- The norm, its gain and the gate at an index. -/
theorem tail_at (o : FVec Ideal S256x128 .f32) (gain : FVec Ideal S1x128 .f32) (g : FVec Ideal S256x128 .f32) (u : ℕ → EReal) (r : Fin 256)
    (hu : ∀ d : Fin 128, o (ValueIdx.ix2 r d) = u d.val) (d : Fin 128) :
    tail o gain g (ValueIdx.ix2 r d) = Hgrn.normed u (gain (ValueIdx.ix2 0 d)) (g (ValueIdx.ix2 r d)) d.val := by
  unfold Hgrn.normed
  pointwise [tail, k0_pay1]
  simp only [← hu]
  rfl

end Cert.Kernel2Ideal.Final

end
-- ==== Proof.HgrnBwdTile.lean ====
/- One head on a tile of 256 rows, taken from the last row to the first, is rows `T … T + 255` of the head of HgrnSpec.lean. -/
module

public import proofs.«01_k».proof.Proof.HgrnBwdStages
public import proofs.«01_k».proof.Proof.HgrnTile

@[expose] public section

set_option maxRecDepth 16384

noncomputable section

open Idealize.ShloMosaic Idealize.ShloMosaic.TcCoe Idealize.SL.Sem
open Cert.Hgrn (Head)

namespace Cert.Kernel2Ideal.Final

open Cert.Kernel2Ideal Cert.Kernel2Ideal.Gen
open Cert.KernelIdeal.Final (gateOf inv qDecay kDecay chunks vals next readout flat lower gate_at Holds)

/-- A sum over a chunk's rows, taken from the last to the first. -/
theorem sum_back (g : ℕ → EReal) : (∑ s : Fin 64, g s.val) = ∑ s : Fin 64, g (63 - s.val) := by
  refine (Equiv.sum_comp Fin.revPerm fun s : Fin 64 => g s.val).symm.trans (Finset.sum_congr rfl fun s _ => congrArg g ?_)
  show 64 - (s.val + 1) = 63 - s.val
  omega

/-- A tile's operands are the head's from row `T` on, the tile's last row first. -/
structure Fits (H : Head) (T : ℕ) (w : FVec Ideal S2x128 .f32) (q f v : FVec Ideal S256x128 .f32) : Prop where
  start : T % 64 = 0
  low : ∀ d : Fin 128, lower w (ValueIdx.ix2 0 d) = H.low d.val
  q : ∀ (r : Fin 256) (d : Fin 128), q (ValueIdx.ix2 r d) = H.q (T + (255 - r.val)) d.val
  f : ∀ (r : Fin 256) (d : Fin 128), f (ValueIdx.ix2 r d) = H.f (T + (255 - r.val)) d.val
  v : ∀ (r : Fin 256) (d : Fin 128), v (ValueIdx.ix2 r d) = H.v (T + (255 - r.val)) d.val

variable {H : Head} {T : ℕ} {w : FVec Ideal S2x128 .f32} {q f v : FVec Ideal S256x128 .f32} (hf : Fits H T w q f v)

include hf

theorem gateOf_at (r : Fin 256) (d : Fin 128) : gateOf w f (ValueIdx.ix2 r d) = H.gate (T + (255 - r.val)) d.val := by
  unfold gateOf
  rw [gate_at, hf.low, hf.f]
  rfl

theorem sumOf_at (r : Fin 256) (d : Fin 128) : sumOf w f (ValueIdx.ix2 r d) = H.sum (T + (255 - r.val)) d.val := by
  have hT := hf.start
  have hr := r.isLt
  unfold sumOf
  refine (cumul_at (fun r k => Ideal.log (H.gate (T + (255 - r)) k)) _ (fun r d => ?_) r d).trans ?_
  · exact congrArg Ideal.log (gateOf_at hf r d)
  · unfold Head.sum
    rw [show (T + (255 - r.val)) % 64 + 1 = 64 - r.val % 64 by omega]
    refine Finset.sum_congr rfl fun j hj => ?_
    have := Finset.mem_range.1 hj
    rw [show T + (255 - r.val) - j = T + (255 - (r.val + j)) by omega]

theorem query_at (r : Fin 256) (d : Fin 128) : qDecay q (sumOf w f) (ValueIdx.ix2 r d) = H.query (T + (255 - r.val)) d.val := by
  have hb := sumOf_at hf r d
  generalize sumOf w f = b at hb ⊢
  pointwise [qDecay]
  rw [hb, hf.q]
  rfl

theorem key_at (r : Fin 256) (d : Fin 128) : kDecay (inv (gateOf w f)) (sumOf w f) (ValueIdx.ix2 r d) = H.key (T + (255 - r.val)) d.val := by
  have hb := sumOf_at hf r d
  have hg := gateOf_at hf r d
  generalize sumOf w f = b at hb ⊢
  generalize gateOf w f = g at hg ⊢
  pointwise [kDecay, Cert.KernelIdeal.Final.inv]
  rw [hb, hg]
  rfl

theorem vals_at (r : Fin 256) (d : Fin 128) : vals v (ValueIdx.ix2 r d) = H.v (T + (255 - r.val)) d.val := hf.v r d

theorem last_at (c : Fin 4) (i : Fin 64) (d : Fin 128) : kEnd (inv (gateOf w f)) (sumOf w f) (ValueIdx.ix3 c i d)
    = H.last (T / 64 + (3 - c.val)) ((T / 64 + (3 - c.val)) * 64 + (63 - i.val)) d.val := by
  have hT := hf.start
  have hc := c.isLt
  have hi := i.isLt
  have hb := sumOf_at hf
  have hg := gateOf_at hf
  generalize sumOf w f = b at hb ⊢
  generalize gateOf w f = g at hg ⊢
  pointwise [kEnd, chunks, whole, Cert.KernelIdeal.Final.inv]
  have e : T + (255 - (c.val * 64 + i.val)) = (T / 64 + (3 - c.val)) * 64 + (63 - i.val) := by omega
  have e' : T + (255 - (c.val * 64)) = (T / 64 + (3 - c.val)) * 64 + 63 := by omega
  have h1 := hb ⟨c.val * 64 + i.val, by omega⟩ d
  have h2 := hb ⟨c.val * 64, by omega⟩ d
  have h3 := hg ⟨c.val * 64 + i.val, by omega⟩ d
  simp only [e, e'] at h1 h2 h3
  exact congrArg₂ (· * ·) (congrArg (1 - ·) h3) (congrArg Ideal.exp (congrArg₂ (· - ·) h2 h1))

theorem decay_at (c : Fin 4) (d : Fin 128) : decay (sumOf w f) (ValueIdx.ix3 c 0 d)
    = Ideal.exp (H.sum ((T / 64 + (3 - c.val)) * 64 + 63) d.val) := by
  have hT := hf.start
  have hc := c.isLt
  have hb := sumOf_at hf
  generalize sumOf w f = b at hb ⊢
  pointwise [decay, chunks, whole]
  have h2 := hb ⟨c.val * 64, by omega⟩ d
  simp only [show T + (255 - (c.val * 64)) = (T / 64 + (3 - c.val)) * 64 + 63 by omega] at h2
  exact congrArg Ideal.exp h2

theorem next_at (c : Fin 4) (n N : ℕ) (hn : n = c.val) (hN : N = T / 64 + (3 - n)) (r : ℕ) (hr : r = n * 64) (hv : S256x128.Slices ![r, 0] S64x128)
    (hk : S4x64x128.Slices ![n, 0, 0] S1x64x128) (hd : S4x1x128.Slices ![n, 0, 0] S1x1x128) (S : FVec Ideal S128x128 .f32)
    (hS : Holds H N S) :
    Holds H (N + 1) (next n r hv hk hd (vals v) (kEnd (inv (gateOf w f)) (sumOf w f)) (decay (sumOf w f)) S) := by
  intro i k
  subst hn hr hN
  have hT := hf.start
  have hc := c.isLt
  have h1 := decay_at hf c k
  have h2 := fun s => last_at hf c s k
  have h3 := vals_at hf
  generalize kEnd _ _ = ke at h2 ⊢
  generalize decay _ = dc at h1 ⊢
  generalize vals v = vb at h3 ⊢
  pointwise [next]
  refine congrArg₂ (· + ·) (congrArg₂ (· * ·) (hS i k) h1) ?_
  refine Eq.trans (Finset.sum_congr rfl fun s _ => congrArg₂ (· * ·) ?_ (h2 s)) (sum_back fun s =>
    H.v ((T / 64 + (3 - c.val)) * 64 + s) i.val * H.last (T / 64 + (3 - c.val)) ((T / 64 + (3 - c.val)) * 64 + s) k.val).symm
  have hs := s.isLt
  refine (h3 ⟨c.val * 64 + s.val, by omega⟩ i).trans ?_
  show H.v (T + (255 - (c.val * 64 + s.val))) i.val = _
  rw [show T + (255 - (c.val * 64 + s.val)) = (T / 64 + (3 - c.val)) * 64 + (63 - s.val) by omega]

theorem intra_at (r : Fin 256) (d : Fin 128) :
    intra (qDecay q (sumOf w f)) (kDecay (inv (gateOf w f)) (sumOf w f)) (vals v) (ValueIdx.ix2 r d) = H.intra (T + (255 - r.val)) d.val := by
  have hT := hf.start
  have hr := r.isLt
  have h1 := query_at hf r
  have h2 := key_at hf
  have h3 := vals_at hf
  have h4 := mask_at r
  generalize qDecay _ _ = qd at h1 ⊢
  generalize kDecay _ _ = kd at h2 ⊢
  generalize vals v = vb at h3 ⊢
  unfold intra
  generalize mask = M at h4 ⊢
  pointwise []
  unfold Head.intra
  rw [show (T + (255 - r.val)) % 64 = 63 - r.val % 64 by omega, show (T + (255 - r.val)) / 64 * 64 = T + (3 - r.val / 64) * 64 by omega]
  refine Eq.trans ?_ ((Hgrn.sum_chunk ⟨r.val / 64, by omega⟩ (fun x => if r.val % 64 ≤ x % 64
    then (∑ k : Fin 128, H.query (T + (255 - r.val)) k.val * H.key (T + (255 - x)) k.val) * H.v (T + (255 - x)) d.val else 0)).trans
    (Eq.trans (Finset.sum_congr rfl fun s _ => ?_) (sum_back fun s => if s ≤ 63 - r.val % 64
    then (∑ k : Fin 128, H.query (T + (255 - r.val)) k.val * H.key (T + (3 - r.val / 64) * 64 + s) k.val) * H.v (T + (3 - r.val / 64) * 64 + s) d.val
    else 0).symm))
  · refine Finset.sum_congr rfl fun x _ => ?_
    have e : (∑ k, qd (ValueIdx.ix2 r k) * kd (ValueIdx.ix2 x k)) * vb (ValueIdx.ix2 x d)
        = (∑ k : Fin 128, H.query (T + (255 - r.val)) k.val * H.key (T + (255 - x.val)) k.val) * H.v (T + (255 - x.val)) d.val := by
      rw [h3]
      exact congrArg (· * _) (Finset.sum_congr rfl fun k _ => congrArg₂ (· * ·) (h1 k) (h2 x k))
    refine (congrArg₂ (fun a b => Scalar.select a b (0 : EReal)) (h4 x) e).trans ?_
    by_cases ha : x.val / 64 = r.val / 64
    · by_cases hb : r.val ≤ x.val
      · rw [if_pos ⟨ha, hb⟩, if_pos ha, if_pos (by omega)]
        exact if_pos rfl
      · rw [if_neg (fun h => hb h.2), if_pos ha, if_neg (by omega)]
        exact if_neg (by decide)
    · rw [if_neg (fun h => ha h.1), if_neg ha]
      exact if_neg (by decide)
  · have hs := s.isLt
    show (if r.val % 64 ≤ (r.val / 64 * 64 + s.val) % 64 then _ else _) = _
    rw [show (r.val / 64 * 64 + s.val) % 64 = s.val by omega,
      show T + (255 - (r.val / 64 * 64 + s.val)) = T + (3 - r.val / 64) * 64 + (63 - s.val) by omega]
    exact if_congr (by omega) rfl rfl

theorem readout_at (c : Fin 4) (N : ℕ) (hN : N = T / 64 + (3 - c.val)) (r : ℕ) (hr : r = c.val * 64) (h : S256x128.Slices ![r, 0] S64x128)
    (S : FVec Ideal S128x128 .f32) (hS : Holds H N S) (i : Fin 64) (d : Fin 128) :
    readout r h (qDecay q (sumOf w f)) S (ValueIdx.ix2 i d) = H.readout (T + (255 - (r + i.val))) d.val := by
  subst hr hN
  have hT := hf.start
  have hc := c.isLt
  have hi := i.isLt
  have h1 := query_at hf ⟨c.val * 64 + i.val, by omega⟩
  generalize qDecay _ _ = qd at h1 ⊢
  pointwise [readout]
  unfold Head.readout
  rw [show (T + (255 - (c.val * 64 + i.val))) / 64 = T / 64 + (3 - c.val) by omega]
  exact Finset.sum_congr rfl fun k _ => congrArg₂ (· * ·) (h1 k) (hS d k)

variable {S : FVec Ideal S1x128x128 .f32} (hS : ∀ i k : Fin 128, S (ValueIdx.ix3 0 i k) = H.state (T / 64) k.val i.val)

include hS

omit hf in
theorem flat_at : Holds H (T / 64 + 0) (flat S) := Cert.KernelIdeal.Final.flat_at hS

theorem state1_at : Holds H (T / 64 + 1) (state1 (vals v) (kEnd (inv (gateOf w f)) (sumOf w f)) (decay (sumOf w f)) (flat S)) :=
  next_at hf 3 3 _ rfl rfl 192 rfl _ _ _ _ (flat_at hS)
theorem state2_at : Holds H (T / 64 + 2) (state2 (vals v) (kEnd (inv (gateOf w f)) (sumOf w f)) (decay (sumOf w f)) (flat S)) :=
  next_at hf 2 2 _ rfl rfl 128 rfl _ _ _ _ (state1_at hf hS)
theorem state3_at : Holds H (T / 64 + 3) (state3 (vals v) (kEnd (inv (gateOf w f)) (sumOf w f)) (decay (sumOf w f)) (flat S)) :=
  next_at hf 1 1 _ rfl rfl 64 rfl _ _ _ _ (state2_at hf hS)
theorem state4_at : Holds H (T / 64 + 4) (state4 (vals v) (kEnd (inv (gateOf w f)) (sumOf w f)) (decay (sumOf w f)) (flat S)) :=
  next_at hf 0 0 _ rfl rfl 0 rfl _ _ _ _ (state3_at hf hS)

/-- The state a tile leaves. -/
theorem headState_at (i k : Fin 128) : headState w f v S (ValueIdx.ix3 0 i k) = H.state (T / 64 + 4) k.val i.val := by
  have h := state4_at hf hS i k
  unfold headState
  generalize state4 _ _ _ _ = Z at h ⊢
  pointwise []
  exact h

/-- The backward direction on a tile. -/
theorem headDir_at (r : Fin 256) (d : Fin 128) : headDir w q f v S (ValueIdx.ix2 r d) = H.out (T + (255 - r.val)) d.val := by
  have hr := r.isLt
  have hi := intra_at hf r d
  have h0 := fun i => readout_at hf 0 _ rfl 0 rfl slices_S256x128_o0_0_S64x128 _ (state3_at hf hS) i d
  have h1 := fun i => readout_at hf 1 _ rfl 64 rfl slices_S256x128_o64_0_S64x128 _ (state2_at hf hS) i d
  have h2 := fun i => readout_at hf 2 _ rfl 128 rfl slices_S256x128_o128_0_S64x128 _ (state1_at hf hS) i d
  have h3 := fun i => readout_at hf 3 _ rfl 192 rfl slices_S256x128_o192_0_S64x128 _ (flat_at hS) i d
  unfold headDir tile
  generalize intra _ _ _ = I at hi ⊢
  generalize readout 0 _ _ _ = R0 at h0 ⊢
  generalize readout 64 _ _ _ = R1 at h1 ⊢
  generalize readout 128 _ _ _ = R2 at h2 ⊢
  generalize readout 192 _ _ _ = R3 at h3 ⊢
  pointwise []
  refine congrArg₂ (· + ·) hi ?_
  by_cases a0 : r.val < 64
  · refine (dif_pos a0).trans ((h0 ⟨r.val, a0⟩).trans ?_)
    rw [Nat.zero_add]
  refine (dif_neg a0).trans ?_
  by_cases a1 : r.val - 64 < 64
  · refine (dif_pos a1).trans ((h1 ⟨r.val - 64, a1⟩).trans ?_)
    rw [show 64 + (r.val - 64) = r.val by omega]
  refine (dif_neg a1).trans ?_
  by_cases a2 : r.val - 64 - 64 < 64
  · refine (dif_pos a2).trans ((h2 ⟨r.val - 64 - 64, a2⟩).trans ?_)
    rw [show 128 + (r.val - 64 - 64) = r.val by omega]
  refine (dif_neg a2).trans ((h3 ⟨r.val - 64 - 64 - 64, by omega⟩).trans ?_)
  rw [show 192 + (r.val - 64 - 64 - 64) = r.val by omega]

/-- The result on a tile. -/
theorem headOut_at (g o : FVec Ideal S256x128 .f32) (gain : FVec Ideal S1x128 .f32) (r : Fin 256) (u : ℕ → EReal)
    (hu : ∀ d : Fin 128, o (ValueIdx.ix2 r d) + H.out (T + (255 - r.val)) d.val = u d.val) (d : Fin 128) :
    headOut w q f v g o gain S (ValueIdx.ix2 r d) = Hgrn.normed u (gain (ValueIdx.ix2 0 d)) (g (ValueIdx.ix2 r d)) d.val :=
  tail_at _ gain g u r (fun d => (congrArg (o (ValueIdx.ix2 r d) + ·) (headDir_at hf hS r d)).trans (hu d)) d

end Cert.Kernel2Ideal.Final

end
-- ==== Proof.HgrnBwd.lean ====
/- The backward call: its 32 grid points take the rows from the last to the first, 256 at a time, and hand the heads' states
   on. -/
module

public import proofs.«01_k».proof.Proof.HgrnBwdPoint
public import proofs.«01_k».proof.Proof.HgrnBwdTile
public import proofs.«01_k».proof.Proof.Hgrn
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Hgrn (Head headOf back)

namespace Cert.Kernel2Ideal.Final

open Cert.Kernel2Ideal Cert.Kernel2Ideal.Gen
open Cert.KernelIdeal.Final (lower_at cols bound slab cols_at bound_at slab_at)

variable (m : (ℓ : Loc nD τ sig) → Buf (Elt Ideal) ℓ)

/-- Where each window's block lies at a grid point. -/
theorem idx : ∀ t : Fin cfg0.N, win0_0.index t = ![31 - t.val, 1] ∧ win0_1.index t = ![31 - t.val, 3] ∧ win0_2.index t = ![31 - t.val, 4]
    ∧ win0_3.index t = ![31 - t.val, 5] ∧ win0_4.index t = ![31 - t.val, 0] ∧ win0_5.index t = ![0, 0] ∧ win0_6.index t = ![0, 0]
    ∧ win0_7.index t = ![31 - t.val, 0] :=
  (by decide +kernel : ∀ t : Fin grid0.N, _)

/-- The launch's arguments by row and column. -/
def rowsX (c : Dev nD) (r : Fin 8192) (k : Fin 12288) : EReal := m ((c : Thread nD τ).loc main_arg0) (ValueIdx.ix2 r k)
@[inherit_doc rowsX]
def rowsO (c : Dev nD) (r : Fin 8192) (k : Fin 2048) : EReal := m ((c : Thread nD τ).loc main_arg1) (ValueIdx.ix2 r k)
@[inherit_doc rowsX]
def rowsW (c : Dev nD) (r : Fin 2) (k : Fin 2048) : EReal := m ((c : Thread nD τ).loc main_arg2) (ValueIdx.ix2 r k)
@[inherit_doc rowsX]
def rowG (c : Dev nD) (k : Fin 2048) : EReal := m ((c : Thread nD τ).loc main_arg3) (ValueIdx.ix2 0 k)

theorem gains_at (h : Fin 16) (A : FVec Ideal S1x2048 .f32) (d : Fin 128) :
    gains h A (ValueIdx.ix2 0 d) = A (ValueIdx.ix2 0 ⟨h.val * 128 + d.val, by omega⟩) := by
  refine congrArg A (funext fun a => ?_)
  match a with
  | ⟨0, _⟩ => exact Fin.ext ((Rect.idx_unit_val ..).trans (Nat.zero_add _))
  | ⟨1, _⟩ => exact Fin.ext (Rect.idx_unit_val ..)

theorem q_at (c : Dev nD) (t : Fin cfg0.N) (r : Fin 256) (e : Fin 2048) (a : Fin 8192) (b : Fin 12288) (ha : a.val = (31 - t.val) * 256 + r.val)
    (hb : b.val = 2048 + e.val) : iblk m c 0 t (ValueIdx.ix2 r e) = rowsX m c a b := by
  unfold rowsX
  blk_point [iblk, V, idx t]
  · exact (by omega : (31 - t.val) * 256 + r.val = a.val)
  · exact (by omega : 1 * 2048 + e.val = b.val)

theorem f_at (c : Dev nD) (t : Fin cfg0.N) (r : Fin 256) (e : Fin 2048) (a : Fin 8192) (b : Fin 12288) (ha : a.val = (31 - t.val) * 256 + r.val)
    (hb : b.val = 6144 + e.val) : iblk m c 1 t (ValueIdx.ix2 r e) = rowsX m c a b := by
  unfold rowsX
  blk_point [iblk, V, idx t]
  · exact (by omega : (31 - t.val) * 256 + r.val = a.val)
  · exact (by omega : 3 * 2048 + e.val = b.val)

theorem v_at (c : Dev nD) (t : Fin cfg0.N) (r : Fin 256) (e : Fin 2048) (a : Fin 8192) (b : Fin 12288) (ha : a.val = (31 - t.val) * 256 + r.val)
    (hb : b.val = 8192 + e.val) : iblk m c 2 t (ValueIdx.ix2 r e) = rowsX m c a b := by
  unfold rowsX
  blk_point [iblk, V, idx t]
  · exact (by omega : (31 - t.val) * 256 + r.val = a.val)
  · exact (by omega : 4 * 2048 + e.val = b.val)

theorem g_at (c : Dev nD) (t : Fin cfg0.N) (r : Fin 256) (e : Fin 2048) (a : Fin 8192) (b : Fin 12288) (ha : a.val = (31 - t.val) * 256 + r.val)
    (hb : b.val = 10240 + e.val) : iblk m c 3 t (ValueIdx.ix2 r e) = rowsX m c a b := by
  unfold rowsX
  blk_point [iblk, V, idx t]
  · exact (by omega : (31 - t.val) * 256 + r.val = a.val)
  · exact (by omega : 5 * 2048 + e.val = b.val)

theorem o_at (c : Dev nD) (t : Fin cfg0.N) (r : Fin 256) (e : Fin 2048) (a : Fin 8192) (b : Fin 2048) (ha : a.val = (31 - t.val) * 256 + r.val)
    (hb : b.val = e.val) : iblk m c 4 t (ValueIdx.ix2 r e) = rowsO m c a b := by
  unfold rowsO
  blk_point [iblk, V, idx t]
  · exact (by omega : (31 - t.val) * 256 + r.val = a.val)
  · exact hb.symm

theorem w_at (c : Dev nD) (t : Fin cfg0.N) (r : Fin 2) (e : Fin 2048) : iblk m c 5 t (ValueIdx.ix2 r e) = rowsW m c r e := by
  unfold rowsW
  blk_point [iblk, V, idx t]

theorem gain_at (c : Dev nD) (t : Fin cfg0.N) (e : Fin 2048) : iblk m c 6 t (ValueIdx.ix2 0 e) = rowG m c e := by
  unfold rowG
  blk_point [iblk, V, idx t]

/-- Head `h` of the launch's arguments. -/
def head (c : Dev nD) (h : ℕ) : Head := headOf back 6144 (rowsX m c) (rowsW m c) h

/-- A grid point's blocks, a head's columns of them, are the head's from the point's last row on. -/
theorem fits (c : Dev nD) (t : Fin cfg0.N) (h : Fin 16) :
    Fits (head m c h.val) (256 * t.val) (bound h (tileAt m c t).w) (cols h (tileAt m c t).q) (cols h (tileAt m c t).f) (cols h (tileAt m c t).v) where
  start := by omega
  low d := by
    rw [lower_at]
    refine congrArg Hgrn.share (funext fun x => ?_)
    refine (bound_at ..).trans ((w_at m c t _ _).trans ?_)
    exact congrArg (rowsW m c x) (Fin.ext (by show _ = _ % 2048; dsimp only; omega))
  q r d := by
    have := t.isLt.trans_eq (show cfg0.N = 32 from rfl)
    exact (cols_at ..).trans (q_at m c t _ _ _ _ (by show 8191 - _ = _; omega) (by show _ % 12288 = _; dsimp only; omega))
  f r d := by
    have := t.isLt.trans_eq (show cfg0.N = 32 from rfl)
    exact (cols_at ..).trans (f_at m c t _ _ _ _ (by show 8191 - _ = _; omega) (by show _ % 12288 = _; dsimp only; omega))
  v r d := by
    have := t.isLt.trans_eq (show cfg0.N = 32 from rfl)
    exact (cols_at ..).trans (v_at m c t _ _ _ _ (by show 8191 - _ = _; omega) (by show _ % 12288 = _; dsimp only; omega))

/-- The states a grid point enters with. -/
def Enters (c : Dev nD) (T : ℕ) (S : FVec Ideal S16x128x128 .f32) : Prop :=
  ∀ (h : Fin 16) (i k : Fin 128), slab h S (ValueIdx.ix3 0 i k) = (head m c h.val).state (T / 64) k.val i.val

/-- The states the first point enters with: none yet. -/
theorem enters_zero (c : Dev nD) : Enters m c (256 * 0) (k0_pay2 (F := Ideal)) := fun h i k => by
  rw [slab_at]
  exact (show k0_pay2 (F := Ideal) (ValueIdx.ix3 h i k) = 0 by pointwise [k0_pay2])

/-- The states a grid point leaves are those the next one enters with. -/
theorem enters_next (c : Dev nD) (t : Fin cfg0.N) {S} (hS : Enters m c (256 * t.val) S) :
    Enters m c (256 * (t.val + 1)) (stacked ((tileAt m c t).state S)) := fun h i k => by
  rw [slab_at]
  refine (headState_at (fits m c t h) (hS h) i k).trans ?_
  rw [show 256 * t.val / 64 + 4 = 256 * (t.val + 1) / 64 by omega]

/-- The states after a grid point. -/
theorem states (c : Dev nD) : ∀ (n : ℕ) (hn : n < cfg0.N), Enters m c (256 * (n + 1)) (outsAt0 m c n hn).2
  | 0, hn => by
    rw [show (outsAt0 m c 0 hn).2 = _ from stA m c ⟨0, hn⟩ rfl]
    exact enters_next m c ⟨0, hn⟩ (enters_zero m c)
  | n + 1, hn => by
    rw [show (outsAt0 m c (n + 1) hn).2 = _ from stB m c ⟨n + 1, hn⟩ (by have := hn.trans_eq (show cfg0.N = 32 from rfl); dsimp only; omega)]
    exact enters_next m c ⟨n + 1, hn⟩ (states c n _)

/-- A grid point's result. -/
theorem out_at (c : Dev nD) (t : Fin cfg0.N) {S} (hS : Enters m c (256 * t.val) S) (r : Fin 256) (e : Fin 2048) (a : Fin 8192)
    (ha : a.val = (31 - t.val) * 256 + r.val) :
    beside ((tileAt m c t).out S) (ValueIdx.ix2 r e) = Hgrn.both (rowsX m c) (rowsO m c) (rowsW m c) (rowG m c) a e := by
  have hN := t.isLt.trans_eq (show cfg0.N = 32 from rfl)
  have he : e.val / 128 * 128 + e.val % 128 = e.val := Nat.div_add_mod' ..
  refine (headOut_at (fits m c t ⟨e.val / 128, by omega⟩) (hS ⟨e.val / 128, by omega⟩) (cols ⟨e.val / 128, by omega⟩ (tileAt m c t).g)
    (cols ⟨e.val / 128, by omega⟩ (tileAt m c t).o) (gains ⟨e.val / 128, by omega⟩ (tileAt m c t).gain) r
    (Hgrn.added (rowsX m c) (rowsO m c) (rowsW m c) a (e.val / 128)) (fun d => ?_) ⟨e.val % 128, Nat.mod_lt _ (by decide)⟩).trans ?_
  · refine congrArg₂ (fun a b : EReal => a + b) ((cols_at ..).trans (o_at m c t _ _ _ _ ha (by show _ % 2048 = _; dsimp only; omega))) ?_
    rw [show 256 * t.val + (255 - r.val) = 8191 - a.val by omega]
    rfl
  · refine congrArg₂ (fun x y => Hgrn.normed _ x y (e.val % 128)) ?_ ?_
    · exact (gains_at ..).trans ((gain_at m c t _).trans (congrArg (rowG m c) (Fin.ext he)))
    · exact (cols_at ..).trans (g_at m c t _ _ _ _ ha (by show 10240 + _ = 10240 + (_ + _); dsimp only; omega))

/-- The output block after a grid point. -/
theorem block_at (c : Dev nD) (t : Fin cfg0.N) (r : Fin 256) (e : Fin 2048) (a : Fin 8192) (ha : a.val = (31 - t.val) * 256 + r.val) :
    (outsAt0 m c t.val t.isLt).1 (ValueIdx.ix2 r e) = Hgrn.both (rowsX m c) (rowsO m c) (rowsW m c) (rowG m c) a e := by
  have hN := t.isLt.trans_eq (show cfg0.N = 32 from rfl)
  by_cases h0 : t.val % 32 = 0
  · rw [outA m c t h0]
    exact out_at m c t ((show t.val = 0 by omega) ▸ enters_zero m c) r e a ha
  · rw [outB m c t h0]
    refine out_at m c t ?_ r e a ha
    have := states m c (t.val - 1) (Nat.lt_of_le_of_lt (Nat.sub_le _ _) t.isLt)
    rwa [show t.val - 1 + 1 = t.val by omega] at this

/-- The call's result. -/
def result (c : Dev nD) : FVec Ideal S8192x2048 .bf16 :=
  fun y => Hgrn.both (rowsX m c) (rowsO m c) (rowsW m c) (rowG m c) (y 0) (y 1)

/-- The launch leaves the call's result. -/
theorem final (c : Dev nD) : (dats m 0 c).arrAt 7 cfg0.N = result m c := by
  refine (dats m 0 c).arrAt_eq_of_covers 7 _ (by decide +kernel) fun t _ y => ?_
  blk_simp
  rw [after0_7]
  frame_out
  idx_vars y
  have hN := t.isLt.trans_eq (show cfg0.N = 32 from rfl)
  refine (block_at m c t y0 y1 ⟨(31 - t.val) * 256 + y0.val, by omega⟩ rfl).trans ?_
  have h : ((View.whole main_v2).slice (win0_7.rect t)).emb (ValueIdx.ix2 y0 y1) = ValueIdx.ix2 ⟨(31 - t.val) * 256 + y0.val, by omega⟩ y1 := by
    blk_point [idx t]
  exact (congrArg (result m c) h).symm

end Cert.Kernel2Ideal.Final

end
-- ==== Proof.HgrnBwdRun.lean ====
/- The run of the backward reference: the loop over the chunks, as states of Gen/Reference2Ideal/Step.lean. -/
module

public import proofs.«01_k».proof.Proof.Gen.Reference2Ideal.Run
public import proofs.«01_k».proof.Proof.Gen.Reference2Ideal.Step
public import Idealize.ShloMosaic.Lib.Pipeline.ValueKit

@[expose] public section

noncomputable section

open Idealize.ShloMosaic Idealize.ShloMosaic.TcCoe Idealize.SL.Sem Idealize.ShloMosaic.StableHlo

namespace Cert.Reference2Ideal.Trips

open Cert.Reference2Ideal Cert.Reference2Ideal.Gen Cert.Reference2Ideal.Value
open Cert.Reference2Ideal.Step (State step init b26 b35 R_main_v105)

variable {F : FTy → Type} [FloatOps F]

variable (m : (ℓ : Loc nD τ sig) → Buf (Elt F) ℓ) (c : Dev nD)

/-- The loop's buffers before trip `n` are the fields of the state `s`. -/
structure Carries (V : Valuation τ sig (Elt F)) (s : State F) (n : ℕ) : Prop where
  state : V (Proc.devRef .tc main_v77_5) = s.main_v77_5
  rows : V (Proc.devRef .tc main_v77_6) = s.main_v77_6
  decay : V (Proc.devRef .tc main_v77_0) = s.main_v77_0
  incr : V (Proc.devRef .tc main_v77_1) = s.main_v77_1
  query : V (Proc.devRef .tc main_v77_2) = s.main_v77_2
  intra : V (Proc.devRef .tc main_v77_3) = s.main_v77_3
  count : V (Proc.devRef .tc main_v77_4) = constantI S_ 32 (BitVec.ofNat 32 n)

variable {V : Valuation τ sig (Elt F)} {s : State F} {n : ℕ}

set_option maxRecDepth 8192 in
theorem state_next (h : Carries V s n) : step_main_v77_5 V = b26 n s := by
  unfold step_main_v77_5
  simp only [h.decay, h.incr, h.state, h.count]
  rfl

set_option maxRecDepth 8192 in
theorem rows_next (h : Carries V s n) : step_main_v77_6 V = b35 n s := by
  unfold step_main_v77_6
  simp only [h.rows, h.query, h.intra, h.state, h.count]
  rfl

theorem count_next (h : Carries V s n) : step_main_v77_4 V = constantI S_ 32 (BitVec.ofNat 32 (n + 1)) := by
  unfold step_main_v77_4
  rw [h.count, BitVec.ofNat_add]
  rfl

/-- A trip takes the buffers to the next state. -/
theorem Carries.next (h : Carries V s n) : Carries (STEP V) (step n s) (n + 1) where
  state := (STEP_main_v77_5 V).trans (state_next h)
  rows := (STEP_main_v77_6 V).trans (rows_next h)
  decay := (STEP_main_v77_0 V).trans h.decay
  incr := (STEP_main_v77_1 V).trans h.incr
  query := (STEP_main_v77_2 V).trans h.query
  intra := (STEP_main_v77_3 V).trans h.intra
  count := (STEP_main_v77_4 V).trans (count_next h)

/-- The state before trip `n`. -/
def at_ (n : ℕ) : State F :=
  n.rec (init (m ((c.tc : Thread nD τ).loc main_arg0)) (m ((c.tc : Thread nD τ).loc main_arg2))) fun k s => step k s

set_option maxRecDepth 65536 in
set_option maxHeartbeats 700000 in
theorem carries_init : Carries (entryContents preI m c) (init (m ((c.tc : Thread nD τ).loc main_arg0)) (m ((c.tc : Thread nD τ).loc main_arg2))) 0 := by
  constructor <;> (simp only [entryContents, afterL_cons, afterL_nil]; after_reads_simp) <;> rfl

theorem carries (k : ℕ) : Carries (STEP^[k] (entryContents preI m c)) (at_ m c k) k := by
  induction k with
  | zero => exact carries_init m c
  | succ k ih => rw [Function.iterate_succ_apply']; exact ih.next

/-- The reference's result, of the state before trip `n` and the arguments read after the loop. -/
def last (n : ℕ) : (⟨S8192x2048, .bf16⟩ : BufTy).Contents (Elt F) :=
  R_main_v105 (at_ m c n) (m ((c.tc : Thread nD τ).loc main_arg0)) (m ((c.tc : Thread nD τ).loc main_arg1)) (m ((c.tc : Thread nD τ).loc main_arg3))

set_option maxRecDepth 8192 in
theorem result (n : ℕ) : out_main_v105 (STEP^[n] (entryContents preI m c)) = last m c n := by
  unfold out_main_v105 last R_main_v105
  rw [(carries m c n).rows, iter_main_arg0 m c n, iter_main_arg1 m c n, iter_main_arg3 m c n]
  rfl

/-- The reference ends with its result of the state after all 128 trips, and its arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v105) = last m c 128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result m c 128), (h c).2⟩) (Value.run m ρ)

end Cert.Reference2Ideal.Trips

end
-- ==== Proof.HgrnBwdRef.lean ====
/- The reference of the backward call: after its 128 trips over the reversed rows it holds the heads' results, which it adds
   to the forward direction's, normalizes and gates. -/
module

public import proofs.«01_k».proof.Proof.HgrnBwdRun
public import proofs.«01_k».proof.Proof.HgrnBwdSpec
public import proofs.«01_k».proof.Proof.HgrnScan

@[expose] public section

set_option maxRecDepth 16384

noncomputable section

open Idealize.ShloMosaic Idealize.ShloMosaic.TcCoe Idealize.SL.Sem

namespace Cert.Reference2Ideal.Final

open Cert.Reference2Ideal Cert.Reference2Ideal.Gen Cert.Reference2Ideal.Step Cert.Reference2Ideal.Trips
open Cert.Hgrn (Head headOf back)

/-- The heads of the reference's arguments. -/
def head (X : FVec Ideal S8192x12288 .f32) (W : FVec Ideal S2x2048 .f32) (h : ℕ) : Head :=
  headOf back 6144 (fun r k => X (ValueIdx.ix2 r k)) (fun r k => W (ValueIdx.ix2 r k)) h

variable (X : FVec Ideal S8192x12288 .f32) (W : FVec Ideal S2x2048 .f32)

/-- The row that stands at place `r` of the reversed rows. -/
def rev (r : Fin 8192) : Fin 8192 := ⟨8191 - r.val, by omega⟩

theorem rev_at (x : FVec Ideal S1x8192x16x128 .f32) (r : Fin 8192) (h : Fin 16) (d : Fin 128) :
    Host.reverse [1] x (ValueIdx.ix4 0 r h d) = x (ValueIdx.ix4 0 (rev r) h d) := by
  rw [Host.reverse_apply]
  refine congrArg x (funext fun a => ?_)
  match a with
  | ⟨0, _⟩ => rfl
  | ⟨1, _⟩ => exact Fin.ext (by show 8192 - (r.val + 1) = 8191 - r.val; omega)
  | ⟨2, _⟩ => rfl
  | ⟨3, _⟩ => rfl

theorem col {a b : ℕ} (X : FVec Ideal S8192x12288 .f32) (r : Fin 8192) (ha : a < 12288) (hb : b = a) :
    X (ValueIdx.ix2 (rev r) ⟨a, ha⟩) = X (ValueIdx.ix2 (back r.val) ⟨b % 12288, Nat.mod_lt _ (by decide)⟩) := by
  subst hb
  exact congrArg X (congrArg (ValueIdx.ix2 (rev r)) (Fin.ext (Nat.mod_eq_of_lt ha).symm))

theorem q_at (r : Fin 8192) (h : Fin 16) (d : Fin 128) : A_main_v7 (F := Ideal) X W (ValueIdx.ix4 0 (rev r) h d) = (head X W h.val).q r.val d.val := by
  pointwise [A_main_v7, A_main_v2, A_main_v0]
  exact col X r _ rfl

theorem f_at (r : Fin 8192) (h : Fin 16) (d : Fin 128) : A_main_v13 (F := Ideal) X W (ValueIdx.ix4 0 r h d) = (head X W h.val).f r.val d.val := by
  refine (rev_at (A_main_v10 (F := Ideal) X W) r h d).trans ?_
  pointwise [A_main_v10, A_main_v4, A_main_v0]
  exact col X r _ rfl

theorem v_at (r : Fin 8192) (h : Fin 16) (d : Fin 128) : A_main_v12 (F := Ideal) X W (ValueIdx.ix4 0 r h d) = (head X W h.val).v r.val d.val := by
  refine (rev_at (A_main_v9 (F := Ideal) X W) r h d).trans ?_
  pointwise [A_main_v9, A_main_v5, A_main_v0]
  exact col X r _ rfl

theorem low_at (h : Fin 16) (d : Fin 128) : Hgrn.Scan.bound W (ValueIdx.ix2 h d) = (head X W h.val).low d.val := by
  rw [Hgrn.Scan.bound_at]
  refine congrArg Hgrn.share (funext fun x => ?_)
  exact congrArg W (congrArg (ValueIdx.ix2 x) (Fin.ext (Nat.mod_eq_of_lt (by omega)).symm))

/-- What the loop starts from holds the heads'. -/
theorem holds : Hgrn.Scan.Holds (head X W) (A_main_v11 (F := Ideal) X W) (A_main_v42 (F := Ideal) X W) (A_main_v12 (F := Ideal) X W) where
  q r h d := by
    refine (rev_at (A_main_v8 (F := Ideal) X W) r h d).trans ?_
    have e := q_at X W r h d
    unfold A_main_v8 A_main_call0_v5 A_main_call0_v3 A_main_call0_v1 A_main_call0_v0
    generalize A_main_v7 (F := Ideal) X W = x at e ⊢
    pointwise [K_main_call0_v2, K_main_call0_v4, K_main_call0_cst, K_main_call0_cst_0]
    rw [e]
    rfl
  g r h d := by
    refine (Hgrn.Scan.gate_at (Hgrn.Scan.bound W) (A_main_v13 (F := Ideal) X W) r h d).trans ?_
    rw [low_at X W, f_at X W]
    rfl
  v := v_at X W

/-- What the loop reads and does not change. -/
structure Fixed {F : FTy → Type} [FloatOps F] (X : FVec F S8192x12288 .f32) (W : FVec F S2x2048 .f32) (s : State F) : Prop where
  decays : s.main_v77_0 = Hgrn.Scan.decays (A_main_v42 X W)
  adds : s.main_v77_1 = Hgrn.Scan.adds (A_main_v42 X W) (A_main_v12 X W)
  asks : s.main_v77_2 = Hgrn.Scan.asks (A_main_v11 X W) (A_main_v42 X W)
  intras : s.main_v77_3 = Hgrn.Scan.intras (A_main_v11 X W) (A_main_v42 X W) (A_main_v12 X W)

section Start

variable {F : FTy → Type} [FloatOps F] (X : FVec F S8192x12288 .f32) (W : FVec F S2x2048 .f32)

theorem sums_eq : A_main_v50 X W = Hgrn.Scan.sums (A_main_v42 X W) := by
  unfold A_main_v50 A_main_v49 A_main_v43 Hgrn.Scan.sums Hgrn.Scan.chunked
  rfl

theorem lasts_eq : A_main_v52 X W = Hgrn.Scan.lasts (A_main_v42 X W) := by
  unfold A_main_v52 A_main_v51 Hgrn.Scan.lasts
  rw [sums_eq]

theorem keys_eq : A_main_v47 X W = Hgrn.Scan.keys (A_main_v42 X W) := by
  unfold A_main_v47 A_main_v45 Hgrn.Scan.keys Hgrn.Scan.chunked
  rfl

theorem queries_eq : A_main_v54 X W = Hgrn.Scan.queries (A_main_v11 X W) (A_main_v42 X W) := by
  unfold A_main_v54 A_main_v53 A_main_v46 Hgrn.Scan.queries Hgrn.Scan.chunked
  rw [sums_eq]

theorem starts_eq : A_main_v57 X W = Hgrn.Scan.starts (A_main_v42 X W) := by
  unfold A_main_v57 A_main_v56 A_main_v55 Hgrn.Scan.starts
  rw [sums_eq, keys_eq]

theorem scores_eq : A_main_v61 X W = Hgrn.Scan.scores (A_main_v11 X W) (A_main_v42 X W) := by
  unfold A_main_v61 A_main_v60 Hgrn.Scan.scores
  rw [queries_eq, starts_eq]
  rfl

theorem intras_eq : A_main_v71 X W = Hgrn.Scan.intras (A_main_v11 X W) (A_main_v42 X W) (A_main_v12 X W) := by
  unfold A_main_v71 A_main_v63 A_main_v62 A_main_v48 Hgrn.Scan.intras Hgrn.Scan.chunked
  rw [scores_eq]
  rfl

theorem ends_eq : A_main_v68 X W = Hgrn.Scan.ends (A_main_v42 X W) := by
  unfold A_main_v68 A_main_v67 A_main_v66 A_main_v65 A_main_v64 Hgrn.Scan.ends
  rw [sums_eq, keys_eq, lasts_eq]

theorem adds_eq : A_main_v75 X W = Hgrn.Scan.adds (A_main_v42 X W) (A_main_v12 X W) := by
  unfold A_main_v75 A_main_v69 A_main_v48 Hgrn.Scan.adds Hgrn.Scan.chunked
  rw [ends_eq]
  rfl

theorem decays_eq : A_main_v74 X W = Hgrn.Scan.decays (A_main_v42 X W) := by
  unfold A_main_v74 A_main_v70 Hgrn.Scan.decays
  rw [lasts_eq]

theorem asks_eq : A_main_v72 X W = Hgrn.Scan.asks (A_main_v11 X W) (A_main_v42 X W) := by
  unfold A_main_v72 Hgrn.Scan.asks
  rw [queries_eq]

theorem fixed_init : Fixed X W (init X W) := ⟨decays_eq X W, adds_eq X W, asks_eq X W, intras_eq X W⟩

theorem next_state (n : ℕ) (s : State F) : (step n s).main_v77_5 = Hgrn.Scan.tripState n s.main_v77_5 s.main_v77_0 s.main_v77_1 := by
  rw [step_main_v77_5]
  unfold b26 b25 b24 b23 b4 b3 b2 b1 b0 b10 b9 b8 b7 b6 b5 Hgrn.Scan.tripState Hgrn.Scan.at4 Hgrn.Scan.at5
  rfl

theorem next_rows (n : ℕ) (s : State F) :
    (step n s).main_v77_6 = Hgrn.Scan.tripRows n s.main_v77_5 s.main_v77_2 s.main_v77_3 s.main_v77_6 := by
  rw [step_main_v77_6]
  unfold b35 b34 b33 b32 b31 b30 b29 b28 b27 b22 b21 b20 b19 b18 b17 b16 b15 b14 b13 b12 b11 Hgrn.Scan.tripRows Hgrn.Scan.tripOut Hgrn.Scan.rowsOf Hgrn.Scan.at5
  rfl

end Start

variable (m : (ℓ : Loc nD τ sig) → Buf (Elt Ideal) ℓ)

theorem fixed (c : Dev nD) : ∀ n, Fixed (m ((c : Thread nD τ).loc main_arg0)) (m ((c : Thread nD τ).loc main_arg2)) (at_ m c n)
  | 0 => fixed_init _ _
  | n + 1 => ⟨(fixed c n).decays, (fixed c n).adds, (fixed c n).asks, (fixed c n).intras⟩

/-- The loop's rows after its last trip. -/
theorem rows_at (c : Dev nD) (n : Fin 128) (i : Fin 64) (h : Fin 16) (d : Fin 128) : (at_ m c 128).main_v77_6 (ValueIdx.ix5 n 0 i h d)
    = (head (m ((c : Thread nD τ).loc main_arg0)) (m ((c : Thread nD τ).loc main_arg2)) h.val).out (n.val * 64 + i.val) d.val :=
  (Hgrn.Scan.trips_at (holds (m ((c : Thread nD τ).loc main_arg0)) (m ((c : Thread nD τ).loc main_arg2)))
    (fun n => (at_ m c n).main_v77_5) (fun n => (at_ m c n).main_v77_6) (fun i => by
      show K_main_v73 (F := Ideal) i = 0
      pointwise [K_main_v73, K_main_cst_7]) (fun n => by
      have hf := fixed m c n
      rw [← hf.decays, ← hf.adds]
      exact next_state n _) (fun n => by
      have hf := fixed m c n
      rw [← hf.asks, ← hf.intras]
      exact next_rows n _) 128 le_rfl).2 n n.isLt i h d

/-- Both directions added, by rows and heads. -/
def sumRows (R : FVec Ideal S128x1x64x16x128 .f32) (O : FVec Ideal S8192x2048 .f32) : FVec Ideal S1x8192x16x128 .f32 :=
  addf (shapeCast _ O shapeCasts_S8192x2048_S1x8192x16x128) (Host.reverse [1] (shapeCast _ (transpose S1x128x64x16x128 [1, 0, 2, 3, 4] R
    transposes_S128x1x64x16x128_S1x128x64x16x128_1_0_2_3_4) shapeCasts_S1x128x64x16x128_S1x8192x16x128))

/-- The entries of both directions' sum. -/
theorem sumRows_at (R : FVec Ideal S128x1x64x16x128 .f32) (O : FVec Ideal S8192x2048 .f32) (H : ℕ → Head)
    (hR : ∀ (n : Fin 128) (i : Fin 64) (h : Fin 16) (d : Fin 128), R (ValueIdx.ix5 n 0 i h d) = (H h.val).out (n.val * 64 + i.val) d.val)
    (a : Fin 8192) (h : Fin 16) (d : Fin 128) : sumRows R O (ValueIdx.ix4 0 a h d)
      = O (ValueIdx.ix2 a ⟨(h.val * 128 + d.val) % 2048, Nat.mod_lt _ (by decide)⟩) + (H h.val).out (8191 - a.val) d.val := by
  refine congrArg₂ (fun a b : EReal => a + b) ?_ ((rev_at _ a h d).trans ?_)
  · pointwise []
    exact congrArg O (congrArg (ValueIdx.ix2 a) (Fin.ext (Nat.mod_eq_of_lt (by omega)).symm))
  · pointwise []
    refine (hR ⟨(8191 - a.val) / 64, by omega⟩ ⟨(8191 - a.val) % 64, Nat.mod_lt _ (by decide)⟩ h d).trans ?_
    show Head.out _ ((8191 - a.val) / 64 * 64 + (8191 - a.val) % 64) _ = Head.out _ (8191 - a.val) _
    rw [Nat.div_add_mod']

/-- The reference's result. -/
theorem final (c : Dev nD) : last m c 128 = fun y : S8192x2048.Idx => Hgrn.both (fun r k => m ((c : Thread nD τ).loc main_arg0) (ValueIdx.ix2 r k))
    (fun r k => m ((c : Thread nD τ).loc main_arg1) (ValueIdx.ix2 r k)) (fun r k => m ((c : Thread nD τ).loc main_arg2) (ValueIdx.ix2 r k))
    (fun k => m ((c : Thread nD τ).loc main_arg3) (ValueIdx.ix2 0 k)) (y 0) (y 1) := by
  have h := sumRows_at (at_ m c 128).main_v77_6 (m ((c : Thread nD τ).loc main_arg1)) _ (rows_at m c)
  unfold last R_main_v105
  generalize m ((c : Thread nD τ).loc main_arg0) = X at h ⊢
  generalize m ((c : Thread nD τ).loc main_arg1) = O at h ⊢
  generalize m ((c : Thread nD τ).loc main_arg2) = W at h ⊢
  generalize m ((c : Thread nD τ).loc main_arg3) = G at h ⊢
  unfold sumRows at h
  generalize addf (F := Ideal) (s := S1x8192x16x128) (φ := .f32) _ (Host.reverse _ _) = o at h ⊢
  funext y
  idx_vars y
  pointwise []
  unfold Hgrn.both Hgrn.normed
  have e (d : Fin 128) : o (ValueIdx.ix4 0 y0 ⟨y1.val / 128, by omega⟩ d) = Hgrn.added (fun r k => X (ValueIdx.ix2 r k))
    (fun r k => O (ValueIdx.ix2 r k)) (fun r k => W (ValueIdx.ix2 r k)) y0 (y1.val / 128) d.val := h y0 ⟨y1.val / 128, by omega⟩ d
  have e' := e ⟨y1.val % 128, Nat.mod_lt _ (by decide)⟩
  dsimp only at e'
  rw [← e']
  simp only [← e]
  rfl

end Cert.Reference2Ideal.Final

end
-- ==== Proof.InProj.lean ====
/- The input projection: the kernel tiles the product of an 8192 by 4096 matrix with a 4096 by 12288 one in blocks of
   1024 rows and 512 columns, keeping each column block of the weights in a scratch rounded to bf16, and the result is
   the product the reference writes. -/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Final

open Cert.Kernel3Ideal Cert.Kernel3Ideal.Gen

variable (m : (ℓ : Loc nD τ sig) → Buf (Elt Ideal) ℓ)

/-- The reference's term over the kernel's arguments. -/
abbrev REF (X : FVec Ideal S8192x4096 .bf16) (W : FVec Ideal S4096x12288 .f32) : FVec Ideal S8192x12288 .f32 :=
  Cert.Reference3Ideal.Read.val_main_v1 (F := Ideal) X W

/-- `REF` of the argument arrays as launched. -/
abbrev result (c : Dev nD) : FVec Ideal S8192x12288 .f32 :=
  REF (m ((c : Thread nD τ).loc main_arg0)) (m ((c : Thread nD τ).loc main_arg1))

/-- Where each window's block lies at a grid point. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The scratch after a point: the point's weight block, rounded. The points of one column block share it. -/
theorem scratch (c : Dev nD) (n : ℕ) (hn : n < cfg0.N) (y : S4096x512.Idx) :
    (outsAt0 m c n hn).2 y = k0_pay1 (F := Ideal) (iblk m c 1 ⟨n, hn⟩) y := by
  induction n with
  | zero =>
    rw [outsAt0_A m c ⟨0, hn⟩ (Nat.zero_mod _)]
    frame_out
  | succ n ih =>
    by_cases h : (n + 1) % 8 = 0
    · rw [outsAt0_A m c ⟨n + 1, hn⟩ h]
      frame_out
    · rw [outsAt0_B m c ⟨n + 1, hn⟩ h]
      show (outsAt0 m c n _).2 y = _
      rw [ih]
      idx_vars y
      pointwise [k0_pay1]
      blk_point [iblk, V, idx ⟨n, by omega⟩, idx ⟨n + 1, hn⟩]

/-- What a point stores at a place of its output block is the reference's value where that place lies. -/
theorem point (c : Dev nD) (t : Fin cfg0.N) (y : S1024x512.Idx) :
    (outsAt0 m c t.val t.isLt).1 y = result m c (((cfg0.win 2).blk t).view.emb y) := by
  have key : (outsAt0 m c t.val t.isLt).1 y = k0_pay2 (F := Ideal) (iblk m c 0 t) (outsAt0 m c t.val t.isLt).2 y := by
    by_cases h : t.val % 8 = 0
    · rw [outsAt0_A m c t h]
      frame_out
    · rw [outsAt0_B m c t h]
      frame_out
      simp only [read_unread_whole]
      rfl
  rw [key, show (outsAt0 m c t.val t.isLt).2 = k0_pay1 (F := Ideal) (iblk m c 1 t) from funext fun y => scratch m c t.val t.isLt y]
  idx_vars y
  pointwise [k0_pay1, k0_pay2, REF, result, Cert.Reference3Ideal.Read.val_main_v1, Cert.Reference3Ideal.Read.val_main_v0]
  blk_point [iblk, V, idx t]

/-- The result array after the run. -/
theorem final (c : Dev nD) : (dats m 0 c).arrAt 2 (cfgs 0).N = result m c := by
  refine (dats m 0 c).arrAt_eq_of_covers 2 _ (by decide +kernel) fun t _ y => ?_
  blk_simp
  rw [after0_2]
  exact point m c t y

end Cert.Kernel3Ideal.Final

end
-- ==== Proof.OutProj.lean ====
/- The output projection of the mixers: the two halves of the mixed channels are multiplied one by one with the matching
   halves of the weights, and the residual is added; the reference multiplies the concatenation. -/
module

public import proofs.«01_k».proof.Proof.Gen.Kernel4Ideal.Frame
public import proofs.«01_k».proof.Proof.Gen.Reference4Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Final

open Cert.Kernel4Ideal Cert.Kernel4Ideal.Gen

variable (m : (ℓ : Loc nD τ sig) → Buf (Elt Ideal) ℓ)

/-- The reference's term over the kernel's arguments. -/
abbrev REF (A B : FVec Ideal S8192x2048 .bf16) (W : FVec Ideal S4096x4096 .f32) (Z : FVec Ideal S8192x4096 .f32) : FVec Ideal S8192x4096 .f32 :=
  Cert.Reference4Ideal.Read.val_main_v4 (F := Ideal) A B W Z

/-- `REF` of the argument arrays as launched. -/
abbrev result (c : Dev nD) : FVec Ideal S8192x4096 .f32 :=
  REF (m ((c : Thread nD τ).loc main_arg0)) (m ((c : Thread nD τ).loc main_arg1)) (m ((c : Thread nD τ).loc main_arg2)) (m ((c : Thread nD τ).loc main_arg3))

/-- Where each window's block lies at a grid point. -/
theorem idx : ∀ t : Fin cfg0.N, win0_0.index t = ![t.val % 8, 0] ∧ win0_1.index t = ![t.val % 8, 0]
    ∧ win0_2.index t = ![0, t.val / 8] ∧ win0_3.index t = ![t.val % 8, t.val / 8]
    ∧ win0_4.index t = ![t.val % 8, t.val / 8] :=
  (by decide +kernel : ∀ t : Fin grid0.N, _)

/-- The scratch after a point: the point's weight block, rounded. The points of one column block share it. -/
theorem scratch (c : Dev nD) (n : ℕ) (hn : n < cfg0.N) (y : S4096x512.Idx) :
    (outsAt0 m c n hn).2 y = k0_pay1 (F := Ideal) (iblk m c 2 ⟨n, hn⟩) y := by
  induction n with
  | zero =>
    rw [outsAt0_A m c ⟨0, hn⟩ (Nat.zero_mod _)]
    frame_out
  | succ n ih =>
    by_cases h : (n + 1) % 8 = 0
    · rw [outsAt0_A m c ⟨n + 1, hn⟩ h]
      frame_out
    · rw [outsAt0_B m c ⟨n + 1, hn⟩ h]
      show (outsAt0 m c n _).2 y = _
      rw [ih]
      idx_vars y
      pointwise [k0_pay1]
      blk_point [iblk, V, idx ⟨n, by omega⟩, idx ⟨n + 1, hn⟩]

/-- What a point stores at a place of its output block is the reference's value where that place lies. -/
theorem point (c : Dev nD) (t : Fin cfg0.N) (y : S1024x512.Idx) :
    (outsAt0 m c t.val t.isLt).1 y = result m c (((cfg0.win 4).blk t).view.emb y) := by
  have key : (outsAt0 m c t.val t.isLt).1 y = k0_pay2 (F := Ideal) (iblk m c 0 t) (View.ld (Val := Elt Ideal) (outsAt0 m c t.val t.isLt).2 (Rect.unit ![0, 0] ![2048, 512] inb_S4096x512_S2048x512_0_0)) (iblk m c 1 t) (View.ld (Val := Elt Ideal) (outsAt0 m c t.val t.isLt).2 (Rect.unit ![2048, 0] ![2048, 512] inb_S4096x512_S2048x512_2048_0)) (iblk m c 3 t) y := by
    by_cases h : t.val % 8 = 0
    · rw [outsAt0_A m c t h]
      frame_out
      simp (disch := decide) only [View.readCov_fill]
    · rw [outsAt0_B m c t h]
      frame_out
      simp only [read_unread_whole]
      rfl
  rw [key, show (outsAt0 m c t.val t.isLt).2 = k0_pay1 (F := Ideal) (iblk m c 2 t) from funext fun y => scratch m c t.val t.isLt y]
  idx_vars y
  pointwise [k0_pay1, k0_pay2, View.ld, REF, result, Cert.Reference4Ideal.Read.val_main_v4, Cert.Reference4Ideal.Read.val_main_v3, Cert.Reference4Ideal.Read.val_main_v2, Cert.Reference4Ideal.Read.val_main_v1, Cert.Reference4Ideal.Read.val_main_v0]
  rw [add_comm]
  blk_point [iblk, V, idx t]

/-- The result array after the run. -/
theorem final (c : Dev nD) : (dats m 0 c).arrAt 4 (cfgs 0).N = result m c := by
  refine (dats m 0 c).arrAt_eq_of_covers 4 _ (by decide +kernel) fun t _ y => ?_
  blk_simp
  rw [after0_4]
  exact point m c t y

end Cert.Kernel4Ideal.Final

end
-- ==== Proof.QProj.lean ====
/- The query projection of the cross-attention: the same tiled product as the input projection's, with a 4096 by 4096
   matrix and the result rounded to bf16. -/
module

public import proofs.«01_k».proof.Proof.Gen.Kernel5Ideal.Frame
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Final

open Cert.Kernel5Ideal Cert.Kernel5Ideal.Gen

variable (m : (ℓ : Loc nD τ sig) → Buf (Elt Ideal) ℓ)

/-- The reference's term over the kernel's arguments. -/
abbrev REF (X : FVec Ideal S8192x4096 .bf16) (W : FVec Ideal S4096x4096 .f32) : FVec Ideal S8192x4096 .bf16 :=
  Cert.Reference5Ideal.Read.val_main_v2 (F := Ideal) X W

/-- `REF` of the argument arrays as launched. -/
abbrev result (c : Dev nD) : FVec Ideal S8192x4096 .bf16 :=
  REF (m ((c : Thread nD τ).loc main_arg0)) (m ((c : Thread nD τ).loc main_arg1))

/-- Where each window's block lies at a grid point. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The scratch after a point: the point's weight block, rounded. The points of one column block share it. -/
theorem scratch (c : Dev nD) (n : ℕ) (hn : n < cfg0.N) (y : S4096x512.Idx) :
    (outsAt0 m c n hn).2 y = k0_pay1 (F := Ideal) (iblk m c 1 ⟨n, hn⟩) y := by
  induction n with
  | zero =>
    rw [outsAt0_A m c ⟨0, hn⟩ (Nat.zero_mod _)]
    frame_out
  | succ n ih =>
    by_cases h : (n + 1) % 8 = 0
    · rw [outsAt0_A m c ⟨n + 1, hn⟩ h]
      frame_out
    · rw [outsAt0_B m c ⟨n + 1, hn⟩ h]
      show (outsAt0 m c n _).2 y = _
      rw [ih]
      idx_vars y
      pointwise [k0_pay1]
      blk_point [iblk, V, idx ⟨n, by omega⟩, idx ⟨n + 1, hn⟩]

/-- What a point stores at a place of its output block is the reference's value where that place lies. -/
theorem point (c : Dev nD) (t : Fin cfg0.N) (y : S1024x512.Idx) :
    (outsAt0 m c t.val t.isLt).1 y = result m c (((cfg0.win 2).blk t).view.emb y) := by
  have key : (outsAt0 m c t.val t.isLt).1 y = k0_pay2 (F := Ideal) (iblk m c 0 t) (outsAt0 m c t.val t.isLt).2 y := by
    by_cases h : t.val % 8 = 0
    · rw [outsAt0_A m c t h]
      frame_out
    · rw [outsAt0_B m c t h]
      frame_out
      simp only [read_unread_whole]
      rfl
  rw [key, show (outsAt0 m c t.val t.isLt).2 = k0_pay1 (F := Ideal) (iblk m c 1 t) from funext fun y => scratch m c t.val t.isLt y]
  idx_vars y
  pointwise [k0_pay1, k0_pay2, REF, result, Cert.Reference5Ideal.Read.val_main_v2, Cert.Reference5Ideal.Read.val_main_v1, Cert.Reference5Ideal.Read.val_main_v0]
  blk_point [iblk, V, idx t]

/-- The result array after the run. -/
theorem final (c : Dev nD) : (dats m 0 c).arrAt 2 (cfgs 0).N = result m c := by
  refine (dats m 0 c).arrAt_eq_of_covers 2 _ (by decide +kernel) fun t _ y => ?_
  blk_simp
  rw [after0_2]
  exact point m c t y

end Cert.Kernel5Ideal.Final

end
-- ==== Proof.KvProj.lean ====
/- The key and value projections of the cross-attention: one row block of 256 memory tokens, tiled by columns only. -/
module

public import proofs.«01_k».proof.Proof.Gen.Kernel6Ideal.Frame
public import proofs.«01_k».proof.Proof.Gen.Reference6Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.Final

open Cert.Kernel6Ideal Cert.Kernel6Ideal.Gen

variable (m : (ℓ : Loc nD τ sig) → Buf (Elt Ideal) ℓ)

/-- The reference's term over the kernel's arguments. -/
abbrev REF (X : FVec Ideal S256x4096 .bf16) (W : FVec Ideal S4096x4096 .f32) : FVec Ideal S256x4096 .bf16 :=
  Cert.Reference6Ideal.Read.val_main_v2 (F := Ideal) X W

/-- `REF` of the argument arrays as launched. -/
abbrev result (c : Dev nD) : FVec Ideal S256x4096 .bf16 :=
  REF (m ((c : Thread nD τ).loc main_arg0)) (m ((c : Thread nD τ).loc main_arg1))

/-- Where each window's block lies at a grid point. -/
theorem idx : ∀ t : Fin cfg0.N, win0_0.index t = ![0, 0] ∧ win0_1.index t = ![0, t.val]
    ∧ win0_2.index t = ![0, t.val] :=
  (by decide +kernel : ∀ t : Fin grid0.N, _)

/-- What a point stores at a place of its output block is the reference's value where that place lies. -/
theorem point (c : Dev nD) (t : Fin cfg0.N) (y : S256x512.Idx) :
    outsAt0 m c t y = result m c (((cfg0.win 2).blk t).view.emb y) := by
  have key : outsAt0 m c t y = k0_pay2 (F := Ideal) (iblk m c 0 t) (k0_pay1 (F := Ideal) (iblk m c 1 t)) y := by
    unfold outsAt0
    frame_out
  rw [key]
  idx_vars y
  pointwise [k0_pay1, k0_pay2, REF, result, Cert.Reference6Ideal.Read.val_main_v2, Cert.Reference6Ideal.Read.val_main_v1, Cert.Reference6Ideal.Read.val_main_v0]
  blk_point [iblk, V, idx t]

/-- The result array after the run. -/
theorem final (c : Dev nD) : (dats m 0 c).arrAt 2 (cfgs 0).N = result m c := by
  refine (dats m 0 c).arrAt_eq_of_covers 2 _ (by decide +kernel) fun t _ y => ?_
  blk_simp
  rw [after0_2]
  exact point m c t y

end Cert.Kernel6Ideal.Final

end
-- ==== Proof.Xattn.lean ====
/- The cross-attention itself: for one of 4 heads and 1024 rows of the queries a grid point takes the softmax of the
   scaled scores against all 256 keys and the weighted sum of the values. -/
module

public import proofs.«01_k».proof.Proof.Gen.Kernel7Ideal.Frame
public import proofs.«01_k».proof.Proof.Gen.Reference7Ideal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Kernel7Ideal.Final

open Cert.Kernel7Ideal Cert.Kernel7Ideal.Gen

/-- A tile's scaled scores. -/
def scores (q : FVec Ideal S1024x1024 .bf16) (k : FVec Ideal S256x1024 .bf16) : FVec Ideal S1024x256 .f32 :=
  mulf (matmul dot_S1024x1024_S256x1024_S1024x256_1_1_0_0_n_n none q k (constant S1024x256 .f32 0x00000000#32))
    (broadcast S1024x256 (Scalar.ofBits .f32 0x3D000000#32))

/-- A tile's row maxima. -/
def rowMax (s : FVec Ideal S1024x256 .f32) : FVec Ideal S1024 .f32 :=
  multiReduction .maximumf [1] S1024 s 0xFF800000#32 reduces_S1024x256_S1024 (.inl rfl) rfl

/-- A tile's exponentials below the row maxima. -/
def expo (s : FVec Ideal S1024x256 .f32) (M : FVec Ideal S1024 .f32) : FVec Ideal S1024x256 .f32 :=
  exp (subf s (broadcastTo S1024x256 (shapeCast S1024x1 M shapeCasts_S1024_S1024x1) broadcasts_S1024x1_S1024x256))

/-- A tile's weights. -/
def weights (e : FVec Ideal S1024x256 .f32) : FVec Ideal S1024x256 .bf16 :=
  truncf .bf16 (divf e (broadcastTo S1024x256 (shapeCast S1024x1
    (multiReduction .add [1] S1024 e 0x00000000#32 reduces_S1024x256_S1024 (.inl rfl) rfl)
      shapeCasts_S1024_S1024x1) broadcasts_S1024x1_S1024x256)) bitsLt_bf16_f32

/-- A tile's result. -/
def mix (w : FVec Ideal S1024x256 .bf16) (v : FVec Ideal S256x1024 .bf16) : FVec Ideal S1024x1024 .bf16 :=
  truncf .bf16 (matmul dot_S1024x256_S256x1024_S1024x1024_1_0_0_1_n_n none w v (constant S1024x1024 .f32 0x00000000#32)) bitsLt_bf16_f32

theorem pay (q : FVec Ideal S1024x1024 .bf16) (k v : FVec Ideal S256x1024 .bf16) :
    k0_pay1 (F := Ideal) q k v = mix (weights (expo (scores q k) (rowMax (scores q k)))) v := rfl

theorem negInf : Ideal.ofBits .f32 0xFF800000#32 = ⊥ := by simp [Ideal.ofBits, Ideal.ieee]

theorem reducesKeys : Cert.Reference7Ideal.S4x8192x256.Reduces [2] Cert.Reference7Ideal.S4x8192 := by decide

theorem negInf_max (x : EReal) : FloatOps.maximumf (F := Ideal) (φ := .f32) (FloatOps.ofBits .f32 0xFF800000#32) x = x := by
  show max (Ideal.ofBits .f32 0xFF800000#32) x = x
  rw [negInf]
  exact bot_sup_eq x

open Cert.Reference7Ideal.Read in
/-- The reference's maximum over the keys, as a fold. -/
theorem hostMax (Q : FVec Ideal S8192x4096 .bf16) (K : FVec Ideal S256x4096 .bf16) (j : Cert.Reference7Ideal.S4x8192.Idx) :
    val_main_v11 (F := Ideal) Q K j
    = (Finset.univ : Finset (Fin 256)).fold max (FloatOps.ofBits (F := Ideal) .f32 0xFF800000#32)
      (val_main_v8 (F := Ideal) Q K ∘ reducesKeys.lift j) := by
  rw [val_main_v11_apply, val_main_v10_apply, val_main_cst_1_apply, negInf_max]
  unfold val_main_v9
  generalize val_main_v8 (F := Ideal) Q K = T
  exact Host.reduce_eq_fold_single _ _ _ _ reducesKeys _ _

open Cert.Reference7Ideal.Read in
theorem rowMax_eq (Q : FVec Ideal S8192x4096 .bf16) (K : FVec Ideal S256x4096 .bf16) (S : FVec Ideal S1024x256 .f32)
    (h : Fin 4) (b : Fin 8)
    (hS : ∀ (r : Fin 1024) (j : Fin 256), S (ValueIdx.ix2 r j)
      = val_main_v8 (F := Ideal) Q K (ValueIdx.ix3 h ⟨b.val * 1024 + r.val, by omega⟩ j)) (r : Fin 1024) :
    rowMax S (ValueIdx.ix1 r) = val_main_v11 (F := Ideal) Q K (ValueIdx.ix2 h ⟨b.val * 1024 + r.val, by omega⟩) := by
  rw [hostMax]
  generalize val_main_v8 (F := Ideal) Q K = T at hS ⊢
  refine (Ideal.multiReduction_maximumf_single _ _ _ _ _ _).trans (Finset.fold_congr fun x _ => ?_)
  refine (congrArg S (funext fun a => ?_)).trans ((hS r x).trans (congrArg T (funext fun a => ?_)))
  · match a with
    | ⟨0, _⟩ => rfl
    | ⟨1, _⟩ => rfl
  · match a with
    | ⟨0, _⟩ => rfl
    | ⟨1, _⟩ => rfl
    | ⟨2, _⟩ => rfl

open Cert.Reference7Ideal.Read in
theorem expo_eq (Q : FVec Ideal S8192x4096 .bf16) (K : FVec Ideal S256x4096 .bf16) (S : FVec Ideal S1024x256 .f32) (M : FVec Ideal S1024 .f32)
    (h : Fin 4) (b : Fin 8)
    (hS : ∀ (r : Fin 1024) (j : Fin 256), S (ValueIdx.ix2 r j)
      = val_main_v8 (F := Ideal) Q K (ValueIdx.ix3 h ⟨b.val * 1024 + r.val, by omega⟩ j))
    (hM : ∀ (r : Fin 1024), M (ValueIdx.ix1 r) = val_main_v11 (F := Ideal) Q K (ValueIdx.ix2 h ⟨b.val * 1024 + r.val, by omega⟩))
    (r : Fin 1024) (j : Fin 256) :
    expo S M (ValueIdx.ix2 r j) = val_main_v15 (F := Ideal) Q K (ValueIdx.ix3 h ⟨b.val * 1024 + r.val, by omega⟩ j) := by
  unfold expo val_main_v15 val_main_v14 val_main_v13 val_main_v12
  generalize val_main_v8 (F := Ideal) Q K = T at hS ⊢
  generalize val_main_v11 (F := Ideal) Q K = U at hM ⊢
  pointwise []
  show Ideal.exp (S (ValueIdx.ix2 r j) - M (ValueIdx.ix1 r)) = _
  rw [hS, hM]
  rfl

open Cert.Reference7Ideal.Read in
theorem weights_eq (Q : FVec Ideal S8192x4096 .bf16) (K : FVec Ideal S256x4096 .bf16) (E : FVec Ideal S1024x256 .f32)
    (h : Fin 4) (b : Fin 8)
    (hE : ∀ (r : Fin 1024) (j : Fin 256), E (ValueIdx.ix2 r j)
      = val_main_v15 (F := Ideal) Q K (ValueIdx.ix3 h ⟨b.val * 1024 + r.val, by omega⟩ j))
    (r : Fin 1024) (j : Fin 256) :
    weights E (ValueIdx.ix2 r j) = val_main_v19 (F := Ideal) Q K (ValueIdx.ix3 h ⟨b.val * 1024 + r.val, by omega⟩ j) := by
  unfold weights val_main_v19 val_main_v18 val_main_v17 val_main_v16 val_main_cst_2
  generalize val_main_v15 (F := Ideal) Q K = T at hE ⊢
  pointwise []
  refine congrArg₂ Ideal.div (hE r j) (Finset.sum_congr rfl fun x _ => hE r x)

open Cert.Reference7Ideal.Read in
theorem mix_eq (Q : FVec Ideal S8192x4096 .bf16) (K V : FVec Ideal S256x4096 .bf16) (W : FVec Ideal S1024x256 .bf16)
    (vb : FVec Ideal S256x1024 .bf16)
    (h : Fin 4) (b : Fin 8)
    (hW : ∀ (r : Fin 1024) (j : Fin 256), W (ValueIdx.ix2 r j)
      = val_main_v19 (F := Ideal) Q K (ValueIdx.ix3 h ⟨b.val * 1024 + r.val, by omega⟩ j))
    (hv : ∀ (j : Fin 256) (e : Fin 1024), vb (ValueIdx.ix2 j e) = V (ValueIdx.ix2 j ⟨h.val * 1024 + e.val, by omega⟩))
    (r : Fin 1024) (e : Fin 1024) :
    mix W vb (ValueIdx.ix2 r e) = val_main_v23 (F := Ideal) Q K V (ValueIdx.ix2 ⟨b.val * 1024 + r.val, by omega⟩ ⟨h.val * 1024 + e.val, by omega⟩) := by
  unfold mix val_main_v23 val_main_v22 val_main_v21 val_main_v20 val_main_v5 val_main_v4
  generalize val_main_v19 (F := Ideal) Q K = T at hW ⊢
  pointwise []
  refine Finset.sum_congr rfl fun x _ => ?_
  have h1 : (h.val * 1024 + e.val) / 1024 = h.val := by omega
  have h2 : (h.val * 1024 + e.val) / 1024 * 1024 + (h.val * 1024 + e.val) % 1024 = h.val * 1024 + e.val := by omega
  rw [mul_comm]
  refine congrArg₂ (· * ·) ((hv x e).trans ?_) ((hW r x).trans ?_)
  · simp only [h2]
    rfl
  · simp only [h1]
    rfl

open Cert.Reference7Ideal.Read in
theorem scores_eq (Q : FVec Ideal S8192x4096 .bf16) (K : FVec Ideal S256x4096 .bf16)
    (qb : FVec Ideal S1024x1024 .bf16) (kb : FVec Ideal S256x1024 .bf16)
    (h : Fin 4) (b : Fin 8)
    (hq : ∀ (r : Fin 1024) (e : Fin 1024), qb (ValueIdx.ix2 r e) = Q (ValueIdx.ix2 ⟨b.val * 1024 + r.val, by omega⟩ ⟨h.val * 1024 + e.val, by omega⟩))
    (hk : ∀ (j : Fin 256) (e : Fin 1024), kb (ValueIdx.ix2 j e) = K (ValueIdx.ix2 j ⟨h.val * 1024 + e.val, by omega⟩))
    (r : Fin 1024) (j : Fin 256) :
    scores qb kb (ValueIdx.ix2 r j) = val_main_v8 (F := Ideal) Q K (ValueIdx.ix3 h ⟨b.val * 1024 + r.val, by omega⟩ j) := by
  unfold scores val_main_v8 val_main_v7 val_main_cst val_main_v6 val_main_v3 val_main_v2 val_main_v1 val_main_v0
  pointwise []
  refine congrArg (· * _) (Finset.sum_congr rfl fun x _ => congrArg₂ (· * ·) (hq r x) (hk j x))

variable (m : (ℓ : Loc nD τ sig) → Buf (Elt Ideal) ℓ)

/-- The reference's term of the argument arrays as launched. -/
abbrev result (c : Dev nD) : FVec Ideal S8192x4096 .bf16 :=
  Cert.Reference7Ideal.Read.val_main_v23 (F := Ideal) (m ((c : Thread nD τ).loc main_arg0)) (m ((c : Thread nD τ).loc main_arg1))
    (m ((c : Thread nD τ).loc main_arg2))

/-- Where each window's block lies at a grid point. -/
theorem idx : ∀ t : Fin cfg0.N, win0_0.index t = ![t.val % 8, t.val / 8] ∧ win0_1.index t = ![0, t.val / 8]
    ∧ win0_2.index t = ![0, t.val / 8] ∧ win0_3.index t = ![t.val % 8, t.val / 8] :=
  (by decide +kernel : ∀ t : Fin grid0.N, _)

/-- What a point stores at a place of its output block is the reference's value where that place lies. -/
theorem point (c : Dev nD) (t : Fin cfg0.N) (y : S1024x1024.Idx) :
    k0_pay1 (F := Ideal) (iblk m c 0 t) (iblk m c 1 t) (iblk m c 2 t) y = result m c (((cfg0.win 3).blk t).view.emb y) := by
  have ht : t.val < 32 := t.isLt
  let h : Fin 4 := ⟨t.val / 8, by omega⟩
  let b : Fin 8 := ⟨t.val % 8, by omega⟩
  have hq : ∀ (r : Fin 1024) (e : Fin 1024), (iblk m c 0 t : FVec Ideal S1024x1024 .bf16) (ValueIdx.ix2 r e)
      = (m ((c : Thread nD τ).loc main_arg0) : FVec Ideal S8192x4096 .bf16)
        (ValueIdx.ix2 ⟨b.val * 1024 + r.val, by omega⟩ ⟨h.val * 1024 + e.val, by omega⟩) := by
    intro r e
    blk_point [iblk, V, idx t] <;> rfl
  have hk : ∀ (j : Fin 256) (e : Fin 1024), (iblk m c 1 t : FVec Ideal S256x1024 .bf16) (ValueIdx.ix2 j e)
      = (m ((c : Thread nD τ).loc main_arg1) : FVec Ideal S256x4096 .bf16) (ValueIdx.ix2 j ⟨h.val * 1024 + e.val, by omega⟩) := by
    intro r e
    blk_point [iblk, V, idx t] <;> rfl
  have hv : ∀ (j : Fin 256) (e : Fin 1024), (iblk m c 2 t : FVec Ideal S256x1024 .bf16) (ValueIdx.ix2 j e)
      = (m ((c : Thread nD τ).loc main_arg2) : FVec Ideal S256x4096 .bf16) (ValueIdx.ix2 j ⟨h.val * 1024 + e.val, by omega⟩) := by
    intro r e
    blk_point [iblk, V, idx t] <;> rfl
  have hS := scores_eq _ _ _ _ h b hq hk
  idx_vars y
  rw [pay]
  refine (mix_eq _ _ _ _ _ h b (weights_eq _ _ _ h b (expo_eq _ _ _ _ h b hS (rowMax_eq _ _ _ h b hS))) hv y0 y1).trans ?_
  have hG : ∀ G : FVec Ideal S8192x4096 .bf16, G (ValueIdx.ix2 ⟨b.val * 1024 + y0.val, by omega⟩ ⟨h.val * 1024 + y1.val, by omega⟩)
      = G (((cfg0.win 3).blk t).view.emb (ValueIdx.ix2 y0 y1)) := by
    intro G
    blk_point [idx t] <;> rfl
  exact hG _

/-- The result array after the run. -/
theorem final (c : Dev nD) : (dats m 0 c).arrAt 3 (cfgs 0).N = result m c := by
  refine (dats m 0 c).arrAt_eq_of_covers 3 _ (by decide +kernel) fun t _ y => ?_
  blk_simp
  rw [after0_3]
  frame_out
  exact point m c t y

end Cert.Kernel7Ideal.Final

end
-- ==== Proof.OProj.lean ====
/- The output projection of the cross-attention: the tiled product with a residual added. -/
module

public import proofs.«01_k».proof.Proof.Gen.Kernel8Ideal.Frame
public import proofs.«01_k».proof.Proof.Gen.Reference8Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Final

open Cert.Kernel8Ideal Cert.Kernel8Ideal.Gen

variable (m : (ℓ : Loc nD τ sig) → Buf (Elt Ideal) ℓ)

/-- The reference's term over the kernel's arguments. -/
abbrev REF (X : FVec Ideal S8192x4096 .bf16) (W : FVec Ideal S4096x4096 .f32) (Z : FVec Ideal S8192x4096 .f32) : FVec Ideal S8192x4096 .f32 :=
  Cert.Reference8Ideal.Read.val_main_v2 (F := Ideal) X W Z

/-- `REF` of the argument arrays as launched. -/
abbrev result (c : Dev nD) : FVec Ideal S8192x4096 .f32 :=
  REF (m ((c : Thread nD τ).loc main_arg0)) (m ((c : Thread nD τ).loc main_arg1)) (m ((c : Thread nD τ).loc main_arg2))

/-- Where each window's block lies at a grid point. -/
theorem idx : ∀ t : Fin cfg0.N, win0_0.index t = ![t.val % 8, 0] ∧ win0_1.index t = ![0, t.val / 8]
    ∧ win0_2.index t = ![t.val % 8, t.val / 8] ∧ win0_3.index t = ![t.val % 8, t.val / 8] :=
  (by decide +kernel : ∀ t : Fin grid0.N, _)

/-- The scratch after a point: the point's weight block, rounded. The points of one column block share it. -/
theorem scratch (c : Dev nD) (n : ℕ) (hn : n < cfg0.N) (y : S4096x512.Idx) :
    (outsAt0 m c n hn).2 y = k0_pay1 (F := Ideal) (iblk m c 1 ⟨n, hn⟩) y := by
  induction n with
  | zero =>
    rw [outsAt0_A m c ⟨0, hn⟩ (Nat.zero_mod _)]
    frame_out
  | succ n ih =>
    by_cases h : (n + 1) % 8 = 0
    · rw [outsAt0_A m c ⟨n + 1, hn⟩ h]
      frame_out
    · rw [outsAt0_B m c ⟨n + 1, hn⟩ h]
      show (outsAt0 m c n _).2 y = _
      rw [ih]
      idx_vars y
      pointwise [k0_pay1]
      blk_point [iblk, V, idx ⟨n, by omega⟩, idx ⟨n + 1, hn⟩]

/-- What a point stores at a place of its output block is the reference's value where that place lies. -/
theorem point (c : Dev nD) (t : Fin cfg0.N) (y : S1024x512.Idx) :
    (outsAt0 m c t.val t.isLt).1 y = result m c (((cfg0.win 3).blk t).view.emb y) := by
  have key : (outsAt0 m c t.val t.isLt).1 y = k0_pay2 (F := Ideal) (iblk m c 0 t) (outsAt0 m c t.val t.isLt).2 (iblk m c 2 t) y := by
    by_cases h : t.val % 8 = 0
    · rw [outsAt0_A m c t h]
      frame_out
    · rw [outsAt0_B m c t h]
      frame_out
      simp only [read_unread_whole]
      rfl
  rw [key, show (outsAt0 m c t.val t.isLt).2 = k0_pay1 (F := Ideal) (iblk m c 1 t) from funext fun y => scratch m c t.val t.isLt y]
  idx_vars y
  pointwise [k0_pay1, k0_pay2, REF, result, Cert.Reference8Ideal.Read.val_main_v2, Cert.Reference8Ideal.Read.val_main_v1, Cert.Reference8Ideal.Read.val_main_v0]
  blk_point [iblk, V, idx t]

/-- The result array after the run. -/
theorem final (c : Dev nD) : (dats m 0 c).arrAt 3 (cfgs 0).N = result m c := by
  refine (dats m 0 c).arrAt_eq_of_covers 3 _ (by decide +kernel) fun t _ y => ?_
  blk_simp
  rw [after0_3]
  exact point m c t y

end Cert.Kernel8Ideal.Final

end
-- ==== Proof.RmsNorm.lean ====
/- The root-mean-square norm the layer begins with: a grid point takes 512 rows. -/
module

public import proofs.«01_k».proof.Proof.Gen.Kernel9Ideal.Frame
public import proofs.«01_k».proof.Proof.Gen.Reference9Ideal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel9Ideal.Final

open Cert.Kernel9Ideal Cert.Kernel9Ideal.Gen

variable (m : (ℓ : Loc nD τ sig) → Buf (Elt Ideal) ℓ)

/-- The reference's term over the kernel's arguments. -/
abbrev REF (X : FVec Ideal S8192x4096 .f32) (G : FVec Ideal S4096 .f32) : FVec Ideal S8192x4096 .bf16 :=
  Cert.Reference9Ideal.Read.val_main_v13 (F := Ideal) X G

/-- `REF` of the argument arrays as launched. -/
abbrev result (c : Dev nD) : FVec Ideal S8192x4096 .bf16 :=
  REF (m ((c : Thread nD τ).loc main_arg0)) (m ((c : Thread nD τ).loc main_arg1))

/-- Where each window's block lies at a grid point. -/
theorem idx : ∀ t : Fin cfg0.N, win0_0.index t = ![t.val, 0] ∧ win0_1.index t = ![0, 0]
    ∧ win0_2.index t = ![t.val, 0] :=
  (by decide +kernel : ∀ t : Fin grid0.N, _)

/-- What a point stores at a place of its output block is the reference's value where that place lies. -/
theorem point (c : Dev nD) (t : Fin cfg0.N) (y : S512x4096.Idx) :
    k0_pay1 (F := Ideal) (iblk m c 0 t) (iblk m c 1 t) y = result m c (((cfg0.win 2).blk t).view.emb y) := by
  idx_vars y
  pointwise [k0_pay1, REF, result, Cert.Reference9Ideal.Read.val_main_v0, Cert.Reference9Ideal.Read.val_main_v1, Cert.Reference9Ideal.Read.val_main_v2, Cert.Reference9Ideal.Read.val_main_v3, Cert.Reference9Ideal.Read.val_main_v4, Cert.Reference9Ideal.Read.val_main_v5, Cert.Reference9Ideal.Read.val_main_v6, Cert.Reference9Ideal.Read.val_main_v7, Cert.Reference9Ideal.Read.val_main_v8, Cert.Reference9Ideal.Read.val_main_v9, Cert.Reference9Ideal.Read.val_main_v10, Cert.Reference9Ideal.Read.val_main_v11, Cert.Reference9Ideal.Read.val_main_v12, Cert.Reference9Ideal.Read.val_main_v13, Cert.Reference9Ideal.Read.val_main_cst, Cert.Reference9Ideal.Read.val_main_cst_0, Cert.Reference9Ideal.Read.val_main_cst_1]
  blk_point [iblk, V, idx t]

/-- The result array after the run. -/
theorem final (c : Dev nD) : (dats m 0 c).arrAt 2 (cfgs 0).N = result m c := by
  refine (dats m 0 c).arrAt_eq_of_covers 2 _ (by decide +kernel) fun t _ y => ?_
  blk_simp
  rw [after0_2]
  frame_out
  exact point m c t y

end Cert.Kernel9Ideal.Final

end
-- ==== Proof.PoolSpec.lean ====
/- The pooling mixer by rows and columns: the mean of the rows around a row, less the row, through a group's matrix and times
   a column's scale. -/
module

public import proofs.«01_k».proof.Proof.HgrnSums

@[expose] public section

noncomputable section

open Idealize.ShloMosaic

namespace Cert.Pool

/-- How many of the rows from `h` before row `a` to `h - 1` after it there are, as a word. -/
def counted (h a : BitVec 32) : BitVec 32 :=
  IntOp.addi (IntOp.subi (IntOp.minsi (IntOp.subi (IntOp.addi a h) 1#32) 8191#32) (IntOp.maxsi (IntOp.subi a h) 0#32)) 1#32

theorem maxsi_comm (x y : BitVec 32) : IntOp.maxsi x y = IntOp.maxsi y x := by
  unfold IntOp.maxsi
  by_cases h : y.toInt < x.toInt
  · rw [if_pos (by simpa [BitVec.slt] using h), if_neg (by simpa [BitVec.slt] using h.le)]
  · by_cases h' : x.toInt < y.toInt
    · rw [if_neg (by simpa [BitVec.slt] using h), if_pos (by simpa [BitVec.slt] using h')]
    · rw [BitVec.eq_of_toInt_eq (show x.toInt = y.toInt by omega)]

theorem minsi_comm (x y : BitVec 32) : IntOp.minsi x y = IntOp.minsi y x := by
  unfold IntOp.minsi
  by_cases h : x.toInt < y.toInt
  · rw [if_pos (by simpa [BitVec.slt] using h), if_neg (by simpa [BitVec.slt] using h.le)]
  · by_cases h' : y.toInt < x.toInt
    · rw [if_neg (by simpa [BitVec.slt] using h), if_pos (by simpa [BitVec.slt] using h')]
    · rw [BitVec.eq_of_toInt_eq (show x.toInt = y.toInt by omega)]

theorem maxsi_left (x y : BitVec 32) (h : y.toInt ≤ x.toInt) : IntOp.maxsi y x = x := by
  unfold IntOp.maxsi
  exact if_neg (by simpa [BitVec.slt] using h)

theorem minsi_left (x y : BitVec 32) (h : x.toInt ≤ y.toInt) : IntOp.minsi y x = x := by
  unfold IntOp.minsi
  exact if_neg (by simpa [BitVec.slt] using h)

theorem toInt_small (n : ℕ) (h : n < 2 ^ 31) : (BitVec.ofNat 32 n).toInt = n := by
  rw [BitVec.toInt_eq_toNat_of_lt (by rw [BitVec.toNat_ofNat]; omega), BitVec.toNat_ofNat]
  omega

/-- Both ends of the rows clipped on both sides count the same. -/
theorem clipped (k : Fin 4) (a : Fin 8192) :
    IntOp.addi (IntOp.subi
        (IntOp.minsi 8191#32 (IntOp.maxsi 0#32 (IntOp.subi (IntOp.addi (BitVec.ofNat 32 a.val) (BitVec.ofNat 32 (2 ^ k.val))) 1#32)))
        (IntOp.minsi 8191#32 (IntOp.maxsi 0#32 (IntOp.subi (BitVec.ofNat 32 a.val) (BitVec.ofNat 32 (2 ^ k.val)))))) 1#32
      = counted (BitVec.ofNat 32 (2 ^ k.val)) (BitVec.ofNat 32 a.val) := by
  have ha := a.isLt
  obtain ⟨h, hh, h1, h8⟩ : ∃ h, h = 2 ^ k.val ∧ 1 ≤ h ∧ h ≤ 8 := ⟨_, rfl, by revert k; decide, by revert k; decide⟩
  rw [← hh]
  have hB : IntOp.subi (IntOp.addi (BitVec.ofNat 32 a.val) (BitVec.ofNat 32 h)) 1#32 = BitVec.ofNat 32 (a.val + h - 1) := by
    apply BitVec.eq_of_toNat_eq
    simp only [IntOp.subi, IntOp.addi, BitVec.toNat_sub, BitVec.toNat_add, BitVec.toNat_ofNat]
    omega
  have hb : (BitVec.ofNat 32 (a.val + h - 1)).toInt = (a.val + h - 1 : ℕ) := by
    exact toInt_small _ (by omega)
  have hA : (IntOp.subi (BitVec.ofNat 32 a.val) (BitVec.ofNat 32 h)).toInt ≤ 8191 := by
    simp only [IntOp.subi, BitVec.toInt_sub]
    rw [toInt_small _ (by omega), toInt_small _ (by omega), Int.bmod_eq_of_le (by omega) (by omega)]
    omega
  unfold counted
  rw [hB, maxsi_left _ 0#32 (by rw [hb]; show (0 : ℤ) ≤ _; omega), minsi_comm 8191#32 (BitVec.ofNat 32 _)]
  generalize IntOp.subi (BitVec.ofNat 32 a.val) (BitVec.ofNat 32 h) = A at hA ⊢
  rw [maxsi_comm 0#32 A, minsi_left (IntOp.maxsi A 0#32) 8191#32 ?_]
  show _ ≤ (8191 : ℤ)
  unfold IntOp.maxsi
  split
  · exact hA
  · show (0 : ℤ) ≤ 8191; decide

/-- Row `n - 8` of a column, or zero where there is no such row. -/
def cell (X : Fin 8192 → Fin 12288 → EReal) (e n : ℕ) : EReal :=
  if h : 8 ≤ n ∧ n - 8 < 8192 then X ⟨n - 8, h.2⟩ ⟨e % 12288, Nat.mod_lt _ (by decide)⟩ else 0

theorem cell_row (X : Fin 8192 → Fin 12288 → EReal) (e n : ℕ) (a : Fin 8192) (b : Fin 12288) (ha : a.val + 8 = n) (hb : b.val = e) :
    cell X e n = X a b := by
  unfold cell
  rw [dif_pos (by omega)]
  exact congrArg₂ X (Fin.ext (by show n - 8 = _; omega)) (Fin.ext (by show e % 12288 = _; omega))

theorem cell_none (X : Fin 8192 → Fin 12288 → EReal) (e n : ℕ) (h : n < 8 ∨ 8200 ≤ n) : cell X e n = 0 :=
  dif_neg (by omega)

/-- The mean of the `2h` rows around a row, less the row. -/
def mixed (X : Fin 8192 → Fin 12288 → EReal) (h : ℕ) (a : Fin 8192) (e : ℕ) : EReal :=
  Ideal.div (∑ j ∈ Finset.range (h + h), cell X e (a.val + 8 - h + j))
      (FloatOps.sitofp (F := Ideal) .f32 (counted (BitVec.ofNat 32 h) (BitVec.ofNat 32 a.val)))
    - X a ⟨e % 12288, Nat.mod_lt _ (by decide)⟩

/-- Column `d` of group `g` of the result. -/
def grouped (X : Fin 8192 → Fin 12288 → EReal) (W : Fin 4 → Fin 512 → Fin 512 → EReal) (S : Fin 2048 → EReal) (g : Fin 4) (a : Fin 8192)
    (d : Fin 512) : EReal :=
  (∑ k : Fin 512, mixed X (2 ^ g.val) a (512 * g.val + k.val) * W g k d) * S ⟨512 * g.val + d.val, by omega⟩

/-- The mixer's result. -/
def pooled (X : Fin 8192 → Fin 12288 → EReal) (W : Fin 4 → Fin 512 → Fin 512 → EReal) (S : Fin 2048 → EReal) (a : Fin 8192)
    (e : Fin 2048) : EReal :=
  grouped X W S ⟨e.val / 512, by omega⟩ a ⟨e.val % 512, by omega⟩

theorem pooled_at (X : Fin 8192 → Fin 12288 → EReal) (W : Fin 4 → Fin 512 → Fin 512 → EReal) (S : Fin 2048 → EReal) (a : Fin 8192)
    (e : Fin 2048) (g : Fin 4) (d : Fin 512) (h : e.val = 512 * g.val + d.val) : pooled X W S a e = grouped X W S g a d := by
  have hg : (⟨e.val / 512, by omega⟩ : Fin 4) = g := Fin.ext (by show e.val / 512 = _; omega)
  have hd : (⟨e.val % 512, by omega⟩ : Fin 512) = d := Fin.ext (by show e.val % 512 = _; omega)
  unfold pooled
  rw [hg, hd]

/-- The places of a window along the rows. -/
def along (w : ℕ) : (⟨3, ![1, w, 1]⟩ : Shape).Idx ≃ Fin w where
  toFun x := x 1
  invFun r := ValueIdx.ix3 (0 : Fin 1) r (0 : Fin 1)
  left_inv x := funext fun a => by
    match a with
    | ⟨0, _⟩ => exact Subsingleton.elim (α := Fin 1) _ _
    | ⟨1, _⟩ => rfl
    | ⟨2, _⟩ => exact Subsingleton.elim (α := Fin 1) _ _
  right_inv r := rfl

/-- The sum over the rows around a row. -/
theorem around {u : Shape} (h : ℕ) (h8 : h ≤ 8) (x : FVec Ideal ⟨3, ![1, 8192, 512]⟩ .f32) (z : FVec Ideal u .f32)
    (hr : (⟨3, ![1, 8192, 512]⟩ : Shape).ReduceWindows ![1, h + h, 1] ![1, 1, 1] ![0, h, 0] ![0, h - 1, 0] ⟨3, ![1, 8192, 512]⟩)
    (hu : 0 < u.numel) (hz : z (Shape.Idx.first hu) = (0 : EReal)) (X : Fin 8192 → Fin 12288 → EReal) (a : Fin 8192) (d : Fin 512) (e : ℕ)
    (he : e < 12288) (hx : ∀ b : Fin 8192, x (ValueIdx.ix3 0 b d) = X b ⟨e, he⟩) :
    Host.reduceWindowAdd ![1, h + h, 1] ![1, 1, 1] ![0, h, 0] ![0, h - 1, 0] x z hr hu (ValueIdx.ix3 0 a d)
      = ∑ j ∈ Finset.range (h + h), cell X e (a.val + 8 - h + j) := by
  have ha := a.isLt
  have hd := d.isLt
  refine (Hgrn.window_sum _ _ _ _ _ _ _ _ hz _).trans ?_
  refine (Equiv.sum_comp (along (h + h)).symm _).symm.trans ?_
  rw [Finset.sum_range]
  refine Fintype.sum_congr _ _ fun w => ?_
  have hw := w.isLt
  by_cases hc : h ≤ a.val + w.val ∧ a.val + w.val - h < 8192
  · refine (dif_pos ?_).trans ((?_ : _ = x (ValueIdx.ix3 0 ⟨a.val + w.val - h, hc.2⟩ d)).trans ((hx _).trans
      (cell_row X e _ _ _ (by show a.val + w.val - h + 8 = _; omega) rfl).symm))
    · rintro ⟨b, hb⟩
      match b, hb with
      | 0, _ => exact ⟨Nat.zero_le _, by show 0 * 1 + 0 - 0 < 1; decide⟩
      | 1, _ => exact ⟨by show h ≤ a.val * 1 + w.val; omega, by show a.val * 1 + w.val - h < 8192; omega⟩
      | 2, _ => exact ⟨Nat.zero_le _, by show d.val * 1 + 0 - 0 < 512; omega⟩
    · refine congrArg x (funext fun b => ?_)
      match b with
      | ⟨0, _⟩ => exact Subsingleton.elim (α := Fin 1) _ _
      | ⟨1, _⟩ => exact Fin.ext (by show a.val * 1 + w.val - h = a.val + w.val - h; omega)
      | ⟨2, _⟩ => exact Fin.ext (by show d.val * 1 + 0 - 0 = d.val; omega)
  · refine (dif_neg fun hin => hc ?_).trans (cell_none X e _ (by omega)).symm
    have := hin 1
    change h ≤ a.val * 1 + w.val ∧ a.val * 1 + w.val - h < 8192 at this
    omega

end Cert.Pool

end
-- ==== Proof.PoolTile.lean ====
/- The pooling mixer's grid point: a group of columns of a tile of 512 rows, with the eight rows before it and the eight rows
   after it. -/
module

public import proofs.«01_k».proof.Proof.Gen.Kernel10Ideal.Frame
public import proofs.«01_k».proof.Proof.PoolSpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Pool (cell mixed grouped pooled counted)

namespace Cert.Kernel10Ideal.Final

open Cert.Kernel10Ideal Cert.Kernel10Ideal.Gen

/-- Eight rows beside a tile, or zeros at the array's end. -/
def edge (b : BitVec 1) (x : FVec Ideal S8x512 .f32) : FVec Ideal S8x512 .f32 :=
  Scalar.select b x (broadcast S8x512 (Scalar.ofBits .f32 0x00000000#32))
/-- A tile between its edges. -/
def tall (v : FVec Ideal S512x512 .f32) (p n : FVec Ideal S8x512 .f32) : FVec Ideal S528x512 .f32 :=
  concatenate S528x512 0 [⟨S8x512, p⟩, ⟨S512x512, v⟩, ⟨S8x512, n⟩] concatenates_S8x512_S512x512_S8x512_S528x512_d0
/-- The rows moved up. -/
def shift (s : BitVec 32) (x : FVec Ideal S528x512 .f32) : FVec Ideal S528x512 .f32 := dynamicRotate 0 s none x rotates_S528x512_d0
/-- The rows with the rows below them added. -/
def twice (s : BitVec 32) (x : FVec Ideal S528x512 .f32) : FVec Ideal S528x512 .f32 := addf x (shift s x)
/-- The first 512 rows. -/
def upper (x : FVec Ideal S528x512 .f32) : FVec Ideal S512x512 .f32 :=
  extractStridedSlice S512x512 ![0, 0] x slices_S528x512_o0_0_S512x512
/-- How many rows there are around each row. -/
def number (h : BitVec 32) (row : IVec S512x1 32) : IVec S512x1 32 :=
  addi (subi (minsi (subi (addi row (broadcast S512x1 h)) (broadcast S512x1 1#32)) (broadcast S512x1 8191#32))
    (maxsi (subi row (broadcast S512x1 h)) (broadcast S512x1 0#32))) (broadcast S512x1 1#32)
/-- The mean less the row. -/
def mean (n : FVec Ideal S512x1 .f32) (v win : FVec Ideal S512x512 .f32) : FVec Ideal S512x512 .bf16 :=
  truncf .bf16 (subf (divf win (broadcastTo S512x512 n broadcasts_S512x1_S512x512)) v) bitsLt_bf16_f32

/-- Whether a grid point has rows before it, and after it. -/
def hasPrev (i : grid0.Coords) : BitVec 1 := Scalar.cmpi .sgt (BitVec.ofNat 32 (i 0).val) 0#32
@[inherit_doc hasPrev]
def hasNext (i : grid0.Coords) : BitVec 1 := Scalar.cmpi .slt (BitVec.ofNat 32 (i 0).val) 15#32

theorem hasPrev_pos (i : grid0.Coords) (h : 0 < (i 0).val) : hasPrev i = 1#1 := by
  unfold hasPrev
  generalize i 0 = n at h ⊢
  change Fin 16 at n
  revert n
  decide

theorem hasPrev_zero (i : grid0.Coords) (h : (i 0).val = 0) : hasPrev i = 0#1 := by
  unfold hasPrev
  rw [h]
  rfl

theorem hasNext_lt (i : grid0.Coords) (h : (i 0).val < 15) : hasNext i = 1#1 := by
  unfold hasNext
  generalize i 0 = n at h ⊢
  change Fin 16 at n
  revert n
  decide

theorem hasNext_last (i : grid0.Coords) (h : (i 0).val = 15) : hasNext i = 0#1 := by
  unfold hasNext
  rw [h]
  rfl

theorem edge_none {b : BitVec 1} (x : FVec Ideal S8x512 .f32) (h : b = 0#1) (j : S8x512.Idx) : edge b x j = 0 := by
  subst h
  pointwise [edge]

/-- A group's result from its sums. -/
def group (h : BitVec 32) (i : grid0.Coords) (v : FVec Ideal S512x512 .f32) (x : FVec Ideal S528x512 .f32) (w : FVec Ideal S1x512x512 .f32)
    (s : FVec Ideal S1x512 .f32) : FVec Ideal S512x512 .bf16 :=
  k0_pay3 (mean (sitofp .f32 (number h (k0_pay1 i))) v (upper x)) w s

/-- A group's tile with its edges. -/
def around (i : grid0.Coords) (v : FVec Ideal S512x512 .f32) (p n : FVec Ideal S8x512 .f32) : FVec Ideal S528x512 .f32 :=
  tall v (edge (hasPrev i) p) (edge (hasNext i) n)

theorem first_eq (i : grid0.Coords) (v : FVec Ideal S512x512 .f32) (p n : FVec Ideal S8x512 .f32) (w s) :
    k0_pay3 (k0_pay2 i v p n) w s = group 1#32 i v (shift 521#32 (twice 527#32 (around i v p n))) w s := rfl

theorem second_eq (i : grid0.Coords) (v : FVec Ideal S512x512 .f32) (p n : FVec Ideal S8x512 .f32) (w s) :
    k0_pay6 v (k0_pay4 (BitVec.ofNat 32 (i 0).val) v p n) (k0_pay5 (k0_pay1 i)) w s
      = group 2#32 i v (shift 522#32 (twice 526#32 (twice 527#32 (around i v p n)))) w s := rfl

theorem third_eq (i : grid0.Coords) (v : FVec Ideal S512x512 .f32) (p n : FVec Ideal S8x512 .f32) (w s) :
    k0_pay8 (k0_pay1 i) v (k0_pay7 (BitVec.ofNat 32 (i 0).val) v p n) 4#32 w s
      = group 4#32 i v (shift 524#32 (twice 524#32 (twice 526#32 (twice 527#32 (around i v p n))))) w s := rfl

theorem fourth_eq (i : grid0.Coords) (v : FVec Ideal S512x512 .f32) (p n : FVec Ideal S8x512 .f32) (w s) :
    k0_pay11 (k0_pay1 i) v (k0_pay9 (BitVec.ofNat 32 (i 0).val) p) (Scalar.cmpi .slt (BitVec.ofNat 32 (i 0).val) 15#32) n k0_pay10 w s
      = group 8#32 i v (twice 520#32 (twice 524#32 (twice 526#32 (twice 527#32 (around i v p n))))) w s := rfl

/-- Rows hold, from each on, the sums of `k` of a column's entries. -/
def Holds (k : ℕ) (f : ℕ → Fin 512 → EReal) (x : FVec Ideal S528x512 .f32) : Prop :=
  ∀ (n : Fin 528) (d : Fin 512), n.val + k ≤ 528 → x (ValueIdx.ix2 n d) = ∑ j ∈ Finset.range k, f (n.val + j) d

theorem shift_at (s : ℕ) (h0 : 0 < s) (x : FVec Ideal S528x512 .f32) (n : Fin 528) (d : Fin 512) (h : n.val + s < 528) :
    shift (BitVec.ofNat 32 (528 - s)) x (ValueIdx.ix2 n d) = x (ValueIdx.ix2 ⟨n.val + s, h⟩ d) := by
  have ht : (BitVec.ofNat 32 (528 - s)).toNat = 528 - s := by rw [BitVec.toNat_ofNat]; omega
  refine congrArg x (funext fun b => ?_)
  match b with
  | ⟨0, _⟩ =>
    refine Fin.ext ?_
    show (n.val + 528 - (BitVec.ofNat 32 (528 - s)).toNat % 528) % 528 = n.val + s
    rw [ht]
    omega
  | ⟨1, _⟩ => rfl

theorem holds_twice (k : ℕ) (h0 : 0 < k) (h1 : k < 528) {f x} (hx : Holds k f x) : Holds (k + k) f (twice (BitVec.ofNat 32 (528 - k)) x) :=
  fun n d h => by
    rw [Finset.sum_range_add]
    refine congrArg₂ (fun a b : EReal => a + b) (hx n d (by omega)) ((shift_at k h0 x n d (by omega)).trans ?_)
    refine (hx _ d (by show n.val + k + k ≤ 528; omega)).trans (Finset.sum_congr rfl fun j _ => ?_)
    rw [show n.val + k + j = n.val + (k + j) by omega]

/-- The tile between its edges holds the column's rows. -/
theorem around_holds (i : grid0.Coords) (v : FVec Ideal S512x512 .f32) (p n : FVec Ideal S8x512 .f32) (f : ℕ → Fin 512 → EReal)
    (hv : ∀ r d, v (ValueIdx.ix2 r d) = f (8 + r.val) d)
    (hp : ∀ r d, edge (hasPrev i) p (ValueIdx.ix2 r d) = f r.val d)
    (hn : ∀ r d, edge (hasNext i) n (ValueIdx.ix2 r d) = f (520 + r.val) d) : Holds 1 f (around i v p n) := fun a d h => by
  rw [Finset.sum_range_one, Nat.add_zero]
  unfold around tall
  have ha := a.isLt
  by_cases h1 : a.val < 8
  · refine Eq.trans (concatenate_apply_piece (t := S528x512) 0 [⟨S8x512, edge (hasPrev i) p⟩, ⟨S512x512, v⟩, ⟨S8x512, edge (hasNext i) n⟩]
      concatenates_S8x512_S512x512_S8x512_S528x512_d0 (ValueIdx.ix2 a d) 0 (by show _ < 3; decide) S8x512 _ rfl rfl 0 rfl (ValueIdx.ix2 ⟨a.val, h1⟩ d) ?_ ?_) (hp _ d)
    · rintro ⟨b, hb⟩ hne
      match b, hb with
      | 0, _ => exact absurd rfl hne
      | 1, _ => rfl
    · exact Nat.zero_add _
  by_cases h2 : a.val < 520
  · refine Eq.trans (concatenate_apply_piece (t := S528x512) 0 [⟨S8x512, edge (hasPrev i) p⟩, ⟨S512x512, v⟩, ⟨S8x512, edge (hasNext i) n⟩]
      concatenates_S8x512_S512x512_S8x512_S528x512_d0 (ValueIdx.ix2 a d) 1 (by show _ < 3; decide) S512x512 _ rfl rfl 8 rfl (ValueIdx.ix2 ⟨a.val - 8, by omega⟩ d) ?_ ?_)
      ((hv _ d).trans (congrArg (f · d) (by show 8 + (a.val - 8) = a.val; omega)))
    · rintro ⟨b, hb⟩ hne
      match b, hb with
      | 0, _ => exact absurd rfl hne
      | 1, _ => rfl
    · show 8 + (a.val - 8) = a.val; omega
  · refine Eq.trans (concatenate_apply_piece (t := S528x512) 0 [⟨S8x512, edge (hasPrev i) p⟩, ⟨S512x512, v⟩, ⟨S8x512, edge (hasNext i) n⟩]
      concatenates_S8x512_S512x512_S8x512_S528x512_d0 (ValueIdx.ix2 a d) 2 (by show _ < 3; decide) S8x512 _ rfl rfl 520 rfl (ValueIdx.ix2 ⟨a.val - 520, by omega⟩ d) ?_ ?_)
      ((hn _ d).trans (congrArg (f · d) (by show 520 + (a.val - 520) = a.val; omega)))
    · rintro ⟨b, hb⟩ hne
      match b, hb with
      | 0, _ => exact absurd rfl hne
      | 1, _ => rfl
    · show 520 + (a.val - 520) = a.val; omega

theorem upper_at (x : FVec Ideal S528x512 .f32) (r : Fin 512) (d : Fin 512) :
    upper x (ValueIdx.ix2 r d) = x (ValueIdx.ix2 ⟨r.val, by omega⟩ d) := by
  unfold upper
  pointwise []
  rfl

theorem mean_at (n : FVec Ideal S512x1 .f32) (v win : FVec Ideal S512x512 .f32) (r d : Fin 512) :
    mean n v win (ValueIdx.ix2 r d) = Ideal.div (win (ValueIdx.ix2 r d)) (n (ValueIdx.ix2 r 0)) - v (ValueIdx.ix2 r d) := by
  pointwise [mean]
  rfl

theorem product_at (x : FVec Ideal S512x512 .bf16) (w : FVec Ideal S1x512x512 .f32) (s : FVec Ideal S1x512 .f32) (r d : Fin 512) :
    k0_pay3 x w s (ValueIdx.ix2 r d) = (∑ k : Fin 512, x (ValueIdx.ix2 r k) * w (ValueIdx.ix3 0 k d)) * s (ValueIdx.ix2 0 d) := by
  pointwise [k0_pay3]
  rfl

/-- The number of a tile's row. -/
theorem row_at (i : grid0.Coords) (r : Fin 512) : k0_pay1 i (ValueIdx.ix2 r 0) = BitVec.ofNat 32 ((i 0).val * 512 + r.val) := by
  show IntOp.addi (BitVec.ofNat 32 (0 * 512 + r.val)) (IntOp.muli (BitVec.ofNat 32 (i 0).val) (BitVec.ofNat 32 512)) = _
  rw [WordCmp.muli_ofNat, WordCmp.addi_ofNat, Nat.zero_mul, Nat.zero_add, Nat.add_comm]

/-- A group's result. -/
theorem group_at (X : Fin 8192 → Fin 12288 → EReal) (W : Fin 4 → Fin 512 → Fin 512 → EReal) (S : Fin 2048 → EReal) (g : Fin 4) (i : grid0.Coords)
    (v : FVec Ideal S512x512 .f32) (x : FVec Ideal S528x512 .f32) (w : FVec Ideal S1x512x512 .f32) (s : FVec Ideal S1x512 .f32)
    (a : Fin 8192) (r d : Fin 512) (ha : a.val = (i 0).val * 512 + r.val)
    (hx : ∀ k : Fin 512, x (ValueIdx.ix2 ⟨r.val, by omega⟩ k)
      = ∑ j ∈ Finset.range (2 ^ g.val + 2 ^ g.val), cell X (512 * g.val + k.val) (a.val + 8 - 2 ^ g.val + j))
    (hv : ∀ k : Fin 512, v (ValueIdx.ix2 r k) = X a ⟨(512 * g.val + k.val) % 12288, Nat.mod_lt _ (by decide)⟩)
    (hw : ∀ k : Fin 512, w (ValueIdx.ix3 0 k d) = W g k d) (hs : s (ValueIdx.ix2 0 d) = S ⟨512 * g.val + d.val, by omega⟩) :
    group (BitVec.ofNat 32 (2 ^ g.val)) i v x w s (ValueIdx.ix2 r d) = grouped X W S g a d := by
  unfold group grouped
  rw [product_at, hs]
  refine congrArg (fun y : EReal => y * _) (Fintype.sum_congr _ _ fun k => ?_)
  rw [hw k, mean_at, upper_at, hx k, hv k]
  refine congrArg (fun y : EReal => y * _) ?_
  unfold mixed
  refine congrArg (fun y : EReal => Ideal.div _ y - _) ?_
  show FloatOps.sitofp (F := Ideal) .f32 (counted (BitVec.ofNat 32 (2 ^ g.val)) (k0_pay1 i (ValueIdx.ix2 r 0))) = _
  rw [row_at, ← ha]

/-- A group's sums, from its tile between its edges. -/
def sums (g : Fin 4) (x : FVec Ideal S528x512 .f32) : FVec Ideal S528x512 .f32 :=
  match g with
  | 0 => shift 521#32 (twice 527#32 x)
  | 1 => shift 522#32 (twice 526#32 (twice 527#32 x))
  | 2 => shift 524#32 (twice 524#32 (twice 526#32 (twice 527#32 x)))
  | 3 => twice 520#32 (twice 524#32 (twice 526#32 (twice 527#32 x)))

theorem sums_at (g : Fin 4) {f x} (hx : Holds 1 f x) (r d : Fin 512) :
    sums g x (ValueIdx.ix2 ⟨r.val, by omega⟩ d) = ∑ j ∈ Finset.range (2 ^ g.val + 2 ^ g.val), f (r.val + (8 - 2 ^ g.val) + j) d := by
  have hr := r.isLt
  have h2 := holds_twice 1 (by decide) (by decide) hx
  have h4 := holds_twice 2 (by decide) (by decide) h2
  have h8 := holds_twice 4 (by decide) (by decide) h4
  have h16 := holds_twice 8 (by decide) (by decide) h8
  match g with
  | 0 => exact (shift_at 7 (by decide) _ ⟨r.val, by omega⟩ d (by show r.val + 7 < 528; omega)).trans (h2 _ d (by show r.val + 7 + 2 ≤ 528; omega))
  | 1 => exact (shift_at 6 (by decide) _ ⟨r.val, by omega⟩ d (by show r.val + 6 < 528; omega)).trans (h4 _ d (by show r.val + 6 + 4 ≤ 528; omega))
  | 2 => exact (shift_at 4 (by decide) _ ⟨r.val, by omega⟩ d (by show r.val + 4 < 528; omega)).trans (h8 _ d (by show r.val + 4 + 8 ≤ 528; omega))
  | 3 => exact h16 ⟨r.val, by omega⟩ d (by show r.val + 16 ≤ 528; omega)

/-! ## The columns of one group -/

theorem inbCols (g : Fin 4) : ∀ a, (![0, 512 * g.val] : Fin 2 → Nat) a + S512x512.size a ≤ S512x2048.size a := by revert g; decide
theorem inbEnds (g : Fin 4) : ∀ a, (![0, 512 * g.val] : Fin 2 → Nat) a + S8x512.size a ≤ S8x2048.size a := by revert g; decide
theorem inbSlab (g : Fin 4) : ∀ a, (![g.val, 0, 0] : Fin 3 → Nat) a + S1x512x512.size a ≤ S4x512x512.size a := by revert g; decide
theorem inbScale (g : Fin 4) : ∀ a, (![0, 512 * g.val] : Fin 2 → Nat) a + S1x512.size a ≤ S1x2048.size a := by revert g; decide

/-- A group's columns of a tile, of the rows beside it, and of the scale, and its weights. -/
def cols (g : Fin 4) (X : FVec Ideal S512x2048 .f32) : FVec Ideal S512x512 .f32 :=
  fun x => X ((Rect.unit (s := S512x2048) ![0, 512 * g.val] S512x512.size (inbCols g)).idx x)
@[inherit_doc cols]
def ends (g : Fin 4) (X : FVec Ideal S8x2048 .f32) : FVec Ideal S8x512 .f32 :=
  fun x => X ((Rect.unit (s := S8x2048) ![0, 512 * g.val] S8x512.size (inbEnds g)).idx x)
@[inherit_doc cols]
def slab (g : Fin 4) (X : FVec Ideal S4x512x512 .f32) : FVec Ideal S1x512x512 .f32 :=
  fun x => X ((Rect.unit (s := S4x512x512) ![g.val, 0, 0] S1x512x512.size (inbSlab g)).idx x)
@[inherit_doc cols]
def scale (g : Fin 4) (X : FVec Ideal S1x2048 .f32) : FVec Ideal S1x512 .f32 :=
  fun x => X ((Rect.unit (s := S1x2048) ![0, 512 * g.val] S1x512.size (inbScale g)).idx x)

theorem cols_at (g : Fin 4) (A : FVec Ideal S512x2048 .f32) (r d : Fin 512) :
    cols g A (ValueIdx.ix2 r d) = A (ValueIdx.ix2 r ⟨512 * g.val + d.val, by omega⟩) := by
  refine congrArg A (funext fun a => ?_)
  match a with
  | ⟨0, _⟩ => exact Fin.ext ((Rect.idx_unit_val ..).trans (Nat.zero_add _))
  | ⟨1, _⟩ => exact Fin.ext (Rect.idx_unit_val ..)

theorem ends_at (g : Fin 4) (A : FVec Ideal S8x2048 .f32) (r : Fin 8) (d : Fin 512) :
    ends g A (ValueIdx.ix2 r d) = A (ValueIdx.ix2 r ⟨512 * g.val + d.val, by omega⟩) := by
  refine congrArg A (funext fun a => ?_)
  match a with
  | ⟨0, _⟩ => exact Fin.ext ((Rect.idx_unit_val ..).trans (Nat.zero_add _))
  | ⟨1, _⟩ => exact Fin.ext (Rect.idx_unit_val ..)

theorem slab_at (g : Fin 4) (A : FVec Ideal S4x512x512 .f32) (k d : Fin 512) :
    slab g A (ValueIdx.ix3 0 k d) = A (ValueIdx.ix3 g k d) := by
  refine congrArg A (funext fun a => ?_)
  match a with
  | ⟨0, _⟩ => exact Fin.ext (Rect.idx_unit_val ..)
  | ⟨1, _⟩ => exact Fin.ext ((Rect.idx_unit_val ..).trans (Nat.zero_add _))
  | ⟨2, _⟩ => exact Fin.ext ((Rect.idx_unit_val ..).trans (Nat.zero_add _))

theorem scale_at (g : Fin 4) (A : FVec Ideal S1x2048 .f32) (d : Fin 512) :
    scale g A (ValueIdx.ix2 0 d) = A (ValueIdx.ix2 0 ⟨512 * g.val + d.val, by omega⟩) := by
  refine congrArg A (funext fun a => ?_)
  match a with
  | ⟨0, _⟩ => exact Fin.ext ((Rect.idx_unit_val ..).trans (Nat.zero_add _))
  | ⟨1, _⟩ => exact Fin.ext (Rect.idx_unit_val ..)

/-- A grid point's blocks. -/
structure Blocks where
  tile : FVec Ideal S512x2048 .f32
  prev : FVec Ideal S8x2048 .f32
  next : FVec Ideal S8x2048 .f32
  weights : FVec Ideal S4x512x512 .f32
  scales : FVec Ideal S1x2048 .f32

/-- A group's part of the tile's result. -/
def part (i : grid0.Coords) (b : Blocks) (g : Fin 4) : FVec Ideal S512x512 .bf16 :=
  group (BitVec.ofNat 32 (2 ^ g.val)) i (cols g b.tile) (sums g (around i (cols g b.tile) (ends g b.prev) (ends g b.next)))
    (slab g b.weights) (scale g b.scales)

end Cert.Kernel10Ideal.Final

end
-- ==== Proof.PoolRef.lean ====
/- The pooling mixer's reference, read at an entry. -/
module

public import proofs.«01_k».proof.Proof.Gen.Reference10Ideal.Read
public import proofs.«01_k».proof.Proof.PoolSpec
public import Idealize.ShloMosaic.Lib.Pipeline.ValueKit

@[expose] public section

set_option maxRecDepth 16384

noncomputable section

open Idealize.ShloMosaic Idealize.ShloMosaic.TcCoe
open Cert.Pool (cell mixed grouped pooled counted clipped)

namespace Cert.Reference10Ideal.Final

open Cert.Reference10Ideal Cert.Reference10Ideal.Gen Cert.Reference10Ideal.Read

/-- The mean less the row. -/
def mean (n : IVec S8192 32) (u win : FVec Ideal S1x8192x512 .f32) : FVec Ideal S1x8192x512 .f32 :=
  subf (Host.divf win (broadcastInDim S1x8192x512 ![0, 1, 2] bcast_S1x8192x1_S1x8192x512_0_1_2
    (broadcastInDim S1x8192x1 ![1] bcast_S8192_S1x8192x1_1 (sitofp .f32 n)))) u

theorem mean_at (n : IVec S8192 32) (u win : FVec Ideal S1x8192x512 .f32) (a : Fin 8192) (d : Fin 512) :
    mean n u win (ValueIdx.ix3 0 a d)
      = Ideal.div (win (ValueIdx.ix3 0 a d)) (FloatOps.sitofp (F := Ideal) .f32 (n (ValueIdx.ix1 a))) - u (ValueIdx.ix3 0 a d) := by
  pointwise [mean]
  rfl

theorem product_at (x : FVec Ideal S1x8192x512 .f32) (w : FVec Ideal S512x512 .f32) (a : Fin 8192) (d : Fin 512) :
    Host.dotGeneral dot_S1x8192x512_S512x512_S1x8192x512_2_0_01_1_n_n none x w (ValueIdx.ix3 0 a d)
      = ∑ k : Fin 512, x (ValueIdx.ix3 0 a k) * w (ValueIdx.ix2 k d) := by
  pointwise []
  rfl

/-- A group before its scale. -/
theorem group_at (X : Fin 8192 → Fin 12288 → EReal) (W : Fin 4 → Fin 512 → Fin 512 → EReal) (g : Fin 4) (n : IVec S8192 32)
    (u win : FVec Ideal S1x8192x512 .f32) (w : FVec Ideal S512x512 .f32)
    (hu : ∀ (b : Fin 8192) (k : Fin 512), u (ValueIdx.ix3 0 b k) = X b ⟨512 * g.val + k.val, by omega⟩)
    (hwin : ∀ (b : Fin 8192) (k : Fin 512), win (ValueIdx.ix3 0 b k)
      = ∑ j ∈ Finset.range (2 ^ g.val + 2 ^ g.val), cell X (512 * g.val + k.val) (b.val + 8 - 2 ^ g.val + j))
    (hn : ∀ b : Fin 8192, n (ValueIdx.ix1 b) = counted (BitVec.ofNat 32 (2 ^ g.val)) (BitVec.ofNat 32 b.val))
    (hw : ∀ k d : Fin 512, w (ValueIdx.ix2 k d) = W g k d) (a : Fin 8192) (d : Fin 512) :
    Host.dotGeneral dot_S1x8192x512_S512x512_S1x8192x512_2_0_01_1_n_n none (mean n u win) w (ValueIdx.ix3 0 a d)
      = ∑ k : Fin 512, mixed X (2 ^ g.val) a (512 * g.val + k.val) * W g k d := by
  rw [product_at]
  refine Fintype.sum_congr _ _ fun k => ?_
  rw [hw, mean_at, hwin, hn, hu]
  unfold mixed
  refine congrArg (fun y => (_ - X a y) * _) (Fin.ext ?_)
  show 512 * g.val + k.val = (512 * g.val + k.val) % 12288
  omega

/-- The groups side by side. -/
theorem joined_at (p : Fin 4 → FVec Ideal S1x8192x512 .f32) (H) (g : Fin 4) (a : Fin 8192) (d : Fin 512) (e : Fin 2048)
    (he : e.val = 512 * g.val + d.val) :
    concatenate S1x8192x2048 2 [⟨S1x8192x512, p 0⟩, ⟨S1x8192x512, p 1⟩, ⟨S1x8192x512, p 2⟩, ⟨S1x8192x512, p 3⟩] H (ValueIdx.ix3 0 a e)
      = p g (ValueIdx.ix3 0 a d) := by
  refine concatenate_apply_piece (t := S1x8192x2048) 2 [⟨S1x8192x512, p 0⟩, ⟨S1x8192x512, p 1⟩, ⟨S1x8192x512, p 2⟩, ⟨S1x8192x512, p 3⟩] H
    (ValueIdx.ix3 0 a e) g.val (by show _ < 4; exact g.isLt) S1x8192x512 (p g) ?_ rfl (512 * g.val) ?_ (ValueIdx.ix3 0 a d) ?_ he.symm
  · match g with
    | 0 => rfl
    | 1 => rfl
    | 2 => rfl
    | 3 => rfl
  · match g with
    | 0 => rfl
    | 1 => rfl
    | 2 => rfl
    | 3 => rfl
  · rintro ⟨b, hb⟩ hne
    match b, hb with
    | 0, _ => rfl
    | 1, _ => rfl
    | 2, _ => exact absurd rfl hne

variable (x0 : FVec Ideal S8192x12288 .f32) (x1 : FVec Ideal S4x512x512 .f32) (x2 : FVec Ideal S2048 .f32)

/-- The arguments by coordinates. -/
def rows (a : Fin 8192) (b : Fin 12288) : EReal := x0 (ValueIdx.ix2 a b)
@[inherit_doc rows]
def weights (g : Fin 4) (k d : Fin 512) : EReal := x1 (ValueIdx.ix3 g k d)
@[inherit_doc rows]
def scales (e : Fin 2048) : EReal := x2 (ValueIdx.ix1 e)

theorem first_at (a : Fin 8192) (d : Fin 512) : val_main_v25 (F := Ideal) x0 x1 (ValueIdx.ix3 0 a d)
    = ∑ k : Fin 512, mixed (rows x0) (2 ^ 0) a (512 * 0 + k.val) * weights x1 0 k d := by
  have hu : ∀ (b : Fin 8192) (k : Fin 512), val_main_v11 (F := Ideal) x0 (ValueIdx.ix3 0 b k) = rows x0 b ⟨512 * 0 + k.val, by omega⟩ :=
    fun b k => by unfold rows; pointwise [val_main_v11, val_main_v1, val_main_v0]; rfl
  have hz : ∀ i, val_main_v12 (F := Ideal) i = 0 := fun i => by pointwise [val_main_v12, val_main_cst]
  have hwin : ∀ (b : Fin 8192) (k : Fin 512), val_main_v13 (F := Ideal) x0 (ValueIdx.ix3 0 b k)
      = ∑ j ∈ Finset.range (1 + 1), cell (rows x0) (512 * 0 + k.val) (b.val + 8 - 1 + j) := fun b k => by
    unfold val_main_v13
    exact Cert.Pool.around 1 (by decide) _ _ _ _ (hz _) (rows x0) b k _ (by omega) fun b => hu b k
  refine group_at (rows x0) (weights x1) 0 (val_main_v16 (F := Ideal)) (val_main_v21 (F := Ideal) x0) (val_main_v13 (F := Ideal) x0)
    (val_main_v24 (F := Ideal) x1) hu (fun b k => ?_) (fun b => clipped 0 b) (fun k d => ?_) a d
  · exact hwin b k
  · unfold weights; pointwise [val_main_v24, val_main_v23]; rfl

theorem second_at (a : Fin 8192) (d : Fin 512) : val_main_v48 (F := Ideal) x0 x1 (ValueIdx.ix3 0 a d)
    = ∑ k : Fin 512, mixed (rows x0) (2 ^ 1) a (512 * 1 + k.val) * weights x1 1 k d := by
  have hu : ∀ (b : Fin 8192) (k : Fin 512), val_main_v34 (F := Ideal) x0 (ValueIdx.ix3 0 b k) = rows x0 b ⟨512 * 1 + k.val, by omega⟩ :=
    fun b k => by unfold rows; pointwise [val_main_v34, val_main_v1, val_main_v0]; rfl
  have hz : ∀ i, val_main_v35 (F := Ideal) i = 0 := fun i => by pointwise [val_main_v35, val_main_cst_14]
  have hwin : ∀ (b : Fin 8192) (k : Fin 512), val_main_v36 (F := Ideal) x0 (ValueIdx.ix3 0 b k)
      = ∑ j ∈ Finset.range (2 + 2), cell (rows x0) (512 * 1 + k.val) (b.val + 8 - 2 + j) := fun b k => by
    unfold val_main_v36
    exact Cert.Pool.around 2 (by decide) _ _ _ _ (hz _) (rows x0) b k _ (by omega) fun b => hu b k
  refine group_at (rows x0) (weights x1) 1 (val_main_v39 (F := Ideal)) (val_main_v44 (F := Ideal) x0) (val_main_v36 (F := Ideal) x0)
    (val_main_v47 (F := Ideal) x1) hu (fun b k => ?_) (fun b => clipped 1 b) (fun k d => ?_) a d
  · exact hwin b k
  · unfold weights; pointwise [val_main_v47, val_main_v46]; rfl

theorem third_at (a : Fin 8192) (d : Fin 512) : val_main_v71 (F := Ideal) x0 x1 (ValueIdx.ix3 0 a d)
    = ∑ k : Fin 512, mixed (rows x0) (2 ^ 2) a (512 * 2 + k.val) * weights x1 2 k d := by
  have hu : ∀ (b : Fin 8192) (k : Fin 512), val_main_v57 (F := Ideal) x0 (ValueIdx.ix3 0 b k) = rows x0 b ⟨512 * 2 + k.val, by omega⟩ :=
    fun b k => by unfold rows; pointwise [val_main_v57, val_main_v1, val_main_v0]; rfl
  have hz : ∀ i, val_main_v58 (F := Ideal) i = 0 := fun i => by pointwise [val_main_v58, val_main_cst_23]
  have hwin : ∀ (b : Fin 8192) (k : Fin 512), val_main_v59 (F := Ideal) x0 (ValueIdx.ix3 0 b k)
      = ∑ j ∈ Finset.range (4 + 4), cell (rows x0) (512 * 2 + k.val) (b.val + 8 - 4 + j) := fun b k => by
    unfold val_main_v59
    exact Cert.Pool.around 4 (by decide) _ _ _ _ (hz _) (rows x0) b k _ (by omega) fun b => hu b k
  refine group_at (rows x0) (weights x1) 2 (val_main_v62 (F := Ideal)) (val_main_v67 (F := Ideal) x0) (val_main_v59 (F := Ideal) x0)
    (val_main_v70 (F := Ideal) x1) hu (fun b k => ?_) (fun b => clipped 2 b) (fun k d => ?_) a d
  · exact hwin b k
  · unfold weights; pointwise [val_main_v70, val_main_v69]; rfl

theorem fourth_at (a : Fin 8192) (d : Fin 512) : val_main_v94 (F := Ideal) x0 x1 (ValueIdx.ix3 0 a d)
    = ∑ k : Fin 512, mixed (rows x0) (2 ^ 3) a (512 * 3 + k.val) * weights x1 3 k d := by
  have hu : ∀ (b : Fin 8192) (k : Fin 512), val_main_v80 (F := Ideal) x0 (ValueIdx.ix3 0 b k) = rows x0 b ⟨512 * 3 + k.val, by omega⟩ :=
    fun b k => by unfold rows; pointwise [val_main_v80, val_main_v1, val_main_v0]; rfl
  have hz : ∀ i, val_main_v81 (F := Ideal) i = 0 := fun i => by pointwise [val_main_v81, val_main_cst_32]
  have hwin : ∀ (b : Fin 8192) (k : Fin 512), val_main_v82 (F := Ideal) x0 (ValueIdx.ix3 0 b k)
      = ∑ j ∈ Finset.range (8 + 8), cell (rows x0) (512 * 3 + k.val) (b.val + 8 - 8 + j) := fun b k => by
    unfold val_main_v82
    exact Cert.Pool.around 8 (by decide) _ _ _ _ (hz _) (rows x0) b k _ (by omega) fun b => hu b k
  refine group_at (rows x0) (weights x1) 3 (val_main_v85 (F := Ideal)) (val_main_v90 (F := Ideal) x0) (val_main_v82 (F := Ideal) x0)
    (val_main_v93 (F := Ideal) x1) hu (fun b k => ?_) (fun b => clipped 3 b) (fun k d => ?_) a d
  · exact hwin b k
  · unfold weights; pointwise [val_main_v93, val_main_v92]; rfl

/-- The reference's value at an entry. -/
theorem read_at (a : Fin 8192) (e : Fin 2048) :
    val_main_v100 (F := Ideal) x0 x1 x2 (ValueIdx.ix2 a e) = pooled (rows x0) (weights x1) (scales x2) a e := by
  have h : val_main_v100 (F := Ideal) x0 x1 x2 (ValueIdx.ix2 a e) = val_main_v95 (F := Ideal) x0 x1 (ValueIdx.ix3 0 a e) * scales x2 e := by
    unfold scales
    pointwise [val_main_v100, val_main_v99, val_main_v98, val_main_v97, val_main_v96]
    rfl
  rw [h]
  obtain ⟨g, d, he⟩ : ∃ (g : Fin 4) (d : Fin 512), e.val = 512 * g.val + d.val :=
    ⟨⟨e.val / 512, by omega⟩, ⟨e.val % 512, by omega⟩, by show e.val = 512 * (e.val / 512) + e.val % 512; omega⟩
  rw [Cert.Pool.pooled_at _ _ _ a e g d he]
  unfold grouped
  refine congrArg₂ (fun y z : EReal => y * z) ?_ (congrArg (scales x2) (Fin.ext he))
  refine (joined_at ![val_main_v25 (F := Ideal) x0 x1, val_main_v48 (F := Ideal) x0 x1, val_main_v71 (F := Ideal) x0 x1,
    val_main_v94 (F := Ideal) x0 x1] _ g a d e he).trans ?_
  match g with
  | 0 => exact first_at x0 x1 a d
  | 1 => exact second_at x0 x1 a d
  | 2 => exact third_at x0 x1 a d
  | 3 => exact fourth_at x0 x1 a d

end Cert.Reference10Ideal.Final

end
-- ==== Proof.Pool.lean ====
/- The pooling mixer: a grid point takes 512 rows, a group of 512 columns at a time, and stores the reference's values. -/
module

public import proofs.«01_k».proof.Proof.PoolTile
public import proofs.«01_k».proof.Proof.PoolRef

@[expose] public section

set_option maxRecDepth 16384

noncomputable section

open Idealize.ShloMosaic Idealize.ShloMosaic.TcCoe Idealize.SL.Sem
open Idealize.ShloMosaic.Pipeline (Dat)
open Cert.Pool (cell cell_row cell_none mixed grouped pooled pooled_at)

namespace Cert.Kernel10Ideal.Final

open Cert.Kernel10Ideal Cert.Kernel10Ideal.Gen

variable (m : (ℓ : Loc nD τ sig) → Buf (Elt Ideal) ℓ)

/-- Where each window's block lies at a grid point, and the point's coordinate. -/
theorem idx : ∀ t : Fin cfg0.N, win0_0.index t = ![t.val, 0] ∧ win0_1.index t = ![t.val * 64 - 1, 0]
    ∧ win0_2.index t = ![min ((t.val + 1) * 64) 1023, 0] ∧ win0_3.index t = ![0, 0, 0] ∧ win0_4.index t = ![0, 0]
    ∧ win0_5.index t = ![t.val, 0] :=
  (by decide +kernel : ∀ t : Fin grid0.N, _)

theorem coord : ∀ t : Fin cfg0.N, (grid0.coords t 0).val = t.val :=
  (by decide +kernel : ∀ t : Fin grid0.N, _)

/-- The launch's arguments by coordinates. -/
def rowsX (c : Dev nD) (a : Fin 8192) (b : Fin 12288) : EReal := m ((c : Thread nD τ).loc main_arg0) (ValueIdx.ix2 a b)
@[inherit_doc rowsX]
def weightsOf (c : Dev nD) (g : Fin 4) (k d : Fin 512) : EReal := m ((c : Thread nD τ).loc main_arg1) (ValueIdx.ix3 g k d)
@[inherit_doc rowsX]
def scalesOf (c : Dev nD) (e : Fin 2048) : EReal := m ((c : Thread nD τ).loc main_arg2) (ValueIdx.ix1 e)

theorem u_at (c : Dev nD) (t : Fin cfg0.N) (r : Fin 512) (e : Fin 2048) (a : Fin 8192) (b : Fin 12288) (ha : a.val = t.val * 512 + r.val)
    (hb : b.val = e.val) : iblk m c 0 t (ValueIdx.ix2 r e) = rowsX m c a b := by
  unfold rowsX
  blk_point [iblk, V, idx t]
  · exact (by omega : t.val * 512 + r.val = a.val)
  · exact hb.symm

theorem p_at (c : Dev nD) (t : Fin cfg0.N) (r : Fin 8) (e : Fin 2048) (a : Fin 8192) (b : Fin 12288) (ht : 0 < t.val)
    (ha : a.val + 8 = t.val * 512 + r.val) (hb : b.val = e.val) : iblk m c 1 t (ValueIdx.ix2 r e) = rowsX m c a b := by
  unfold rowsX
  blk_point [iblk, V, idx t]
  · exact (by omega : (t.val * 64 - 1) * 8 + r.val = a.val)
  · exact hb.symm

theorem n_at (c : Dev nD) (t : Fin cfg0.N) (r : Fin 8) (e : Fin 2048) (a : Fin 8192) (b : Fin 12288) (ht : t.val < 15)
    (ha : a.val = t.val * 512 + 512 + r.val) (hb : b.val = e.val) : iblk m c 2 t (ValueIdx.ix2 r e) = rowsX m c a b := by
  unfold rowsX
  blk_point [iblk, V, idx t]
  · exact (by omega : min ((t.val + 1) * 64) 1023 * 8 + r.val = a.val)
  · exact hb.symm

theorem w_at (c : Dev nD) (t : Fin cfg0.N) (g : Fin 4) (k d : Fin 512) : iblk m c 3 t (ValueIdx.ix3 g k d) = weightsOf m c g k d := by
  unfold weightsOf
  blk_point [iblk, V, idx t]

theorem s_at (c : Dev nD) (t : Fin cfg0.N) (e : Fin 2048) : iblk m c 4 t (ValueIdx.ix2 0 e) = scalesOf m c e := by
  unfold scalesOf
  blk_point [iblk, V, idx t]

/-- A grid point's blocks as launched. -/
def blocks (c : Dev nD) (t : Fin cfg0.N) : Blocks where
  tile := iblk m c 0 t
  prev := iblk m c 1 t
  next := iblk m c 2 t
  weights := iblk m c 3 t
  scales := iblk m c 4 t

/-- A grid point's rows between their edges are the array's, with zeros beyond its ends. -/
theorem around_at (c : Dev nD) (t : Fin cfg0.N) (g : Fin 4) :
    Holds 1 (fun n d => cell (rowsX m c) (512 * g.val + d.val) (t.val * 512 + n))
      (around (grid0.coords t) (cols g (blocks m c t).tile) (ends g (blocks m c t).prev) (ends g (blocks m c t).next)) := by
  have hN := t.isLt.trans_eq (show cfg0.N = 16 from rfl)
  have hc := coord t
  refine around_holds _ _ _ _ _ (fun r d => ?_) (fun r d => ?_) fun r d => ?_
  · refine (cols_at ..).trans ((u_at m c t _ _ ⟨t.val * 512 + r.val, by omega⟩ ⟨512 * g.val + d.val, by omega⟩ rfl rfl).trans ?_)
    exact (cell_row _ _ _ _ _ (by show t.val * 512 + r.val + 8 = _; omega) rfl).symm
  · by_cases h : 0 < t.val
    · rw [show edge (hasPrev (grid0.coords t)) (ends g (blocks m c t).prev) = ends g (blocks m c t).prev by
        unfold edge; rw [hasPrev_pos _ (by omega)]; rfl]
      refine (ends_at ..).trans ((p_at m c t _ _ ⟨t.val * 512 + r.val - 8, by omega⟩ ⟨512 * g.val + d.val, by omega⟩ h
        (by show t.val * 512 + r.val - 8 + 8 = _; omega) rfl).trans ?_)
      exact (cell_row _ _ _ _ _ (by show t.val * 512 + r.val - 8 + 8 = _; omega) rfl).symm
    · rw [edge_none _ (hasPrev_zero _ (by omega))]
      exact (cell_none _ _ _ (by omega)).symm
  · by_cases h : t.val < 15
    · rw [show edge (hasNext (grid0.coords t)) (ends g (blocks m c t).next) = ends g (blocks m c t).next by
        unfold edge; rw [hasNext_lt _ (by omega)]; rfl]
      refine (ends_at ..).trans ((n_at m c t _ _ ⟨t.val * 512 + 512 + r.val, by omega⟩ ⟨512 * g.val + d.val, by omega⟩ h rfl rfl).trans ?_)
      exact (cell_row _ _ _ _ _ (by show t.val * 512 + 512 + r.val + 8 = _; omega) rfl).symm
    · rw [edge_none _ (hasNext_last _ (by omega))]
      exact (cell_none _ _ _ (by omega)).symm

/-- A group's part of a grid point's result. -/
theorem part_at (c : Dev nD) (t : Fin cfg0.N) (g : Fin 4) (r d : Fin 512) (a : Fin 8192) (ha : a.val = t.val * 512 + r.val) :
    part (grid0.coords t) (blocks m c t) g (ValueIdx.ix2 r d) = grouped (rowsX m c) (weightsOf m c) (scalesOf m c) g a d := by
  have hg : 2 ^ g.val ≤ 8 := by revert g; decide
  refine group_at _ _ _ g _ _ _ _ _ a r d (by rw [coord t]; exact ha) (fun k => ?_) (fun k => ?_) (fun k => ?_) ?_
  · refine (sums_at g (around_at m c t g) r k).trans (Finset.sum_congr rfl fun j _ => ?_)
    show cell _ _ (t.val * 512 + (r.val + (8 - 2 ^ g.val) + j)) = cell _ _ (a.val + 8 - 2 ^ g.val + j)
    rw [show t.val * 512 + (r.val + (8 - 2 ^ g.val) + j) = a.val + 8 - 2 ^ g.val + j by omega]
  · exact (cols_at ..).trans (u_at m c t _ _ _ _ ha (Nat.mod_eq_of_lt (by omega)))
  · exact (slab_at ..).trans (w_at m c t _ _ _)
  · exact (scale_at ..).trans (s_at m c t _)

/-- A grid point's result. -/
def outTile (i : grid0.Coords) (b : Blocks) : FVec Ideal S512x2048 .bf16 :=
  fun y => part i b ⟨(y 1).val / 512, by have := (y 1).isLt; change _ < 2048 at this; omega⟩
    (ValueIdx.ix2 (y 0) ⟨(y 1).val % 512, Nat.mod_lt _ (by decide)⟩)

theorem outTile_at (i : grid0.Coords) (b : Blocks) (g : Fin 4) (x : S512x512.Idx) (y : S512x2048.Idx) (e0 : (y 0).val = (x 0).val)
    (e1 : (y 1).val = 512 * g.val + (x 1).val) : part i b g x = outTile i b y := by
  have hx : (x 1).val < 512 := (x 1).isLt
  have hg : (⟨(y 1).val / 512, by have := (y 1).isLt; change _ < 2048 at this; omega⟩ : Fin 4) = g := Fin.ext (by show _ / _ = _; omega)
  unfold outTile
  rw [hg]
  refine congrArg _ (funext fun a => ?_)
  match a with
  | ⟨0, _⟩ => exact Fin.ext e0.symm
  | ⟨1, _⟩ => exact Fin.ext (by show (x 1).val = (y 1).val % 512; omega)

/-- What a grid point stores. -/
theorem out_eq (i : grid0.Coords) (b : Blocks) : out0_5 (F := Ideal) i b.tile b.prev b.next b.weights b.scales = outTile i b := by
  frame_out
  funext y
  canon_tiles x h
  · exact (congrFun (fourth_eq i _ _ _ _ _ : _ = part i b 3) x).trans (outTile_at i b 3 x y h0 (by simpa using h1))
  · exact (congrFun (third_eq i _ _ _ _ _ : _ = part i b 2) x).trans (outTile_at i b 2 x y h0 (by simpa using h1))
  · exact (congrFun (second_eq i _ _ _ _ _ : _ = part i b 1) x).trans (outTile_at i b 1 x y h0 (by simpa using h1))
  · exact (congrFun (first_eq i _ _ _ _ _ : _ = part i b 0) x).trans (outTile_at i b 0 x y h0 (by simpa using h1))

/-- The reference's term over the kernel's arguments as launched. -/
abbrev result (c : Dev nD) : FVec Ideal S8192x2048 .bf16 :=
  Cert.Reference10Ideal.Read.val_main_v100 (F := Ideal) (m ((c : Thread nD τ).loc main_arg0)) (m ((c : Thread nD τ).loc main_arg1))
    (m ((c : Thread nD τ).loc main_arg2))

/-- The result array after the run. -/
theorem final (c : Dev nD) : (dats m 0 c).arrAt 5 (cfgs 0).N = result m c := by
  refine (dats m 0 c).arrAt_eq_of_covers 5 _ (by decide +kernel) fun t _ y => ?_
  blk_simp
  rw [after0_5]
  have hN := t.isLt.trans_eq (show cfg0.N = 16 from rfl)
  refine (congrFun (out_eq (grid0.coords t) (blocks m c t)) _).trans ?_
  idx_vars y
  have h : ((View.whole main_v1).slice (win0_5.rect t)).emb (ValueIdx.ix2 y0 y1)
      = ValueIdx.ix2 ⟨t.val * 512 + y0.val, by omega⟩ y1 := by
    blk_point [idx t]
  refine Eq.trans ?_ (congrArg (result m c) h).symm
  refine Eq.trans ?_ (Cert.Reference10Ideal.Final.read_at _ _ _ _ y1).symm
  exact part_at m c t _ y0 _ ⟨t.val * 512 + y0.val, by omega⟩ rfl

end Cert.Kernel10Ideal.Final

end
-- ==== Proof.lean ====
/- The certificate: each program's frame from its run, and each pair's value claim from the module that reads the
   kernel's result array as the reference's term. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Hgrn
public import proofs.«01_k».proof.Proof.HgrnRef
public import proofs.«01_k».proof.Proof.Gen.Kernel2.Frame
public import proofs.«01_k».proof.Proof.Gen.Kernel2Ideal.Frame
public import proofs.«01_k».proof.Proof.Gen.Reference2Ideal.Run
public import proofs.«01_k».proof.Proof.HgrnBwd
public import proofs.«01_k».proof.Proof.HgrnBwdRef
public import proofs.«01_k».proof.Proof.Gen.Kernel3.Frame
public import proofs.«01_k».proof.Proof.Gen.Kernel3Ideal.Frame
public import proofs.«01_k».proof.Proof.Gen.Reference3Ideal.Run
public import proofs.«01_k».proof.Proof.InProj
public import proofs.«01_k».proof.Proof.Gen.Kernel4.Frame
public import proofs.«01_k».proof.Proof.Gen.Kernel4Ideal.Frame
public import proofs.«01_k».proof.Proof.Gen.Reference4Ideal.Run
public import proofs.«01_k».proof.Proof.OutProj
public import proofs.«01_k».proof.Proof.Gen.Kernel5.Frame
public import proofs.«01_k».proof.Proof.Gen.Kernel5Ideal.Frame
public import proofs.«01_k».proof.Proof.Gen.Reference5Ideal.Run
public import proofs.«01_k».proof.Proof.QProj
public import proofs.«01_k».proof.Proof.Gen.Kernel6.Frame
public import proofs.«01_k».proof.Proof.Gen.Kernel6Ideal.Frame
public import proofs.«01_k».proof.Proof.Gen.Reference6Ideal.Run
public import proofs.«01_k».proof.Proof.KvProj
public import proofs.«01_k».proof.Proof.Gen.Kernel7.Frame
public import proofs.«01_k».proof.Proof.Gen.Kernel7Ideal.Frame
public import proofs.«01_k».proof.Proof.Gen.Reference7Ideal.Run
public import proofs.«01_k».proof.Proof.Xattn
public import proofs.«01_k».proof.Proof.Gen.Kernel8.Frame
public import proofs.«01_k».proof.Proof.Gen.Kernel8Ideal.Frame
public import proofs.«01_k».proof.Proof.Gen.Reference8Ideal.Run
public import proofs.«01_k».proof.Proof.OProj
public import proofs.«01_k».proof.Proof.Gen.Kernel9.Frame
public import proofs.«01_k».proof.Proof.Gen.Kernel9Ideal.Frame
public import proofs.«01_k».proof.Proof.Gen.Reference9Ideal.Run
public import proofs.«01_k».proof.Proof.RmsNorm
public import proofs.«01_k».proof.Proof.Gen.Kernel10.Frame
public import proofs.«01_k».proof.Proof.Gen.Kernel10Ideal.Frame
public import proofs.«01_k».proof.Proof.Gen.Reference10Ideal.Run
public import proofs.«01_k».proof.Proof.Pool
public import Idealize.ShloMosaic.Lib.Claim

@[expose] public section

noncomputable section

namespace Cert.Proof

open Idealize.ShloMosaic Idealize.SL.Sem

/-! ## The forward recurrence -/

theorem frameKernel : Cert.quiescent_Kernel := fun m ρ _ => Cert.Kernel.Gen.frame m ρ

theorem frameIdeal : Cert.quiescent_KernelIdeal := fun m ρ _ => Cert.KernelIdeal.Gen.frame m ρ

theorem frameReference : Cert.quiescent_ReferenceIdeal := fun m g _ =>
  (θ_run _ _ _).mono (fun r h => ⟨fun c => (h c).2, sem_eq_zero_of_no_sems rfl _⟩) (Cert.ReferenceIdeal.Value.run m g)

theorem preserves : Cert.preserves_Kernel_KernelIdeal := trivial

theorem algebraic : Cert.algebraic_KernelIdeal_ReferenceIdeal := by
  pair_intro
  · run_from Cert.KernelIdeal.Gen.run_main m g
  · run_from Cert.ReferenceIdeal.Trips.run m' g'
    refine (Cert.ReferenceIdeal.Final.final m' c).trans ?_
    rw [(hagree c).1, (hagree c).2]
    exact (Cert.KernelIdeal.Final.final m c).symm

/-! ## The backward recurrence with the gate -/

theorem frameKernel2 : Cert.quiescent_Kernel2 := fun m ρ _ => Cert.Kernel2.Gen.frame m ρ

theorem frameIdeal2 : Cert.quiescent_Kernel2Ideal := fun m ρ _ => Cert.Kernel2Ideal.Gen.frame m ρ

theorem frameReference2 : Cert.quiescent_Reference2Ideal := fun m g _ =>
  (θ_run _ _ _).mono (fun r h => ⟨fun c => (h c).2, sem_eq_zero_of_no_sems rfl _⟩) (Cert.Reference2Ideal.Value.run m g)

theorem preserves2 : Cert.preserves_Kernel2_Kernel2Ideal := trivial

theorem algebraic2 : Cert.algebraic_Kernel2Ideal_Reference2Ideal := by
  pair_intro
  · run_from Cert.Kernel2Ideal.Gen.run_main m g
  · run_from Cert.Reference2Ideal.Trips.run m' g'
    refine (Cert.Reference2Ideal.Final.final m' c).trans ?_
    rw [(hagree c).1, (hagree c).2.1, (hagree c).2.2.1, (hagree c).2.2.2]
    exact (Cert.Kernel2Ideal.Final.final m c).symm

/-! ## The input projection -/

theorem frameKernel3 : Cert.quiescent_Kernel3 := fun m ρ _ => Cert.Kernel3.Gen.frame m ρ

theorem frameIdeal3 : Cert.quiescent_Kernel3Ideal := fun m ρ _ => Cert.Kernel3Ideal.Gen.frame m ρ

theorem frameReference3 : Cert.quiescent_Reference3Ideal := fun m g _ =>
  (θ_run _ _ _).mono (fun r h => ⟨fun c => (h c).2, sem_eq_zero_of_no_sems rfl _⟩) (Cert.Reference3Ideal.Value.run m g)

theorem preserves3 : Cert.preserves_Kernel3_Kernel3Ideal := trivial

theorem algebraic3 : Cert.algebraic_Kernel3Ideal_Reference3Ideal := by
  pair_intro
  · run_from Cert.Kernel3Ideal.Gen.run_main m g
  · run_from Cert.Reference3Ideal.Value.run m' g'
    exact (Cert.Kernel3Ideal.Final.final m c).symm

/-! ## The output projection of the mixers -/

theorem frameKernel4 : Cert.quiescent_Kernel4 := fun m ρ _ => Cert.Kernel4.Gen.frame m ρ

theorem frameIdeal4 : Cert.quiescent_Kernel4Ideal := fun m ρ _ => Cert.Kernel4Ideal.Gen.frame m ρ

theorem frameReference4 : Cert.quiescent_Reference4Ideal := fun m g _ =>
  (θ_run _ _ _).mono (fun r h => ⟨fun c => (h c).2, sem_eq_zero_of_no_sems rfl _⟩) (Cert.Reference4Ideal.Value.run m g)

theorem preserves4 : Cert.preserves_Kernel4_Kernel4Ideal := trivial

theorem algebraic4 : Cert.algebraic_Kernel4Ideal_Reference4Ideal := by
  pair_intro
  · run_from Cert.Kernel4Ideal.Gen.run_main m g
  · run_from Cert.Reference4Ideal.Value.run m' g'
    exact (Cert.Kernel4Ideal.Final.final m c).symm

/-! ## The query projection -/

theorem frameKernel5 : Cert.quiescent_Kernel5 := fun m ρ _ => Cert.Kernel5.Gen.frame m ρ

theorem frameIdeal5 : Cert.quiescent_Kernel5Ideal := fun m ρ _ => Cert.Kernel5Ideal.Gen.frame m ρ

theorem frameReference5 : Cert.quiescent_Reference5Ideal := fun m g _ =>
  (θ_run _ _ _).mono (fun r h => ⟨fun c => (h c).2, sem_eq_zero_of_no_sems rfl _⟩) (Cert.Reference5Ideal.Value.run m g)

theorem preserves5 : Cert.preserves_Kernel5_Kernel5Ideal := trivial

theorem algebraic5 : Cert.algebraic_Kernel5Ideal_Reference5Ideal := by
  pair_intro
  · run_from Cert.Kernel5Ideal.Gen.run_main m g
  · run_from Cert.Reference5Ideal.Value.run m' g'
    exact (Cert.Kernel5Ideal.Final.final m c).symm

/-! ## The key and value projections -/

theorem frameKernel6 : Cert.quiescent_Kernel6 := fun m ρ _ => Cert.Kernel6.Gen.frame m ρ

theorem frameIdeal6 : Cert.quiescent_Kernel6Ideal := fun m ρ _ => Cert.Kernel6Ideal.Gen.frame m ρ

theorem frameReference6 : Cert.quiescent_Reference6Ideal := fun m g _ =>
  (θ_run _ _ _).mono (fun r h => ⟨fun c => (h c).2, sem_eq_zero_of_no_sems rfl _⟩) (Cert.Reference6Ideal.Value.run m g)

theorem preserves6 : Cert.preserves_Kernel6_Kernel6Ideal := trivial

theorem algebraic6 : Cert.algebraic_Kernel6Ideal_Reference6Ideal := by
  pair_intro
  · run_from Cert.Kernel6Ideal.Gen.run_main m g
  · run_from Cert.Reference6Ideal.Value.run m' g'
    exact (Cert.Kernel6Ideal.Final.final m c).symm

/-! ## The cross-attention -/

theorem frameKernel7 : Cert.quiescent_Kernel7 := fun m ρ _ => Cert.Kernel7.Gen.frame m ρ

theorem frameIdeal7 : Cert.quiescent_Kernel7Ideal := fun m ρ _ => Cert.Kernel7Ideal.Gen.frame m ρ

theorem frameReference7 : Cert.quiescent_Reference7Ideal := fun m g _ =>
  (θ_run _ _ _).mono (fun r h => ⟨fun c => (h c).2, sem_eq_zero_of_no_sems rfl _⟩) (Cert.Reference7Ideal.Value.run m g)

theorem preserves7 : Cert.preserves_Kernel7_Kernel7Ideal := trivial

theorem algebraic7 : Cert.algebraic_Kernel7Ideal_Reference7Ideal := by
  pair_intro
  · run_from Cert.Kernel7Ideal.Gen.run_main m g
  · run_from Cert.Reference7Ideal.Value.run m' g'
    exact (Cert.Kernel7Ideal.Final.final m c).symm

/-! ## The output projection of the cross-attention -/

theorem frameKernel8 : Cert.quiescent_Kernel8 := fun m ρ _ => Cert.Kernel8.Gen.frame m ρ

theorem frameIdeal8 : Cert.quiescent_Kernel8Ideal := fun m ρ _ => Cert.Kernel8Ideal.Gen.frame m ρ

theorem frameReference8 : Cert.quiescent_Reference8Ideal := fun m g _ =>
  (θ_run _ _ _).mono (fun r h => ⟨fun c => (h c).2, sem_eq_zero_of_no_sems rfl _⟩) (Cert.Reference8Ideal.Value.run m g)

theorem preserves8 : Cert.preserves_Kernel8_Kernel8Ideal := trivial

theorem algebraic8 : Cert.algebraic_Kernel8Ideal_Reference8Ideal := by
  pair_intro
  · run_from Cert.Kernel8Ideal.Gen.run_main m g
  · run_from Cert.Reference8Ideal.Value.run m' g'
    exact (Cert.Kernel8Ideal.Final.final m c).symm

/-! ## The norm -/

theorem frameKernel9 : Cert.quiescent_Kernel9 := fun m ρ _ => Cert.Kernel9.Gen.frame m ρ

theorem frameIdeal9 : Cert.quiescent_Kernel9Ideal := fun m ρ _ => Cert.Kernel9Ideal.Gen.frame m ρ

theorem frameReference9 : Cert.quiescent_Reference9Ideal := fun m g _ =>
  (θ_run _ _ _).mono (fun r h => ⟨fun c => (h c).2, sem_eq_zero_of_no_sems rfl _⟩) (Cert.Reference9Ideal.Value.run m g)

theorem preserves9 : Cert.preserves_Kernel9_Kernel9Ideal := trivial

theorem algebraic9 : Cert.algebraic_Kernel9Ideal_Reference9Ideal := by
  pair_intro
  · run_from Cert.Kernel9Ideal.Gen.run_main m g
  · run_from Cert.Reference9Ideal.Value.run m' g'
    exact (Cert.Kernel9Ideal.Final.final m c).symm

/-! ## The pooling mixer -/

theorem frameKernel10 : Cert.quiescent_Kernel10 := fun m ρ _ => Cert.Kernel10.Gen.frame m ρ

theorem frameIdeal10 : Cert.quiescent_Kernel10Ideal := fun m ρ _ => Cert.Kernel10Ideal.Gen.frame m ρ

theorem frameReference10 : Cert.quiescent_Reference10Ideal := fun m g _ =>
  (θ_run _ _ _).mono (fun r h => ⟨fun c => (h c).2, sem_eq_zero_of_no_sems rfl _⟩) (Cert.Reference10Ideal.Value.run m g)

theorem preserves10 : Cert.preserves_Kernel10_Kernel10Ideal := trivial

theorem algebraic10 : Cert.algebraic_Kernel10Ideal_Reference10Ideal := by
  pair_intro
  · run_from Cert.Kernel10Ideal.Gen.run_main m g
  · run_from Cert.Reference10Ideal.Value.run m' g'
    refine (Cert.Reference10Ideal.Read.val_main_v100_eq m' c).trans ?_
    rw [(hagree c).1, (hagree c).2.1, (hagree c).2.2]
    exact (Cert.Kernel10Ideal.Final.final m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  frameKernel, frameIdeal, frameReference, frameKernel2, frameIdeal2, frameReference2, frameKernel3, frameIdeal3, frameReference3, frameKernel4, frameIdeal4, frameReference4, frameKernel5, frameIdeal5, frameReference5, frameKernel6, frameIdeal6, frameReference6, frameKernel7, frameIdeal7, frameReference7, frameKernel8, frameIdeal8, frameReference8, frameKernel9, frameIdeal9, frameReference9, frameKernel10, frameIdeal10, frameReference10,
  preserves, algebraic, preserves2, algebraic2, preserves3, algebraic3, preserves4, algebraic4, preserves5, algebraic5, preserves6, algebraic6, preserves7, algebraic7, preserves8, algebraic8, preserves9, algebraic9, preserves10, algebraic10⟩

end Cert.Proof

end
